-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x32768 : Shape := ⟨3, ![4, 256, 32768]⟩
abbrev S128x256x4 : Shape := ⟨3, ![128, 256, 4]⟩
abbrev S128 : Shape := ⟨1, ![128]⟩
abbrev S64x128x4 : Shape := ⟨3, ![64, 128, 4]⟩
abbrev S64 : Shape := ⟨1, ![64]⟩
abbrev S1024x64 : Shape := ⟨2, ![1024, 64]⟩
abbrev S4x256x128 : Shape := ⟨3, ![4, 256, 128]⟩
abbrev S1024x128 : Shape := ⟨2, ![1024, 128]⟩
abbrev S4x128x64 : Shape := ⟨3, ![4, 128, 64]⟩
abbrev S512x64 : Shape := ⟨2, ![512, 64]⟩
abbrev S1x128 : Shape := ⟨2, ![1, 128]⟩
abbrev S1x64 : Shape := ⟨2, ![1, 64]⟩
abbrev S_ : Shape := ⟨0, ![]⟩
abbrev S1024 : Shape := ⟨1, ![1024]⟩
abbrev S1x1024 : Shape := ⟨2, ![1, 1024]⟩
abbrev S4x64x8192 : Shape := ⟨3, ![4, 64, 8192]⟩
abbrev S1 : Shape := ⟨1, ![1]⟩
abbrev S4x64x8190 : Shape := ⟨3, ![4, 64, 8190]⟩
abbrev S2x256x8320 : Shape := ⟨3, ![2, 256, 8320]⟩
abbrev S8320x128 : Shape := ⟨2, ![8320, 128]⟩
abbrev S4104x128 : Shape := ⟨2, ![4104, 128]⟩
abbrev S2x64x2048 : Shape := ⟨3, ![2, 64, 2048]⟩
abbrev S2 : Shape := ⟨1, ![2]⟩
abbrev S1x256x8192 : Shape := ⟨3, ![1, 256, 8192]⟩
abbrev S256x8192 : Shape := ⟨2, ![256, 8192]⟩
abbrev S1x256x128 : Shape := ⟨3, ![1, 256, 128]⟩
abbrev S256x128 : Shape := ⟨2, ![256, 128]⟩
abbrev S1x256x8320 : Shape := ⟨3, ![1, 256, 8320]⟩
abbrev S256x8320 : Shape := ⟨2, ![256, 8320]⟩
abbrev S8320x256 : Shape := ⟨2, ![8320, 256]⟩
abbrev S4098x128 : Shape := ⟨2, ![4098, 128]⟩
abbrev S128x128 : Shape := ⟨2, ![128, 128]⟩
abbrev S1x64x2048 : Shape := ⟨3, ![1, 64, 2048]⟩
abbrev S64x2048 : Shape := ⟨2, ![64, 2048]⟩
abbrev S512x128 : Shape := ⟨2, ![512, 128]⟩
abbrev S128x64 : Shape := ⟨2, ![128, 64]⟩
abbrev S512 : Shape := ⟨1, ![512]⟩
abbrev S512x1 : Shape := ⟨2, ![512, 1]⟩
abbrev S512x1024 : Shape := ⟨2, ![512, 1024]⟩
abbrev S1x512x64 : Shape := ⟨3, ![1, 512, 64]⟩
abbrev S1x1x1 : Shape := ⟨3, ![1, 1, 1]⟩
abbrev S64x512 : Shape := ⟨2, ![64, 512]⟩
abbrev S1x64x512 : Shape := ⟨3, ![1, 64, 512]⟩
abbrev S1x1x1024 : Shape := ⟨3, ![1, 1, 1024]⟩

abbrev nBuf : Space → Nat
  | .hbm => 24
  | .vmem => 13
  | .smem => 3
  | _ => 0

abbrev bufTy : (tb : Table) → Fin (tcTables nBuf tb) → BufTy
  | .hbm, ⟨0, _⟩ => ⟨S4x256x32768, .f32⟩
  | .hbm, ⟨1, _⟩ => ⟨S128x256x4, .f32⟩
  | .hbm, ⟨2, _⟩ => ⟨S128, .f32⟩
  | .hbm, ⟨3, _⟩ => ⟨S64x128x4, .f32⟩
  | .hbm, ⟨4, _⟩ => ⟨S64, .f32⟩
  | .hbm, ⟨5, _⟩ => ⟨S1024x64, .f32⟩
  | .hbm, ⟨6, _⟩ => ⟨S4x256x128, .f32⟩
  | .hbm, ⟨7, _⟩ => ⟨S1024x128, .f32⟩
  | .hbm, ⟨8, _⟩ => ⟨S4x128x64, .f32⟩
  | .hbm, ⟨9, _⟩ => ⟨S512x64, .f32⟩
  | .hbm, ⟨10, _⟩ => ⟨S1x128, .f32⟩
  | .hbm, ⟨11, _⟩ => ⟨S1x64, .f32⟩
  | .hbm, ⟨12, _⟩ => ⟨S_, .f32⟩
  | .hbm, ⟨13, _⟩ => ⟨S1024x64, .f32⟩
  | .hbm, ⟨14, _⟩ => ⟨S1024x64, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S4x64x8192, .f32⟩
  | .hbm, ⟨19, _⟩ => ⟨S1, .f32⟩
  | .hbm, ⟨20, _⟩ => ⟨S1, .f32⟩
  | .hbm, ⟨21, _⟩ => ⟨S_, .f32⟩
  | .hbm, ⟨22, _⟩ => ⟨S4x64x8190, .f32⟩
  | .hbm, ⟨23, _⟩ => ⟨S_, .f32⟩
  | .local _ .vmem, ⟨0, _⟩ => ⟨S1024x128, .f32⟩
  | .local _ .vmem, ⟨1, _⟩ => ⟨S1x128, .f32⟩
  | .local _ .vmem, ⟨2, _⟩ => ⟨S512x64, .f32⟩
  | .local _ .vmem, ⟨3, _⟩ => ⟨S1x64, .f32⟩
  | .local _ .vmem, ⟨4, _⟩ => ⟨S1024x64, .f32⟩
  | .local _ .vmem, ⟨5, _⟩ => ⟨S1024x64, .f32⟩
  | .local _ .vmem, ⟨6, _⟩ => ⟨S1x1024, .f32⟩
  | .local _ .vmem, ⟨7, _⟩ => ⟨S2x256x8320, .f32⟩
  | .local _ .vmem, ⟨8, _⟩ => ⟨S8320x128, .f32⟩
  | .local _ .vmem, ⟨9, _⟩ => ⟨S8320x128, .f32⟩
  | .local _ .vmem, ⟨10, _⟩ => ⟨S4104x128, .f32⟩
  | .local _ .vmem, ⟨11, _⟩ => ⟨S2x64x2048, .f32⟩
  | .local _ .vmem, ⟨12, _⟩ => ⟨S1x1024, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S4x256x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_cst : Ref sig .tc := ⟨.hbm, 12, rfl⟩
abbrev main_call0_v6 : Ref sig .tc := ⟨.hbm, 13, rfl⟩
abbrev main_call0_v7 : Ref sig .tc := ⟨.hbm, 14, rfl⟩
abbrev main_call0_cst_0 : Ref sig .tc := ⟨.hbm, 15, rfl⟩
abbrev main_call0_v8 : Ref sig .tc := ⟨.hbm, 16, rfl⟩
abbrev main_call0_v9 : Ref sig .tc := ⟨.hbm, 17, rfl⟩
abbrev main_call0_v10_0 : Ref sig .tc := ⟨.hbm, 18, rfl⟩
abbrev main_call0_v10_1 : Ref sig .tc := ⟨.hbm, 19, rfl⟩
abbrev main_call0_v10_2 : Ref sig .tc := ⟨.hbm, 20, rfl⟩
abbrev main_v0_0 : Ref sig .tc := ⟨.hbm, 21, rfl⟩
abbrev main_v0_1 : Ref sig .tc := ⟨.hbm, 22, rfl⟩
abbrev main_v0_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_stg7_0 : Ref sig .tc := ⟨.smem, 0, rfl⟩
abbrev cc0_stg8_0 : Ref sig .tc := ⟨.smem, 1, rfl⟩
abbrev cc0_scratch6 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c0_i32 : BitVec 32 := 0#32
  let v6 : BitVec 1 := Scalar.cmpi .eq v1 c0_i32
  let v7 : BitVec 32 := Scalar.extui v6
  let c0_i32_1 : BitVec 32 := 0#32
  let v8 : BitVec 1 := Scalar.cmpi .ne v7 c0_i32_1
  v8

def k0_off1 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off2 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_242 : BitVec 32 := 0#32
  let c0_i32_243 : BitVec 32 := 0#32
  ![v2.toNat, 0, 0]
def k0_off3 (i : grid0.Coords) : Fin 3 → Nat :=
  let arg0 : BitVec 32 := BitVec.ofNat 32 (i 0).val
  let c0_i32_244 : BitVec 32 := 0#32
  let c8192_i32_237 : BitVec 32 := 8192#32
  let arg1 : BitVec 32 := BitVec.ofNat 32 (i 1).val
  let v459 : BitVec 32 := Scalar.muli c8192_i32_237 arg1
  ![arg0.toNat, 0, v459.toNat]
def k0_off4 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_245 : BitVec 32 := 0#32
  let c8192_i32_246 : BitVec 32 := 8192#32
  ![v2.toNat, 0, 8192]
def k0_off5 (i : grid0.Coords) : Fin 3 → Nat :=
  let arg0 : BitVec 32 := BitVec.ofNat 32 (i 0).val
  let c0_i32_247 : BitVec 32 := 0#32
  let c128_i32_241 : BitVec 32 := 128#32
  let c64_i32_238 : BitVec 32 := 64#32
  let arg1 : BitVec 32 := BitVec.ofNat 32 (i 1).val
  let v460 : BitVec 32 := Scalar.muli c64_i32_238 arg1
  let c64_i32_239 : BitVec 32 := 64#32
  let v461 : BitVec 32 := Scalar.addi v460 c64_i32_239
  let c255_i32_240 : BitVec 32 := 255#32
  let v462 : BitVec 32 := Scalar.minsi v461 c255_i32_240
  let v463 : BitVec 32 := Scalar.muli c128_i32_241 v462
  ![arg0.toNat, 0, v463.toNat]
def k0_cond2 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c15_i32 : BitVec 32 := 15#32
  let v9 : BitVec 1 := Scalar.cmpi .slt v1 c15_i32
  let v10 : BitVec 32 := Scalar.extui v9
  let c0_i32_2 : BitVec 32 := 0#32
  let v11 : BitVec 1 := Scalar.cmpi .ne v10 c0_i32_2
  v11

def k0_off6 (i : grid0.Coords) : Fin 1 → Nat :=
  let c1_i32_236 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v460 : BitVec 32 := Scalar.subi c1_i32_236 v2
  ![v460.toNat]
def k0_off7 (i : grid0.Coords) : Fin 3 → Nat :=
  let c1_i32_236 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v460 : BitVec 32 := Scalar.subi c1_i32_236 v2
  let c0_i32_242 : BitVec 32 := 0#32
  let c0_i32_243 : BitVec 32 := 0#32
  ![v460.toNat, 0, 0]
def k0_off8 (i : grid0.Coords) : Fin 3 → Nat :=
  let arg1 : BitVec 32 := BitVec.ofNat 32 (i 1).val
  let c3_i32_232 : BitVec 32 := 3#32
  let v454 : BitVec 1 := Scalar.cmpi .eq arg1 c3_i32_232
  let arg0 : BitVec 32 := BitVec.ofNat 32 (i 0).val
  let c1_i32 : BitVec 32 := 1#32
  let v455 : BitVec 32 := Scalar.addi arg0 c1_i32
  let v456 : BitVec 32 := Scalar.select v454 v455 arg0
  let c0_i32_244 : BitVec 32 := 0#32
  let c8192_i32_237 : BitVec 32 := 8192#32
  let c3_i32_233 : BitVec 32 := 3#32
  let v457 : BitVec 1 := Scalar.cmpi .eq arg1 c3_i32_233
  let c0_i32_235 : BitVec 32 := 0#32
  let c1_i32_234 : BitVec 32 := 1#32
  let v458 : BitVec 32 := Scalar.addi arg1 c1_i32_234
  let v459 : BitVec 32 := Scalar.select v457 c0_i32_235 v458
  let v461 : BitVec 32 := Scalar.muli c8192_i32_237 v459
  ![v456.toNat, 0, v461.toNat]
def k0_off9 (i : grid0.Coords) : Fin 3 → Nat :=
  let c1_i32_236 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v460 : BitVec 32 := Scalar.subi c1_i32_236 v2
  let c0_i32_245 : BitVec 32 := 0#32
  let c8192_i32_246 : BitVec 32 := 8192#32
  ![v460.toNat, 0, 8192]
def k0_off10 (i : grid0.Coords) : Fin 3 → Nat :=
  let arg1 : BitVec 32 := BitVec.ofNat 32 (i 1).val
  let c3_i32_232 : BitVec 32 := 3#32
  let v454 : BitVec 1 := Scalar.cmpi .eq arg1 c3_i32_232
  let arg0 : BitVec 32 := BitVec.ofNat 32 (i 0).val
  let c1_i32 : BitVec 32 := 1#32
  let v455 : BitVec 32 := Scalar.addi arg0 c1_i32
  let v456 : BitVec 32 := Scalar.select v454 v455 arg0
  let c0_i32_247 : BitVec 32 := 0#32
  let c128_i32_241 : BitVec 32 := 128#32
  let c64_i32_238 : BitVec 32 := 64#32
  let c3_i32_233 : BitVec 32 := 3#32
  let v457 : BitVec 1 := Scalar.cmpi .eq arg1 c3_i32_233
  let c0_i32_235 : BitVec 32 := 0#32
  let c1_i32_234 : BitVec 32 := 1#32
  let v458 : BitVec 32 := Scalar.addi arg1 c1_i32_234
  let v459 : BitVec 32 := Scalar.select v457 c0_i32_235 v458
  let v462 : BitVec 32 := Scalar.muli c64_i32_238 v459
  let c64_i32_239 : BitVec 32 := 64#32
  let v463 : BitVec 32 := Scalar.addi v462 c64_i32_239
  let c255_i32_240 : BitVec 32 := 255#32
  let v464 : BitVec 32 := Scalar.minsi v463 c255_i32_240
  let v465 : BitVec 32 := Scalar.muli c128_i32_241 v464
  ![v456.toNat, 0, v465.toNat]
def k0_off11 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off12 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_4 : BitVec 32 := 0#32
  let c0_i32_5 : BitVec 32 := 0#32
  ![v2.toNat, 0, 0]
def k0_off13 (i : grid0.Coords) : Fin 3 → Nat :=
  let arg0 : BitVec 32 := BitVec.ofNat 32 (i 0).val
  let c0_i32_6 : BitVec 32 := 0#32
  let c8192_i32 : BitVec 32 := 8192#32
  let arg1 : BitVec 32 := BitVec.ofNat 32 (i 1).val
  let v12 : BitVec 32 := Scalar.muli c8192_i32 arg1
  ![arg0.toNat, 0, v12.toNat]
def k0_off14 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_7 : BitVec 32 := 0#32
  let c8192_i32_8 : BitVec 32 := 8192#32
  ![v2.toNat, 0, 8192]
def k0_off15 (i : grid0.Coords) : Fin 3 → Nat :=
  let arg0 : BitVec 32 := BitVec.ofNat 32 (i 0).val
  let c0_i32_9 : BitVec 32 := 0#32
  let c128_i32 : BitVec 32 := 128#32
  let c64_i32 : BitVec 32 := 64#32
  let arg1 : BitVec 32 := BitVec.ofNat 32 (i 1).val
  let v13 : BitVec 32 := Scalar.muli c64_i32 arg1
  let c64_i32_3 : BitVec 32 := 64#32
  let v14 : BitVec 32 := Scalar.addi v13 c64_i32_3
  let c255_i32 : BitVec 32 := 255#32
  let v15 : BitVec 32 := Scalar.minsi v14 c255_i32
  let v16 : BitVec 32 := Scalar.muli c128_i32 v15
  ![arg0.toNat, 0, v16.toNat]
def k0_off16 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v29 : Index := Scalar.indexCast v2
  let c0 : Index := 0#32
  let c0_10 : Index := 0#32
  ![v29.toNat, 0, 0]
def k0_cond3 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32_49 : BitVec 32 := 2#32
  let v90 : BitVec 1 := Scalar.cmpi .sge v1 c2_i32_49
  let v91 : BitVec 32 := Scalar.extui v90
  let c0_i32_50 : BitVec 32 := 0#32
  let v92 : BitVec 1 := Scalar.cmpi .ne v91 c0_i32_50
  v92

def k0_off17 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off18 (i : grid0.Coords) : Fin 3 → Nat :=
  let arg0 : BitVec 32 := BitVec.ofNat 32 (i 0).val
  let c0_i32_235 : BitVec 32 := 0#32
  let arg1 : BitVec 32 := BitVec.ofNat 32 (i 1).val
  let c2_i32_232 : BitVec 32 := 2#32
  let v454 : BitVec 32 := Scalar.subi arg1 c2_i32_232
  let c0_i32_233 : BitVec 32 := 0#32
  let v455 : BitVec 32 := Scalar.maxsi v454 c0_i32_233
  let c2048_i32_234 : BitVec 32 := 2048#32
  let v456 : BitVec 32 := Scalar.muli v455 c2048_i32_234
  ![arg0.toNat, 0, v456.toNat]
def k0_off19 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_236 : BitVec 32 := 0#32
  let c0_i32_237 : BitVec 32 := 0#32
  ![v2.toNat, 0, 0]
def k0_off20 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v177 : Index := Scalar.indexCast v2
  let c0_96 : Index := 0#32
  let c0_97 : Index := 0#32
  ![v177.toNat, 0, 0]
def k0_off21 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v265 : Index := Scalar.indexCast v2
  let c0_139 : Index := 0#32
  let c512_140 : Index := 512#32
  ![v265.toNat, 0, 512]
def k0_off22 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v353 : Index := Scalar.indexCast v2
  let c0_183 : Index := 0#32
  let c1024_184 : Index := 1024#32
  ![v353.toNat, 0, 1024]
def k0_off23 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v441 : Index := Scalar.indexCast v2
  let c0_226 : Index := 0#32
  let c1536 : Index := 1536#32
  ![v441.toNat, 0, 1536]
def k0_off24 (i : grid0.Coords) : Fin 3 → Nat :=
  let arg0 : BitVec 32 := BitVec.ofNat 32 (i 0).val
  let c0_i32_227 : BitVec 32 := 0#32
  let arg1 : BitVec 32 := BitVec.ofNat 32 (i 1).val
  let c2048_i32 : BitVec 32 := 2048#32
  let v3 : BitVec 32 := Scalar.muli arg1 c2048_i32
  ![arg0.toNat, 0, v3.toNat]
def k0_off25 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_228 : BitVec 32 := 0#32
  let c0_i32_229 : BitVec 32 := 0#32
  ![v2.toNat, 0, 0]
def k0_cond4 (i : grid0.Coords) : BitVec 1 :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c15_i32_230 : BitVec 32 := 15#32
  let v451 : BitVec 1 := Scalar.cmpi .eq v1 c15_i32_230
  let v452 : BitVec 32 := Scalar.extui v451
  let c0_i32_231 : BitVec 32 := 0#32
  let v453 : BitVec 1 := Scalar.cmpi .ne v452 c0_i32_231
  v453

def k0_off26 (i : grid0.Coords) : Fin 1 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  ![v2.toNat]
def k0_off27 (i : grid0.Coords) : Fin 3 → Nat :=
  let arg0 : BitVec 32 := BitVec.ofNat 32 (i 0).val
  let c0_i32_232 : BitVec 32 := 0#32
  let arg1 : BitVec 32 := BitVec.ofNat 32 (i 1).val
  let c2048_i32 : BitVec 32 := 2048#32
  let v3 : BitVec 32 := Scalar.muli arg1 c2048_i32
  ![arg0.toNat, 0, v3.toNat]
def k0_off28 (i : grid0.Coords) : Fin 3 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let c0_i32_233 : BitVec 32 := 0#32
  let c0_i32_234 : BitVec 32 := 0#32
  ![v2.toNat, 0, 0]
def k0_off29 (i : grid0.Coords) : Fin 1 → Nat :=
  let c1_i32_236 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v462 : BitVec 32 := Scalar.subi c1_i32_236 v2
  ![v462.toNat]
def k0_off30 (i : grid0.Coords) : Fin 3 → Nat :=
  let arg0 : BitVec 32 := BitVec.ofNat 32 (i 0).val
  let c0_i32_237 : BitVec 32 := 0#32
  let arg1 : BitVec 32 := BitVec.ofNat 32 (i 1).val
  let c2048_i32 : BitVec 32 := 2048#32
  let v3 : BitVec 32 := Scalar.muli arg1 c2048_i32
  let c2048_i32_235 : BitVec 32 := 2048#32
  let v461 : BitVec 32 := Scalar.subi v3 c2048_i32_235
  ![arg0.toNat, 0, v461.toNat]
def k0_off31 (i : grid0.Coords) : Fin 3 → Nat :=
  let c1_i32 : BitVec 32 := 1#32
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c2_i32 : BitVec 32 := 2#32
  let v2 : BitVec 32 := Scalar.remsi v1 c2_i32
  let v460 : BitVec 32 := Scalar.subi c1_i32 v2
  let c0_i32_238 : BitVec 32 := 0#32
  let c0_i32_239 : BitVec 32 := 0#32
  ![v460.toNat, 0, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4x256x32768 : Shape := ⟨3, ![4, 256, 32768]⟩
abbrev S128x256x4 : Shape := ⟨3, ![128, 256, 4]⟩
abbrev S128 : Shape := ⟨1, ![128]⟩
abbrev S64x128x4 : Shape := ⟨3, ![64, 128, 4]⟩
abbrev S64 : Shape := ⟨1, ![64]⟩
abbrev S1024x64 : Shape := ⟨2, ![1024, 64]⟩
abbrev S_ : Shape := ⟨0, ![]⟩
abbrev S4x16383x128 : Shape := ⟨3, ![4, 16383, 128]⟩
abbrev S4x256x16383 : Shape := ⟨3, ![4, 256, 16383]⟩
abbrev S128x256x1 : Shape := ⟨3, ![128, 256, 1]⟩
abbrev S128x256 : Shape := ⟨2, ![128, 256]⟩
abbrev S4x128x16383 : Shape := ⟨3, ![4, 128, 16383]⟩
abbrev S1x128x1 : Shape := ⟨3, ![1, 128, 1]⟩
abbrev S4x8190x64 : Shape := ⟨3, ![4, 8190, 64]⟩
abbrev S4x128x8190 : Shape := ⟨3, ![4, 128, 8190]⟩
abbrev S64x128x1 : Shape := ⟨3, ![64, 128, 1]⟩
abbrev S64x128 : Shape := ⟨2, ![64, 128]⟩
abbrev S4x64x8190 : Shape := ⟨3, ![4, 64, 8190]⟩
abbrev S1x64x1 : Shape := ⟨3, ![1, 64, 1]⟩
abbrev S32760x64 : Shape := ⟨2, ![32760, 64]⟩
abbrev S32760 : Shape := ⟨1, ![32760]⟩
abbrev S32760x1 : Shape := ⟨2, ![32760, 1]⟩
abbrev S1024 : Shape := ⟨1, ![1024]⟩
abbrev S1x1024 : Shape := ⟨2, ![1, 1024]⟩
abbrev S32760x1024 : Shape := ⟨2, ![32760, 1024]⟩
abbrev S64x1024 : Shape := ⟨2, ![64, 1024]⟩

abbrev nBuf : Space → Nat
  | .hbm => 123
  | .vmem => 0
  | .smem => 0
  | _ => 0

abbrev bufTy : (tb : Table) → Fin (tcTables nBuf tb) → BufTy
  | .hbm, ⟨0, _⟩ => ⟨S4x256x32768, .f32⟩
  | .hbm, ⟨1, _⟩ => ⟨S128x256x4, .f32⟩
  | .hbm, ⟨2, _⟩ => ⟨S128, .f32⟩
  | .hbm, ⟨3, _⟩ => ⟨S64x128x4, .f32⟩
  | .hbm, ⟨4, _⟩ => ⟨S64, .f32⟩
  | .hbm, ⟨5, _⟩ => ⟨S1024x64, .f32⟩
  | .hbm, ⟨6, _⟩ => ⟨S_, .f32⟩
  | .hbm, ⟨7, _⟩ => ⟨S4x16383x128, .f32⟩
  | .hbm, ⟨8, _⟩ => ⟨S4x256x16383, .f32⟩
  | .hbm, ⟨9, _⟩ => ⟨S128x256x1, .f32⟩
  | .hbm, ⟨10, _⟩ => ⟨S128x256, .f32⟩
  | .hbm, ⟨11, _⟩ => ⟨S4x16383x128, .f32⟩
  | .hbm, ⟨12, _⟩ => ⟨S4x16383x128, .f32⟩
  | .hbm, ⟨13, _⟩ => ⟨S4x256x16383, .f32⟩
  | .hbm, ⟨14, _⟩ => ⟨S128x256x1, .f32⟩
  | .hbm, ⟨15, _⟩ => ⟨S128x256, .f32⟩
  | .hbm, ⟨16, _⟩ => ⟨S4x16383x128, .f32⟩
  | .hbm, ⟨17, _⟩ => ⟨S4x16383x128, .f32⟩
  | .hbm, ⟨18, _⟩ => ⟨S4x256x16383, .f32⟩
  | .hbm, ⟨19, _⟩ => ⟨S128x256x1, .f32⟩
  | .hbm, ⟨20, _⟩ => ⟨S128x256, .f32⟩
  | .hbm, ⟨21, _⟩ => ⟨S4x16383x128, .f32⟩
  | .hbm, ⟨22, _⟩ => ⟨S4x16383x128, .f32⟩
  | .hbm, ⟨23, _⟩ => ⟨S4x256x16383, .f32⟩
  | .hbm, ⟨24, _⟩ => ⟨S128x256x1, .f32⟩
  | .hbm, ⟨25, _⟩ => ⟨S128x256, .f32⟩
  | .hbm, ⟨26, _⟩ => ⟨S4x16383x128, .f32⟩
  | .hbm, ⟨27, _⟩ => ⟨S4x16383x128, .f32⟩
  | .hbm, ⟨28, _⟩ => ⟨S4x128x16383, .f32⟩
  | .hbm, ⟨29, _⟩ => ⟨S1x128x1, .f32⟩
  | .hbm, ⟨30, _⟩ => ⟨S4x128x16383, .f32⟩
  | .hbm, ⟨31, _⟩ => ⟨S4x128x16383, .f32⟩
  | .hbm, ⟨32, _⟩ => ⟨S4x128x16383, .f32⟩
  | .hbm, ⟨33, _⟩ => ⟨S_, .f32⟩
  | .hbm, ⟨34, _⟩ => ⟨S4x8190x64, .f32⟩
  | .hbm, ⟨35, _⟩ => ⟨S4x128x8190, .f32⟩
  | .hbm, ⟨36, _⟩ => ⟨S64x128x1, .f32⟩
  | .hbm, ⟨37, _⟩ => ⟨S64x128, .f32⟩
  | .hbm, ⟨38, _⟩ => ⟨S4x8190x64, .f32⟩
  | .hbm, ⟨39, _⟩ => ⟨S4x8190x64, .f32⟩
  | .hbm, ⟨40, _⟩ => ⟨S4x128x8190, .f32⟩
  | .hbm, ⟨41, _⟩ => ⟨S64x128x1, .f32⟩
  | .hbm, ⟨42, _⟩ => ⟨S64x128, .f32⟩
  | .hbm, ⟨43, _⟩ => ⟨S4x8190x64, .f32⟩
  | .hbm, ⟨44, _⟩ => ⟨S4x8190x64, .f32⟩
  | .hbm, ⟨45, _⟩ => ⟨S4x128x8190, .f32⟩
  | .hbm, ⟨46, _⟩ => ⟨S64x128x1, .f32⟩
  | .hbm, ⟨47, _⟩ => ⟨S64x128, .f32⟩
  | .hbm, ⟨48, _⟩ => ⟨S4x8190x64, .f32⟩
  | .hbm, ⟨49, _⟩ => ⟨S4x8190x64, .f32⟩
  | .hbm, ⟨50, _⟩ => ⟨S4x128x8190, .f32⟩
  | .hbm, ⟨51, _⟩ => ⟨S64x128x1, .f32⟩
  | .hbm, ⟨52, _⟩ => ⟨S64x128, .f32⟩
  | .hbm, ⟨53, _⟩ => ⟨S4x8190x64, .f32⟩
  | .hbm, ⟨54, _⟩ => ⟨S4x8190x64, .f32⟩
  | .hbm, ⟨55, _⟩ => ⟨S4x64x8190, .f32⟩
  | .hbm, ⟨56, _⟩ => ⟨S1x64x1, .f32⟩
  | .hbm, ⟨57, _⟩ => ⟨S4x64x8190, .f32⟩
  | .hbm, ⟨58, _⟩ => ⟨S4x64x8190, .f32⟩
  | .hbm, ⟨59, _⟩ => ⟨S4x64x8190, .f32⟩
  | .hbm, ⟨60, _⟩ => ⟨S4x8190x64, .f32⟩
  | .hbm, ⟨61, _⟩ => ⟨S32760x64, .f32⟩
  | .hbm, ⟨62, _⟩ => ⟨S32760x64, .f32⟩
  | .hbm, ⟨63, _⟩ => ⟨S_, .f32⟩
  | .hbm, ⟨64, _⟩ => ⟨S32760, .f32⟩
  | .hbm, ⟨65, _⟩ => ⟨S32760x1, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S32760x1024, .f32⟩
  | .hbm, ⟨70, _⟩ => ⟨S32760x1024, .f32⟩
  | .hbm, ⟨71, _⟩ => ⟨S32760x1024, .f32⟩
  | .hbm, ⟨72, _⟩ => ⟨S_, .f32⟩
  | .hbm, ⟨73, _⟩ => ⟨S32760x64, .f32⟩
  | .hbm, ⟨74, _⟩ => ⟨S32760x64, .f32⟩
  | .hbm, ⟨75, _⟩ => ⟨S64x1024, .f32⟩
  | .hbm, ⟨76, _⟩ => ⟨S32760x1024, .f32⟩
  | .hbm, ⟨77, _⟩ => ⟨S32760x1024, .f32⟩
  | .hbm, ⟨78, _⟩ => ⟨S32760x1024, .i32⟩
  | .hbm, ⟨79, _⟩ => ⟨S_, .f32⟩
  | .hbm, ⟨80, _⟩ => ⟨S_, .i32⟩
  | .hbm, ⟨81, _⟩ => ⟨S32760, .f32⟩
  | .hbm, ⟨82, _⟩ => ⟨S32760, .i32⟩
  | .hbm, ⟨83, _⟩ => ⟨S32760x1, .i32⟩
  | .hbm, ⟨84, _⟩ => ⟨S1x1024, .i32⟩
  | .hbm, ⟨85, _⟩ => ⟨S32760x1024, .i32⟩
  | .hbm, ⟨86, _⟩ => ⟨S32760x1024, .i32⟩
  | .hbm, ⟨87, _⟩ => ⟨S32760x1024, .i1⟩
  | .hbm, ⟨88, _⟩ => ⟨S32760x1024, .f32⟩
  | .hbm, ⟨89, _⟩ => ⟨S32760x64, .f32⟩
  | .hbm, ⟨90, _⟩ => ⟨S4x8190x64, .f32⟩
  | .hbm, ⟨91, _⟩ => ⟨S4x8190x64, .f32⟩
  | .hbm, ⟨92, _⟩ => ⟨S4x8190x64, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S4x8190x64, .f32⟩
  | .hbm, ⟨98, _⟩ => ⟨S4x8190x64, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S4x8190x64, .f32⟩
  | .hbm, ⟨107, _⟩ => ⟨S4x8190x64, .f32⟩
  | .hbm, ⟨108, _⟩ => ⟨S_, .f32⟩
  | .hbm, ⟨109, _⟩ => ⟨S1024, .f32⟩
  | .hbm, ⟨110, _⟩ => ⟨S_, .f32⟩
  | .hbm, ⟨111, _⟩ => ⟨S1024, .f32⟩
  | .hbm, ⟨112, _⟩ => ⟨S1024, .f32⟩
  | .hbm, ⟨113, _⟩ => ⟨S_, .f32⟩
  | .hbm, ⟨114, _⟩ => ⟨S1024, .f32⟩
  | .hbm, ⟨115, _⟩ => ⟨S1024, .f32⟩
  | .hbm, ⟨116, _⟩ => ⟨S1024, .f32⟩
  | .hbm, ⟨117, _⟩ => ⟨S1024, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S4x64x8190, .f32⟩
  | _, _ => ⟨S4x256x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_1 : Ref sig .tc := ⟨.hbm, 63, rfl⟩
abbrev main_v55 : Ref sig .tc := ⟨.hbm, 64, rfl⟩
abbrev main_v56 : Ref sig .tc := ⟨.hbm, 65, rfl⟩
abbrev main_cst_2 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_cst_3 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_call0_v0 : Ref sig .tc := ⟨.hbm, 78, rfl⟩
abbrev main_call0_cst : Ref sig .tc := ⟨.hbm, 79, rfl⟩
abbrev main_call0_c : Ref sig .tc := ⟨.hbm, 80, rfl⟩
abbrev main_call0_v1_0 : Ref sig .tc := ⟨.hbm, 81, rfl⟩
abbrev main_v67 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_4 : Ref sig .tc := ⟨.hbm, 93, rfl⟩
abbrev main_v73 : Ref sig .tc := ⟨.hbm, 94, rfl⟩
abbrev main_cst_5 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_6 : Ref sig .tc := ⟨.hbm, 99, rfl⟩
abbrev main_v77 : Ref sig .tc := ⟨.hbm, 100, rfl⟩
abbrev main_cst_7 : Ref sig .tc := ⟨.hbm, 101, rfl⟩
abbrev main_v78 : Ref sig .tc := ⟨.hbm, 102, rfl⟩
abbrev main_cst_8 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_9 : Ref sig .tc := ⟨.hbm, 108, rfl⟩
abbrev main_v83 : Ref sig .tc := ⟨.hbm, 109, rfl⟩
abbrev main_cst_10 : Ref sig .tc := ⟨.hbm, 110, rfl⟩
abbrev main_v84 : Ref sig .tc := ⟨.hbm, 111, rfl⟩
abbrev main_v85 : Ref sig .tc := ⟨.hbm, 112, rfl⟩
abbrev main_cst_11 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_12 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Proof.IValues.lean ====
/-
  Hand-written: the values one grid step of the kernel computes, as plain functions of what the step reads — the
  input window, the weights, the running counts and the running squared error —, in the order the kernel computes
  them. Nothing here runs a program.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The seven arrays every grid step reads whole: the two convolutions' weights and biases, the codebook, twice the
    codebook, and the codebook rows' sums. -/
structure Wts (F : FTy → Type) [FloatOps F] where
  W1 : Vec F S1024x128 .f32
  B1 : Vec F S1x128 .f32
  W2 : Vec F S512x64 .f32
  B2 : Vec F S1x64 .f32
  CB : Vec F S1024x64 .f32
  CB2 : Vec F S1024x64 .f32
  CS : Vec F S1x1024 .f32

/-- What a load at the coordinates `r` reads of the contents `X`. -/
abbrev ldr {S : Shape} {e : EltTy} (X : S.Idx → Elt F e) (r : LoadRect S) : r.shape.Idx → Elt F e := fun x => X (r.idx x)

/-- The rows `k, k + 2, …` of a transposed half window. -/
abbrev ev (a : Vec F S8320x128 .f32) (k : ℕ) (h : ∀ d : Fin 2, S4098x128.size d = 0 ∨ (![k, 0] : Fin 2 → ℕ) d + (![2, 1] : Fin 2 → ℕ) d * (S4098x128.size d - 1) < S8320x128.size d) :
    Vec F S4098x128 .f32 := ldr a (⟨![k, 0], S4098x128.size, ![2, 1], h⟩ : LoadRect S8320x128)

/-- 128 rows of the first weight from row `k`. -/
abbrev w1r (w : Vec F S1024x128 .f32) (k : ℕ) (h : ∀ a, (![k, 0] : Fin 2 → ℕ) a + S128x128.size a ≤ S1024x128.size a) :
    Vec F S128x128 .f32 := ldr w (Rect.unit (s := S1024x128) ![k, 0] S128x128.size h).toLoadRect

/-- 128 rows of the second weight from row `k`. -/
abbrev w2r (w : Vec F S512x64 .f32) (k : ℕ) (h : ∀ a, (![k, 0] : Fin 2 → ℕ) a + S128x64.size a ≤ S512x64.size a) :
    Vec F S128x64 .f32 := ldr w (Rect.unit (s := S512x64) ![k, 0] S128x64.size h).toLoadRect

/-- The rows `k, k + 2, …` (512 of them) of the first layer. -/
abbrev hr (a : Vec F S4104x128 .f32) (k : ℕ) (h : ∀ d : Fin 2, S512x128.size d = 0 ∨ (![k, 0] : Fin 2 → ℕ) d + (![2, 1] : Fin 2 → ℕ) d * (S512x128.size d - 1) < S4104x128.size d) :
    Vec F S512x128 .f32 := ldr a (⟨![k, 0], S512x128.size, ![2, 1], h⟩ : LoadRect S4104x128)

/-- The first layer's partial sum over the kernel taps 0 and 1. -/
def sum01 (w : Wts F) (a b : Vec F S8320x128 .f32) : FVec F S4098x128 .f32 :=
  k0_pay8 (ev a 0 inb_S8320x128_S4098x128_0_0_s_2_1) (ev b 0 inb_S8320x128_S4098x128_0_0_s_2_1)
    (w1r w.W1 0 inb_S1024x128_S128x128_0_0) (w1r w.W1 128 inb_S1024x128_S128x128_128_0)
    (ev a 1 inb_S8320x128_S4098x128_1_0_s_2_1) (ev b 1 inb_S8320x128_S4098x128_1_0_s_2_1)
    (w1r w.W1 256 inb_S1024x128_S128x128_256_0) (w1r w.W1 384 inb_S1024x128_S128x128_384_0)

/-- The first layer, from its partial sum and the taps 2 and 3. -/
def layer1 (w : Wts F) (s : FVec F S4098x128 .f32) (a b : Vec F S8320x128 .f32) : FVec F S4098x128 .f32 :=
  k0_pay9 s (ev a 2 inb_S8320x128_S4098x128_2_0_s_2_1) (ev b 2 inb_S8320x128_S4098x128_2_0_s_2_1)
    (w1r w.W1 512 inb_S1024x128_S128x128_512_0) (w1r w.W1 640 inb_S1024x128_S128x128_640_0)
    (ev a 3 inb_S8320x128_S4098x128_3_0_s_2_1) (ev b 3 inb_S8320x128_S4098x128_3_0_s_2_1)
    (w1r w.W1 768 inb_S1024x128_S128x128_768_0) (w1r w.W1 896 inb_S1024x128_S128x128_896_0) w.B1

/-- The first layer of a window. -/
def h1Of (w : Wts F) (xw : Vec F S1x256x8320 .f32) : FVec F S4098x128 .f32 :=
  layer1 w (sum01 w (k0_pay6 xw) (k0_pay7 xw)) (k0_pay6 xw) (k0_pay7 xw)

/-- The first layer in a buffer of 4104 rows, the rows past it zero. -/
def padH (h : FVec F S4098x128 .f32) : Vec F S4104x128 .f32 :=
  fun i => if hi : (i 0).val < 4098 then h (fun a => ⟨(i a).val, by fin_cases a; exacts [hi, (i 1).isLt]⟩) else Scalar.ofBits .f32 0

/-- The sixteen strided reads of the first layer: entry `4 q + m` is the rows `1024 q + m + 2 r`, `r < 512`. -/
def rowsOf (H : Vec F S4104x128 .f32) : Fin 16 → Vec F S512x128 .f32 :=
  ![hr H 0 inb_S4104x128_S512x128_0_0_s_2_1, hr H 1 inb_S4104x128_S512x128_1_0_s_2_1, hr H 2 inb_S4104x128_S512x128_2_0_s_2_1, hr H 3 inb_S4104x128_S512x128_3_0_s_2_1,
    hr H 1024 inb_S4104x128_S512x128_1024_0_s_2_1, hr H 1025 inb_S4104x128_S512x128_1025_0_s_2_1, hr H 1026 inb_S4104x128_S512x128_1026_0_s_2_1, hr H 1027 inb_S4104x128_S512x128_1027_0_s_2_1,
    hr H 2048 inb_S4104x128_S512x128_2048_0_s_2_1, hr H 2049 inb_S4104x128_S512x128_2049_0_s_2_1, hr H 2050 inb_S4104x128_S512x128_2050_0_s_2_1, hr H 2051 inb_S4104x128_S512x128_2051_0_s_2_1,
    hr H 3072 inb_S4104x128_S512x128_3072_0_s_2_1, hr H 3073 inb_S4104x128_S512x128_3073_0_s_2_1, hr H 3074 inb_S4104x128_S512x128_3074_0_s_2_1, hr H 3075 inb_S4104x128_S512x128_3075_0_s_2_1]

/-- The quarters of the second weight. -/
abbrev wq0 (w : Wts F) : Vec F S128x64 .f32 := w2r w.W2 0 inb_S512x64_S128x64_0_0
/-- The quarters of the second weight. -/
abbrev wq1 (w : Wts F) : Vec F S128x64 .f32 := w2r w.W2 128 inb_S512x64_S128x64_128_0
/-- The quarters of the second weight. -/
abbrev wq2 (w : Wts F) : Vec F S128x64 .f32 := w2r w.W2 256 inb_S512x64_S128x64_256_0
/-- The quarters of the second weight. -/
abbrev wq3 (w : Wts F) : Vec F S128x64 .f32 := w2r w.W2 384 inb_S512x64_S128x64_384_0

variable (w : Wts F) (T : Fin 16 → Vec F S512x128 .f32) (v5 : BitVec 32)

/-! The first chunk: second layer, row norms, products with the doubled codebook, quantized rows, and what it
    contributes to the counts, the squared error and the output block. -/

def h0 : FVec F S512x64 .f32 := k0_pay11 k0_pay10 (T 0) (wq0 w) (T 1) (wq1 w) (T 2) (wq2 w) (T 3) (wq3 w) w.B2
def rn0 : FVec F S512x1 .f32 := k0_pay12 k0_pay10 (T 0) (wq0 w) (T 1) (wq1 w) (T 2) (wq2 w) (T 3) (wq3 w) w.B2
def dt0 : FVec F S512x1024 .f32 := k0_pay13 k0_pay10 (T 0) (wq0 w) (T 1) (wq1 w) (T 2) (wq2 w) (T 3) (wq3 w) w.B2 w.CB2
def cs0 : FVec F S1x1024 .f32 := k0_pay14 w.CS
def qt0 : FVec F S512x64 .f32 := k0_pay18 (rn0 w T) (dt0 w T) (cs0 w) w.CB
def md0 : FVec F S1 .f32 := k0_pay19 v5 (h0 w T) (rn0 w T) (dt0 w T) (cs0 w) w.CB
def ct0 (C : Vec F S1x1024 .f32) : FVec F S1x1024 .f32 := k0_pay17 v5 (rn0 w T) (dt0 w T) (cs0 w) C
def ms0 (m : Elt F .f32) : F .f32 := k0_pay20 m (md0 w T v5)
def qo0 : FVec F S1x64x512 .f32 := k0_pay21 (h0 w T) (qt0 w T)

/-! The second chunk. -/

def a1 : FVec F S512x64 .f32 := k0_pay22 (T 4) (wq0 w) (T 5) (wq1 w) (T 6) (wq2 w) (T 7) (wq3 w)
def h1 : FVec F S512x64 .f32 := k0_pay23 (a1 w T) w.B2
def oh1 : FVec F S512x1024 .f32 := k0_pay24 (a1 w T) w.B2 w.CB2 w.CS
def cp1 (C : Vec F S1x1024 .f32) : FVec F S1x1024 .f32 := k0_pay26 v5 (a1 w T) w.B2 w.CB2 w.CS C
def ct1 (C : Vec F S1x1024 .f32) : FVec F S1x1024 .f32 := k0_pay27 (cp1 w T v5 C)
def ms1 (m : Elt F .f32) : F .f32 := k0_pay29 (h1 w T) (oh1 w T) (k0_pay25 v5) w.CB m
def qo1 : FVec F S1x64x512 .f32 := k0_pay30 (h1 w T) (oh1 w T) w.CB

/-! The third chunk. -/

def a2 : FVec F S512x64 .f32 := k0_pay31 (T 8) (wq0 w) (T 9) (wq1 w)
def h2 : FVec F S512x64 .f32 := k0_pay32 (a2 w T) (T 10) (wq2 w) (T 11) (wq3 w) w.B2
def oh2 : FVec F S512x1024 .f32 := k0_pay33 (a2 w T) (T 10) (wq2 w) (T 11) (wq3 w) w.B2 w.CB2 w.CS
def ct2 (C : Vec F S1x1024 .f32) : FVec F S1x1024 .f32 :=
  k0_pay35 v5 (oh2 w T) (iota .tc S512x1 32 [0] iota_S512x1_d0_w32) 1024#32 C
def ms2 (m : Elt F .f32) : F .f32 :=
  k0_pay37 v5 (h2 w T) (oh2 w T) (iota .tc S512x1 32 [0] iota_S512x1_d0_w32) 1024#32 w.CB m
def qo2 : FVec F S1x64x512 .f32 := k0_pay38 (h2 w T) (oh2 w T) w.CB

/-! The last chunk. -/

def h3 : FVec F S512x64 .f32 := k0_pay40 k0_pay39 (T 12) (wq0 w) (T 13) (wq1 w) (T 14) (wq2 w) (T 15) (wq3 w) w.B2
def dt3 : FVec F S512x1024 .f32 := k0_pay41 k0_pay39 (T 12) (wq0 w) (T 13) (wq1 w) (T 14) (wq2 w) (T 15) (wq3 w) w.B2 w.CB2
def ds3 : FVec F S512x1024 .f32 := k0_pay42 k0_pay39 (T 12) (wq0 w) (T 13) (wq1 w) (T 14) (wq2 w) (T 15) (wq3 w) w.B2 w.CS
def qt3 : FVec F S512x64 .f32 := k0_pay46 (dt3 w T) (ds3 w T) w.CB
def ct3 (C : Vec F S1x1024 .f32) : FVec F S1x1024 .f32 := k0_pay45 v5 (dt3 w T) (ds3 w T) C
def ms3 (m : Elt F .f32) : F .f32 := k0_pay47 v5 (h3 w T) (dt3 w T) (ds3 w T) w.CB m
def qo3 : FVec F S1x64x512 .f32 := k0_pay1 (h3 w T) (qt3 w T)

/-- One step's counts, from the counts before it. -/
def stepCt (C : Vec F S1x1024 .f32) : FVec F S1x1024 .f32 := ct3 w T v5 (ct2 w T v5 (ct1 w T v5 (ct0 w T v5 C)))
/-- One step's running squared error, from the one before it. -/
def stepMs (m : Elt F .f32) : F .f32 := ms3 w T v5 (ms2 w T v5 (ms1 w T v5 (ms0 w T v5 m)))

/-- Two first layers with the same 4098 rows are read alike. -/
theorem rowsOf_congr {H H' : Vec F S4104x128 .f32} (h : ∀ i, (i 0).val < 4098 → H i = H' i) : rowsOf H = rowsOf H' := by
  funext k
  fin_cases k <;>
  · funext x
    refine h _ ?_
    have hx : (x 0).val < 512 := (x 0).isLt
    simp only [LoadRect.idx_apply, Matrix.cons_val_zero]
    omega

end Cert.KernelIdeal.Hand

end
-- ==== Proof.IParts.lean ====
module

public import proofs.«01_k».proof.Proof.IValues
public import Idealize.ShloMosaic.Lib.MixedBatch
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The input array, left in HBM. -/
abbrev xM : Memref sig .tc .hbm S4x256x32768 .f32 := Memref.whole main_arg0
/-- The output array, left in HBM. -/
abbrev oM : Memref sig .tc .hbm S4x64x8192 .f32 := Memref.whole main_call0_v10_0
/-- The two input windows. -/
abbrev xwM : Memref sig .tc .vmem S2x256x8320 .f32 := Memref.whole cc0_scratch0
/-- The two output blocks. -/
abbrev qM : Memref sig .tc .vmem S2x64x2048 .f32 := Memref.whole cc0_scratch4

variable (i : grid0.Coords) {arg3 : Memref sig .tc .vmem S1024x128 .f32} (harg3 : arg3.IsWhole) {arg4 : Memref sig .tc .vmem S1x128 .f32} (harg4 : arg4.IsWhole) {arg5 : Memref sig .tc .vmem S512x64 .f32} (harg5 : arg5.IsWhole) {arg6 : Memref sig .tc .vmem S1x64 .f32} (harg6 : arg6.IsWhole) {arg7 : Memref sig .tc .vmem S1024x64 .f32} (harg7 : arg7.IsWhole) {arg8 : Memref sig .tc .vmem S1024x64 .f32} (harg8 : arg8.IsWhole) {arg9 : Memref sig .tc .vmem S1x1024 .f32} (harg9 : arg9.IsWhole) {arg11 : Memref sig .tc .smem S1 .f32} (harg11 : arg11.IsWhole) {arg12 : Memref sig .tc .smem S1 .f32} (harg12 : arg12.IsWhole) {arg14 : Memref sig .tc .vmem S8320x128 .f32} (harg14 : arg14.IsWhole) {arg15 : Memref sig .tc .vmem S8320x128 .f32} (harg15 : arg15.IsWhole) {arg16 : Memref sig .tc .vmem S4104x128 .f32} (harg16 : arg16.IsWhole) {arg18 : Memref sig .tc .vmem S1x1024 .f32} (harg18 : arg18.IsWhole) {arg19 : Memref sig .tc .smem S1 .f32} (harg19 : arg19.IsWhole)

/-- A memref's elements held at full share, its contents `d`. -/
abbrev ow (c : Dev nD) {sp : Space} {S : Shape} {e : EltTy} (m : Memref sig .tc sp S e) (d : S.Idx → Elt F e) : sProp 𝕄 :=
  owns (c : Thread nD τ) m fullShare d

/-- A load at `r` off a buffer one store covered whole reads the payload at `r`. -/
theorem readCov_of_full {sig : RefSig} {κ : Kind} {sp : Space} {S : Shape} {e : EltTy} (v : View sig κ sp S e) {off : Fin S.rank → ℕ}
    (inb : ∀ a, off a + S.size a ≤ S.size a) (w : (Rect.unit off S.size inb).shape.Idx → Elt F e) (r : LoadRect S) :
    v.readCov (⟨Rect.unit off S.size inb, w⟩ :: []) r = ldr (w : S.Idx → Elt F e) r := by
  have h := View.read_writes_full (Val := Elt F) v v.junk inb w []
  funext x
  exact congrFun h (r.idx x)

/-- A returned value handed on. -/
theorem rbind.{v} {E : Type → Type v} {α β : Type} (a : α) (k : α → Prog E β) : (Prog.ret a).bind k = k a := rfl

/-- A continuation entered at an equal value. -/
theorem kcast {α : Type} {K : α → sProp 𝕄} {a b : α} (h : a = b) : K a ⊢ K b := by subst h; exact .rfl

theorem part2_run (c : Dev nD) (w : Wts F) (v30 : Vec F S1x256x8320 .f32) (K : FVec F S4098x128 .f32 → sProp 𝕄) :
    iprop((∃ d, ow c arg14 d) ∗ (∃ d, ow c arg15 d) ∗ ow c arg3 w.W1
      ∗ (iprop(ow c arg14 (k0_pay6 v30) ∗ ow c arg15 (k0_pay7 v30) ∗ ow c arg3 w.W1)
        -∗ ∀ v, ⌜v = sum01 w (k0_pay6 v30) (k0_pay7 v30)⌝ -∗ K v))
    ⊢ wp frame (wpE (defs₀ (F := F)) Variants.none c none) Set.univ
        (k0_part2 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 v30) K := by
  simp only [k0_part2_eq_skeleton]; unfold k0_part2_skel
  unfold ow owns
  iintro ⟨⟨%d14, %f14, -, H14⟩, ⟨%d15, %f15, -, H15⟩, ⟨%f3, %h3, H3⟩, Hk⟩
  sl_exec
  sl_step
  iapply Hk $$ [H14 H15 H3]
  rotate_right
  · ipureintro
    unfold part2_run.sl.v42 part2_run.sl.v43 part2_run.sl.v52 part2_run.sl.v53 part2_run.sl.H14_1 part2_run.sl.H15_1 sum01
    rw [← h3]
    congr 1 <;> exact readCov_of_full _ _ _ _
  isplitl [H14]
  · iexists _; isplitr; swap; · iexact H14
    ipureintro; exact View.read_writes_full _ _ _ _ _
  isplitl [H15]
  · iexists _; isplitr; swap; · iexact H15
    ipureintro; exact View.read_writes_full _ _ _ _ _
  iexists _; isplitr; swap; · iexact H3
  ipureintro; exact h3

/-- The first chunk's second layer, its row norms and its products with the doubled codebook. -/
theorem part4_run (c : Dev nD) (w : Wts F) (H : Vec F S4104x128 .f32)
    (K : (Σ' (v118 : FVec F S512x64 .f32) (v121 : FVec F S512x1 .f32) (v124 : FVec F S512x1024 .f32), FVec F S1x1024 .f32) → sProp 𝕄) :
    iprop(ow c arg16 H ∗ ow c arg5 w.W2 ∗ ow c arg6 w.B2 ∗ ow c arg8 w.CB2 ∗ ow c arg9 w.CS
      ∗ (iprop(ow c arg16 H ∗ ow c arg5 w.W2 ∗ ow c arg6 w.B2 ∗ ow c arg8 w.CB2 ∗ ow c arg9 w.CS)
        -∗ K (⟨h0 w (rowsOf H), rn0 w (rowsOf H), dt0 w (rowsOf H), cs0 w⟩)))
    ⊢ wp frame (wpE (defs₀ (F := F)) Variants.none c none) Set.univ
        (k0_part4 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 k0_pay10) K := by
  simp only [k0_part4_eq_skeleton]; unfold k0_part4_skel
  unfold ow owns
  iintro ⟨⟨%f16, %e16, H16⟩, ⟨%f5, %e5, H5⟩, ⟨%f6, %e6, H6⟩, ⟨%f8, %e8, H8⟩, ⟨%f9, %e9, H9⟩, Hk⟩
  have hK : ∀ v, (⟨h0 w (rowsOf H), rn0 w (rowsOf H), dt0 w (rowsOf H), cs0 w⟩) = v → (K (⟨h0 w (rowsOf H), rn0 w (rowsOf H), dt0 w (rowsOf H), cs0 w⟩) ⊢ K v) := fun v h => kcast h
  obtain ⟨W1, B1, W2, B2, CB, CB2, CS⟩ := w
  dsimp only at e5 e6 e8 e9
  subst e5
  subst e6
  subst e8
  subst e9
  subst e16
  sl_exec
  sl_step
  have F6 : View.readAt (Elt F) arg6.view (Rect.unit (s := S1x64) ![0, 0] S1x64.size inb_S1x64_S1x64_0_0).toLoadRect f6 = View.read (Elt F) arg6.view f6 := View.readAt_full _ _ _
  have F8 : View.readAt (Elt F) arg8.view (Rect.unit (s := S1024x64) ![0, 0] S1024x64.size inb_S1024x64_S1024x64_0_0).toLoadRect f8 = View.read (Elt F) arg8.view f8 := View.readAt_full _ _ _
  have F9 : View.readAt (Elt F) arg9.view (Rect.unit (s := S1x1024) ![0, 0] S1x1024.size inb_S1x1024_S1x1024_0_0).toLoadRect f9 = View.read (Elt F) arg9.view f9 := View.readAt_full _ _ _
  iapply (hK _ ?_)
  · rw [F6, F8, F9]; rfl
  iapply Hk
  isplitl [H16]
  · iexists _; isplitr; swap; · iexact H16
    ipureintro; exact rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro; rfl
  iexists _; isplitr; swap; · iexact H9
  ipureintro; rfl

/-- The first chunk's counts and quantized rows. -/
theorem part5_run (c : Dev nD) (w : Wts F) (T : Fin 16 → Vec F S512x128 .f32) (v5 : BitVec 32) (C : Vec F S1x1024 .f32) (m : Elt F .f32)
    (K : (Σ' (v160 : FVec F S512x64 .f32) (v162 : Elt F .f32), FVec F S1 .f32) → sProp 𝕄) :
    iprop(ow c arg18 C ∗ ow c arg19 (fun _ => m) ∗ ow c arg7 w.CB
      ∗ (iprop(ow c arg18 (ct0 w T v5 C)
          ∗ ow c arg19 (fun _ => m)
          ∗ ow c arg7 w.CB)
        -∗ K (⟨qt0 w T, m, md0 w T v5⟩)))
    ⊢ wp frame (wpE (defs₀ (F := F)) Variants.none c none) Set.univ
        (k0_part5 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 v5 (h0 w T) (rn0 w T) (dt0 w T) (cs0 w)) K := by
  simp only [k0_part5_eq_skeleton]; unfold k0_part5_skel
  unfold ow owns
  iintro ⟨⟨%f18, %e18, H18⟩, ⟨%f19, %e19, H19⟩, ⟨%f7, %e7, H7⟩, Hk⟩
  have hK : ∀ v, (⟨qt0 w T, m, md0 w T v5⟩) = v → (K (⟨qt0 w T, m, md0 w T v5⟩) ⊢ K v) := fun v h => kcast h
  obtain ⟨W1, B1, W2, B2, CB, CB2, CS⟩ := w
  dsimp only at e7
  subst e7
  subst e18
  sl_exec
  sl_step
  have hm : View.readAt (Elt F) arg19.view (Rect.unit ![0] S1.size inb_S1_S1_0).toLoadRect f19 (Shape.Idx.first (by decide)) = m := congrFun ((View.readAt_full _ _ _).trans e19) _
  try unfold part5_run.sl.r
  have F18 : View.readAt (Elt F) arg18.view (Rect.unit (s := S1x1024) ![0, 0] S1x1024.size inb_S1x1024_S1x1024_0_0).toLoadRect f18 = View.read (Elt F) arg18.view f18 := View.readAt_full _ _ _
  have F7 : View.readAt (Elt F) arg7.view (Rect.unit (s := S1024x64) ![0, 0] S1024x64.size inb_S1024x64_S1024x64_0_0).toLoadRect f7 = View.read (Elt F) arg7.view f7 := View.readAt_full _ _ _
  iapply (hK _ ?_)
  · rw [F7, hm]; rfl
  iapply Hk
  isplitl [H18]
  · iexists _; isplitr; swap; · iexact H18
    ipureintro; refine (View.read_writes_full _ _ _ _ _).trans ?_; rw [F18]; rfl
  isplitl [H19]
  · iexists _; isplitr; swap; · iexact H19
    ipureintro; exact e19
  iexists _; isplitr; swap; · iexact H7
  ipureintro; rfl

/-- The first chunk's squared error and output rows; the second chunk's second layer before its bias. -/
theorem part6_run (c : Dev nD) (w : Wts F) (H : Vec F S4104x128 .f32) (v5 v2 : BitVec 32) (m m' : Elt F .f32)
    (fq : Buf (Elt F) (qM.view.loc (c : Thread nD τ))) (Sq : Finset (Idx (qM.view.loc (c : Thread nD τ))))
    (hS : (qM.access (Rect.unit (s := S2x64x2048) (k0_off20 i) S1x64x512.size (k0_off20_inb i))).set ⊆ Sq)
    (K : FVec F S512x64 .f32 → sProp 𝕄) :
    iprop(ow c arg19 (fun _ => m') ∗ (qM.view.loc (c : Thread nD τ) ↦[Sq]{fullShare} fq) ∗ ow c arg16 H ∗ ow c arg5 w.W2
      ∗ (iprop(ow c arg19 (fun _ => ms0 w (rowsOf H) v5 m)
          ∗ (qM.view.loc (c : Thread nD τ) ↦[Sq]{fullShare} ((qM.access (Rect.unit (s := S2x64x2048) (k0_off20 i) S1x64x512.size (k0_off20_inb i))).write (Elt F) fq (qo0 w (rowsOf H)) Finset.univ))
          ∗ ow c arg16 H ∗ ow c arg5 w.W2)
        -∗ K (a1 w (rowsOf H))))
    ⊢ wp frame (wpE (defs₀ (F := F)) Variants.none c none) Set.univ
        (k0_part6 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 v2 (h0 w (rowsOf H)) (qt0 w (rowsOf H)) m (md0 w (rowsOf H) v5)) K := by
  simp only [k0_part6_eq_skeleton]; unfold k0_part6_skel
  unfold ow owns
  iintro ⟨⟨%f19, %e19, H19⟩, HQ, ⟨%f16, %e16, H16⟩, ⟨%f5, %e5, H5⟩, Hk⟩
  have hK : ∀ v, (a1 w (rowsOf H)) = v → (K (a1 w (rowsOf H)) ⊢ K v) := fun v h => kcast h
  obtain ⟨W1, B1, W2, B2, CB, CB2, CS⟩ := w
  dsimp only at e5
  subst e5
  subst e16
  sl_exec
  iapply (wp_load_rect Variants.none (c : Thread nD τ) none Set.univ hS) $$ HQ
  iintro HQ
  iapply (wp_store Variants.none (c : Thread nD τ) none Set.univ (Mk := Finset.univ) hS) $$ HQ
  iintro HQ
  rw [rbind]
  sl_exec
  sl_step
  iapply (hK _ ?_)
  · rfl
  iapply Hk
  isplitl [H19]
  · iexists _; isplitr; swap; · iexact H19
    ipureintro; refine (View.read_writes_full _ _ _ _ _).trans ?_; rfl
  isplitl [HQ]; · iexact HQ
  isplitl [H16]
  · iexists _; isplitr; swap; · iexact H16
    ipureintro; exact rfl
  iexists _; isplitr; swap; · iexact H5
  ipureintro; rfl

/-- The second chunk's second layer, nearest rows and counts. -/
theorem part7_run (c : Dev nD) (w : Wts F) (T : Fin 16 → Vec F S512x128 .f32) (v5 : BitVec 32) (C : Vec F S1x1024 .f32)
    (K : (Σ' (v206 : FVec F S512x64 .f32) (v231 : FVec F S512x1024 .f32) (v235 : IVec S512x1 1), FVec F S1x1024 .f32) → sProp 𝕄) :
    iprop(ow c arg18 C ∗ ow c arg6 w.B2 ∗ ow c arg8 w.CB2 ∗ ow c arg9 w.CS
      ∗ (iprop(ow c arg18 (C)
          ∗ ow c arg6 w.B2 ∗ ow c arg8 w.CB2 ∗ ow c arg9 w.CS)
        -∗ K (⟨h1 w T, oh1 w T, k0_pay25 v5, cp1 w T v5 C⟩)))
    ⊢ wp frame (wpE (defs₀ (F := F)) Variants.none c none) Set.univ
        (k0_part7 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 v5 (a1 w T)) K := by
  simp only [k0_part7_eq_skeleton]; unfold k0_part7_skel
  unfold ow owns
  iintro ⟨⟨%f18, %e18, H18⟩, ⟨%f6, %e6, H6⟩, ⟨%f8, %e8, H8⟩, ⟨%f9, %e9, H9⟩, Hk⟩
  have hK : ∀ v, (⟨h1 w T, oh1 w T, k0_pay25 v5, cp1 w T v5 C⟩) = v → (K (⟨h1 w T, oh1 w T, k0_pay25 v5, cp1 w T v5 C⟩) ⊢ K v) := fun v h => kcast h
  obtain ⟨W1, B1, W2, B2, CB, CB2, CS⟩ := w
  dsimp only at e6 e8 e9
  subst e6
  subst e8
  subst e9
  subst e18
  sl_exec
  sl_step
  have F6 : View.readAt (Elt F) arg6.view (Rect.unit (s := S1x64) ![0, 0] S1x64.size inb_S1x64_S1x64_0_0).toLoadRect f6 = View.read (Elt F) arg6.view f6 := View.readAt_full _ _ _
  have F8 : View.readAt (Elt F) arg8.view (Rect.unit (s := S1024x64) ![0, 0] S1024x64.size inb_S1024x64_S1024x64_0_0).toLoadRect f8 = View.read (Elt F) arg8.view f8 := View.readAt_full _ _ _
  have F9 : View.readAt (Elt F) arg9.view (Rect.unit (s := S1x1024) ![0, 0] S1x1024.size inb_S1x1024_S1x1024_0_0).toLoadRect f9 = View.read (Elt F) arg9.view f9 := View.readAt_full _ _ _
  have F18 : View.readAt (Elt F) arg18.view (Rect.unit (s := S1x1024) ![0, 0] S1x1024.size inb_S1x1024_S1x1024_0_0).toLoadRect f18 = View.read (Elt F) arg18.view f18 := View.readAt_full _ _ _
  iapply (hK _ ?_)
  · rw [F6, F8, F9, F18]; rfl
  iapply Hk
  isplitl [H18]
  · iexists _; isplitr; swap; · iexact H18
    ipureintro; exact rfl
  isplitl [H6]
  · iexists _; isplitr; swap; · iexact H6
    ipureintro; rfl
  isplitl [H8]
  · iexists _; isplitr; swap; · iexact H8
    ipureintro; rfl
  iexists _; isplitr; swap; · iexact H9
  ipureintro; rfl

/-- The second chunk's counts, squared error and output rows; the first half of the third chunk's second layer. -/
theorem part8_run (c : Dev nD) (w : Wts F) (H : Vec F S4104x128 .f32) (v5 v2 : BitVec 32) (C C' : Vec F S1x1024 .f32) (m : Elt F .f32)
    (fq : Buf (Elt F) (qM.view.loc (c : Thread nD τ))) (Sq : Finset (Idx (qM.view.loc (c : Thread nD τ))))
    (hS : (qM.access (Rect.unit (s := S2x64x2048) (k0_off21 i) S1x64x512.size (k0_off21_inb i))).set ⊆ Sq)
    (K : (Σ' (v279 : FVec F S512x64 .f32), Vec F S512x128 .f32) → sProp 𝕄) :
    iprop(ow c arg18 C' ∗ ow c arg19 (fun _ => m) ∗ (qM.view.loc (c : Thread nD τ) ↦[Sq]{fullShare} fq) ∗ ow c arg7 w.CB ∗ ow c arg16 H ∗ ow c arg5 w.W2
      ∗ (iprop(ow c arg18 (ct1 w (rowsOf H) v5 C)
          ∗ ow c arg19 (fun _ => ms1 w (rowsOf H) v5 m)
          ∗ (qM.view.loc (c : Thread nD τ) ↦[Sq]{fullShare} ((qM.access (Rect.unit (s := S2x64x2048) (k0_off21 i) S1x64x512.size (k0_off21_inb i))).write (Elt F) fq (qo1 w (rowsOf H)) Finset.univ))
          ∗ ow c arg7 w.CB ∗ ow c arg16 H ∗ ow c arg5 w.W2)
        -∗ K (⟨a2 w (rowsOf H), (rowsOf H) 10⟩)))
    ⊢ wp frame (wpE (defs₀ (F := F)) Variants.none c none) Set.univ
        (k0_part8 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 v2 (h1 w (rowsOf H)) (oh1 w (rowsOf H)) (k0_pay25 v5) (cp1 w (rowsOf H) v5 C)) K := by
  simp only [k0_part8_eq_skeleton]; unfold k0_part8_skel
  unfold ow owns
  iintro ⟨⟨%f18, %e18, H18⟩, ⟨%f19, %e19, H19⟩, HQ, ⟨%f7, %e7, H7⟩, ⟨%f16, %e16, H16⟩, ⟨%f5, %e5, H5⟩, Hk⟩
  have hK : ∀ v, (⟨a2 w (rowsOf H), (rowsOf H) 10⟩) = v → (K (⟨a2 w (rowsOf H), (rowsOf H) 10⟩) ⊢ K v) := fun v h => kcast h
  obtain ⟨W1, B1, W2, B2, CB, CB2, CS⟩ := w
  dsimp only at e7 e5
  subst e7
  subst e5
  subst e16
  subst e18
  sl_exec
  iapply (wp_load_rect Variants.none (c : Thread nD τ) none Set.univ hS) $$ HQ
  iintro HQ
  iapply (wp_store Variants.none (c : Thread nD τ) none Set.univ (Mk := Finset.univ) hS) $$ HQ
  iintro HQ
  rw [rbind]
  sl_exec
  sl_step
  have hm : View.readAt (Elt F) arg19.view (Rect.unit ![0] S1.size inb_S1_S1_0).toLoadRect f19 (Shape.Idx.first (by decide)) = m := congrFun ((View.readAt_full _ _ _).trans e19) _
  try unfold part8_run.sl.r
  have F7 : View.readAt (Elt F) arg7.view (Rect.unit (s := S1024x64) ![0, 0] S1024x64.size inb_S1024x64_S1024x64_0_0).toLoadRect f7 = View.read (Elt F) arg7.view f7 := View.readAt_full _ _ _
  rw [F7]
  iapply (hK _ ?_)
  · rfl
  iapply Hk
  isplitl [H18]
  · iexists _; isplitr; swap; · iexact H18
    ipureintro; refine (View.read_writes_full _ _ _ _ _).trans ?_; rfl
  isplitl [H19]
  · iexists _; isplitr; swap; · iexact H19
    ipureintro; refine (View.read_writes_full _ _ _ _ _).trans ?_; rw [hm]; rfl
  isplitl [HQ]; · iexact HQ
  isplitl [H7]
  · iexists _; isplitr; swap; · iexact H7
    ipureintro; rfl
  isplitl [H16]
  · iexists _; isplitr; swap; · iexact H16
    ipureintro; exact rfl
  iexists _; isplitr; swap; · iexact H5
  ipureintro; rfl

/-- The third chunk's second layer and nearest rows. -/
theorem part9_run (c : Dev nD) (w : Wts F) (H : Vec F S4104x128 .f32)
    (K : (Σ' (v294 : FVec F S512x64 .f32) (v319 : FVec F S512x1024 .f32) (v320 : IVec S512x1 32), BitVec 32) → sProp 𝕄) :
    iprop(ow c arg16 H ∗ ow c arg5 w.W2 ∗ ow c arg6 w.B2 ∗ ow c arg8 w.CB2 ∗ ow c arg9 w.CS
      ∗ (iprop(ow c arg16 H ∗ ow c arg5 w.W2 ∗ ow c arg6 w.B2 ∗ ow c arg8 w.CB2 ∗ ow c arg9 w.CS)
        -∗ K (⟨h2 w (rowsOf H), oh2 w (rowsOf H), iota .tc S512x1 32 [0] iota_S512x1_d0_w32, 1024#32⟩)))
    ⊢ wp frame (wpE (defs₀ (F := F)) Variants.none c none) Set.univ
        (k0_part9 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 (a2 w (rowsOf H)) ((rowsOf H) 10)) K := by
  simp only [k0_part9_eq_skeleton]; unfold k0_part9_skel
  unfold ow owns
  iintro ⟨⟨%f16, %e16, H16⟩, ⟨%f5, %e5, H5⟩, ⟨%f6, %e6, H6⟩, ⟨%f8, %e8, H8⟩, ⟨%f9, %e9, H9⟩, Hk⟩
  have hK : ∀ v, (⟨h2 w (rowsOf H), oh2 w (rowsOf H), iota .tc S512x1 32 [0] iota_S512x1_d0_w32, 1024#32⟩) = v → (K (⟨h2 w (rowsOf H), oh2 w (rowsOf H), iota .tc S512x1 32 [0] iota_S512x1_d0_w32, 1024#32⟩) ⊢ K v) := fun v h => kcast h
  obtain ⟨W1, B1, W2, B2, CB, CB2, CS⟩ := w
  dsimp only at e5 e6 e8 e9
  subst e5
  subst e6
  subst e8
  subst e9
  subst e16
  sl_exec
  sl_step
  unfold part9_run.sl.v320
  have F6 : View.readAt (Elt F) arg6.view (Rect.unit (s := S1x64) ![0, 0] S1x64.size inb_S1x64_S1x64_0_0).toLoadRect f6 = View.read (Elt F) arg6.view f6 := View.readAt_full _ _ _
  have F8 : View.readAt (Elt F) arg8.view (Rect.unit (s := S1024x64) ![0, 0] S1024x64.size inb_S1024x64_S1024x64_0_0).toLoadRect f8 = View.read (Elt F) arg8.view f8 := View.readAt_full _ _ _
  have F9 : View.readAt (Elt F) arg9.view (Rect.unit (s := S1x1024) ![0, 0] S1x1024.size inb_S1x1024_S1x1024_0_0).toLoadRect f9 = View.read (Elt F) arg9.view f9 := View.readAt_full _ _ _
  iapply (hK _ ?_)
  · rw [F6, F8, F9]; rfl
  iapply Hk
  isplitl [H16]
  · iexists _; isplitr; swap; · iexact H16
    ipureintro; exact rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro; rfl
  iexists _; isplitr; swap; · iexact H9
  ipureintro; rfl

/-- The third chunk's counts, squared error and output rows. -/
theorem part10_run (c : Dev nD) (w : Wts F) (H : Vec F S4104x128 .f32) (v5 v2 : BitVec 32) (C : Vec F S1x1024 .f32) (m : Elt F .f32)
    (fq : Buf (Elt F) (qM.view.loc (c : Thread nD τ))) (Sq : Finset (Idx (qM.view.loc (c : Thread nD τ))))
    (hS : (qM.access (Rect.unit (s := S2x64x2048) (k0_off22 i) S1x64x512.size (k0_off22_inb i))).set ⊆ Sq)
    (K : (Σ' (v357 : FVec F S512x64 .f32), Vec F S512x128 .f32) → sProp 𝕄) :
    iprop(ow c arg18 C ∗ ow c arg19 (fun _ => m) ∗ (qM.view.loc (c : Thread nD τ) ↦[Sq]{fullShare} fq) ∗ ow c arg7 w.CB ∗ ow c arg16 H
      ∗ (iprop(ow c arg18 (ct2 w (rowsOf H) v5 C)
          ∗ ow c arg19 (fun _ => ms2 w (rowsOf H) v5 m)
          ∗ (qM.view.loc (c : Thread nD τ) ↦[Sq]{fullShare} ((qM.access (Rect.unit (s := S2x64x2048) (k0_off22 i) S1x64x512.size (k0_off22_inb i))).write (Elt F) fq (qo2 w (rowsOf H)) Finset.univ))
          ∗ ow c arg7 w.CB ∗ ow c arg16 H)
        -∗ K (⟨k0_pay39, (rowsOf H) 12⟩)))
    ⊢ wp frame (wpE (defs₀ (F := F)) Variants.none c none) Set.univ
        (k0_part10 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 v2 v5 (h2 w (rowsOf H)) (oh2 w (rowsOf H)) (iota .tc S512x1 32 [0] iota_S512x1_d0_w32) 1024#32) K := by
  simp only [k0_part10_eq_skeleton]; unfold k0_part10_skel
  unfold ow owns
  iintro ⟨⟨%f18, %e18, H18⟩, ⟨%f19, %e19, H19⟩, HQ, ⟨%f7, %e7, H7⟩, ⟨%f16, %e16, H16⟩, Hk⟩
  have hK : ∀ v, (⟨k0_pay39, (rowsOf H) 12⟩) = v → (K (⟨k0_pay39, (rowsOf H) 12⟩) ⊢ K v) := fun v h => kcast h
  obtain ⟨W1, B1, W2, B2, CB, CB2, CS⟩ := w
  dsimp only at e7
  subst e7
  subst e16
  subst e18
  sl_exec
  iapply (wp_load_rect Variants.none (c : Thread nD τ) none Set.univ hS) $$ HQ
  iintro HQ
  iapply (wp_store Variants.none (c : Thread nD τ) none Set.univ (Mk := Finset.univ) hS) $$ HQ
  iintro HQ
  rw [rbind]
  sl_exec
  sl_step
  have hm : View.readAt (Elt F) arg19.view (Rect.unit ![0] S1.size inb_S1_S1_0).toLoadRect f19 (Shape.Idx.first (by decide)) = m := congrFun ((View.readAt_full _ _ _).trans e19) _
  try unfold part10_run.sl.r
  have F18 : View.readAt (Elt F) arg18.view (Rect.unit (s := S1x1024) ![0, 0] S1x1024.size inb_S1x1024_S1x1024_0_0).toLoadRect f18 = View.read (Elt F) arg18.view f18 := View.readAt_full _ _ _
  have F7 : View.readAt (Elt F) arg7.view (Rect.unit (s := S1024x64) ![0, 0] S1024x64.size inb_S1024x64_S1024x64_0_0).toLoadRect f7 = View.read (Elt F) arg7.view f7 := View.readAt_full _ _ _
  rw [F7]
  iapply (hK _ ?_)
  · rfl
  iapply Hk
  isplitl [H18]
  · iexists _; isplitr; swap; · iexact H18
    ipureintro; refine (View.read_writes_full _ _ _ _ _).trans ?_; rw [F18]; rfl
  isplitl [H19]
  · iexists _; isplitr; swap; · iexact H19
    ipureintro; refine (View.read_writes_full _ _ _ _ _).trans ?_; rw [hm]; rfl
  isplitl [HQ]; · iexact HQ
  isplitl [H7]
  · iexists _; isplitr; swap; · iexact H7
    ipureintro; rfl
  iexists _; isplitr; swap; · iexact H16
  ipureintro; exact rfl

/-- The last chunk's second layer and distances. -/
theorem part11_run (c : Dev nD) (w : Wts F) (H : Vec F S4104x128 .f32)
    (K : (Σ' (v382 : FVec F S512x64 .f32) (v388 : FVec F S512x1024 .f32), FVec F S512x1024 .f32) → sProp 𝕄) :
    iprop(ow c arg16 H ∗ ow c arg5 w.W2 ∗ ow c arg6 w.B2 ∗ ow c arg8 w.CB2 ∗ ow c arg9 w.CS
      ∗ (iprop(ow c arg16 H ∗ ow c arg5 w.W2 ∗ ow c arg6 w.B2 ∗ ow c arg8 w.CB2 ∗ ow c arg9 w.CS)
        -∗ K (⟨h3 w (rowsOf H), dt3 w (rowsOf H), ds3 w (rowsOf H)⟩)))
    ⊢ wp frame (wpE (defs₀ (F := F)) Variants.none c none) Set.univ
        (k0_part11 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 k0_pay39 ((rowsOf H) 12)) K := by
  simp only [k0_part11_eq_skeleton]; unfold k0_part11_skel
  unfold ow owns
  iintro ⟨⟨%f16, %e16, H16⟩, ⟨%f5, %e5, H5⟩, ⟨%f6, %e6, H6⟩, ⟨%f8, %e8, H8⟩, ⟨%f9, %e9, H9⟩, Hk⟩
  have hK : ∀ v, (⟨h3 w (rowsOf H), dt3 w (rowsOf H), ds3 w (rowsOf H)⟩) = v → (K (⟨h3 w (rowsOf H), dt3 w (rowsOf H), ds3 w (rowsOf H)⟩) ⊢ K v) := fun v h => kcast h
  obtain ⟨W1, B1, W2, B2, CB, CB2, CS⟩ := w
  dsimp only at e5 e6 e8 e9
  subst e5
  subst e6
  subst e8
  subst e9
  subst e16
  sl_exec
  sl_step
  have F6 : View.readAt (Elt F) arg6.view (Rect.unit (s := S1x64) ![0, 0] S1x64.size inb_S1x64_S1x64_0_0).toLoadRect f6 = View.read (Elt F) arg6.view f6 := View.readAt_full _ _ _
  have F8 : View.readAt (Elt F) arg8.view (Rect.unit (s := S1024x64) ![0, 0] S1024x64.size inb_S1024x64_S1024x64_0_0).toLoadRect f8 = View.read (Elt F) arg8.view f8 := View.readAt_full _ _ _
  have F9 : View.readAt (Elt F) arg9.view (Rect.unit (s := S1x1024) ![0, 0] S1x1024.size inb_S1x1024_S1x1024_0_0).toLoadRect f9 = View.read (Elt F) arg9.view f9 := View.readAt_full _ _ _
  iapply (hK _ ?_)
  · rw [F6, F8, F9]; rfl
  iapply Hk
  isplitl [H16]
  · iexists _; isplitr; swap; · iexact H16
    ipureintro; exact rfl
  isplitl [H5]
  · iexists _; isplitr; swap; · iexact H5
    ipureintro; rfl
  isplitl [H6]
  · iexists _; isplitr; swap; · iexact H6
    ipureintro; rfl
  isplitl [H8]
  · iexists _; isplitr; swap; · iexact H8
    ipureintro; rfl
  iexists _; isplitr; swap; · iexact H9
  ipureintro; rfl

/-- The last chunk's counts, quantized rows and squared error. -/
theorem part12_run (c : Dev nD) (w : Wts F) (T : Fin 16 → Vec F S512x128 .f32) (v5 : BitVec 32) (C : Vec F S1x1024 .f32) (m : Elt F .f32)
    (K : (Σ' (v424 : FVec F S512x64 .f32), F .f32) → sProp 𝕄) :
    iprop(ow c arg18 C ∗ ow c arg19 (fun _ => m) ∗ ow c arg7 w.CB
      ∗ (iprop(ow c arg18 (ct3 w T v5 C)
          ∗ ow c arg19 (fun _ => m)
          ∗ ow c arg7 w.CB)
        -∗ K (⟨qt3 w T, ms3 w T v5 m⟩)))
    ⊢ wp frame (wpE (defs₀ (F := F)) Variants.none c none) Set.univ
        (k0_part12 i xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 v5 (h3 w T) (dt3 w T) (ds3 w T)) K := by
  simp only [k0_part12_eq_skeleton]; unfold k0_part12_skel
  unfold ow owns
  iintro ⟨⟨%f18, %e18, H18⟩, ⟨%f19, %e19, H19⟩, ⟨%f7, %e7, H7⟩, Hk⟩
  have hK : ∀ v, (⟨qt3 w T, ms3 w T v5 m⟩) = v → (K (⟨qt3 w T, ms3 w T v5 m⟩) ⊢ K v) := fun v h => kcast h
  obtain ⟨W1, B1, W2, B2, CB, CB2, CS⟩ := w
  dsimp only at e7
  subst e7
  subst e18
  sl_exec
  sl_step
  have hm : View.readAt (Elt F) arg19.view (Rect.unit ![0] S1.size inb_S1_S1_0).toLoadRect f19 (Shape.Idx.first (by decide)) = m := congrFun ((View.readAt_full _ _ _).trans e19) _
  try unfold part12_run.sl.r
  have F18 : View.readAt (Elt F) arg18.view (Rect.unit (s := S1x1024) ![0, 0] S1x1024.size inb_S1x1024_S1x1024_0_0).toLoadRect f18 = View.read (Elt F) arg18.view f18 := View.readAt_full _ _ _
  have F7 : View.readAt (Elt F) arg7.view (Rect.unit (s := S1024x64) ![0, 0] S1024x64.size inb_S1024x64_S1024x64_0_0).toLoadRect f7 = View.read (Elt F) arg7.view f7 := View.readAt_full _ _ _
  iapply (hK _ ?_)
  · rw [F7, hm]; rfl
  iapply Hk
  isplitl [H18]
  · iexists _; isplitr; swap; · iexact H18
    ipureintro; refine (View.read_writes_full _ _ _ _ _).trans ?_; rw [F18]; rfl
  isplitl [H19]
  · iexists _; isplitr; swap; · iexact H19
    ipureintro; exact e19
  iexists _; isplitr; swap; · iexact H7
  ipureintro; rfl

end Cert.KernelIdeal.Hand

end
-- ==== Proof.IGeom.lean ====
/-
  Hand-written: the places the kernel's copies and accesses touch, as boxes of indices in closed form at each grid
  point; what a copy between two boxes leaves; and the values the buffers hold at each step as functions of the
  kernel's arrays.
-/
module

public import proofs.«01_k».proof.Proof.IParts

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ### The offsets at each point -/

theorem off1_eq : ∀ t : Fin grid0.N, k0_off1 (grid0.coords t) = ![t.val % 2] := by decide +kernel
theorem off2_eq : ∀ t : Fin grid0.N, k0_off2 (grid0.coords t) = ![t.val % 2, 0, 0] := by decide +kernel
theorem off3_eq : ∀ t : Fin grid0.N, k0_off3 (grid0.coords t) = ![t.val / 4, 0, 8192 * (t.val % 4)] := by decide +kernel
theorem off4_eq : ∀ t : Fin grid0.N, k0_off4 (grid0.coords t) = ![t.val % 2, 0, 8192] := by decide +kernel
theorem off5_eq : ∀ t : Fin grid0.N, k0_off5 (grid0.coords t) = ![t.val / 4, 0, 128 * min (64 * (t.val % 4) + 64) 255] := by decide +kernel
theorem off6_eq : ∀ t : Fin grid0.N, k0_off6 (grid0.coords t) = ![(t.val + 1) % 2] := by decide +kernel
theorem off7_eq : ∀ t : Fin grid0.N, k0_off7 (grid0.coords t) = ![(t.val + 1) % 2, 0, 0] := by decide +kernel
theorem off8_eq : ∀ t : Fin grid0.N, t.val < 15 → k0_off8 (grid0.coords t) = ![(t.val + 1) / 4, 0, 8192 * ((t.val + 1) % 4)] := by decide +kernel
theorem off9_eq : ∀ t : Fin grid0.N, k0_off9 (grid0.coords t) = ![(t.val + 1) % 2, 0, 8192] := by decide +kernel
theorem off10_eq : ∀ t : Fin grid0.N, t.val < 15 → k0_off10 (grid0.coords t) = ![(t.val + 1) / 4, 0, 128 * min (64 * ((t.val + 1) % 4) + 64) 255] := by decide +kernel
theorem off11_eq : ∀ t : Fin grid0.N, k0_off11 (grid0.coords t) = ![t.val % 2] := by decide +kernel
theorem off16_eq : ∀ t : Fin grid0.N, k0_off16 (grid0.coords t) = ![t.val % 2, 0, 0] := by decide +kernel
theorem off17_eq : ∀ t : Fin grid0.N, k0_off17 (grid0.coords t) = ![t.val % 2] := by decide +kernel
theorem off20_eq : ∀ t : Fin grid0.N, k0_off20 (grid0.coords t) = ![t.val % 2, 0, 0] := by decide +kernel
theorem off21_eq : ∀ t : Fin grid0.N, k0_off21 (grid0.coords t) = ![t.val % 2, 0, 512] := by decide +kernel
theorem off22_eq : ∀ t : Fin grid0.N, k0_off22 (grid0.coords t) = ![t.val % 2, 0, 1024] := by decide +kernel
theorem off23_eq : ∀ t : Fin grid0.N, k0_off23 (grid0.coords t) = ![t.val % 2, 0, 1536] := by decide +kernel
theorem off24_eq : ∀ t : Fin grid0.N, k0_off24 (grid0.coords t) = ![t.val / 4, 0, 2048 * (t.val % 4)] := by decide +kernel
theorem off25_eq : ∀ t : Fin grid0.N, k0_off25 (grid0.coords t) = ![t.val % 2, 0, 0] := by decide +kernel
theorem off26_eq : ∀ t : Fin grid0.N, k0_off26 (grid0.coords t) = ![t.val % 2] := by decide +kernel
theorem off29_eq : ∀ t : Fin grid0.N, k0_off29 (grid0.coords t) = ![(t.val + 1) % 2] := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val < 15 := by decide +kernel
theorem cond3_iff : ∀ t : Fin grid0.N, k0_cond3 (grid0.coords t) = 1#1 ↔ 2 ≤ t.val := by decide +kernel
theorem cond4_iff : ∀ t : Fin grid0.N, k0_cond4 (grid0.coords t) = 1#1 ↔ t.val = 15 := by decide +kernel

/-! ### Boxes -/

/-- The indices of a box. -/
def box {s : Shape} (off size : Fin s.rank → ℕ) : Finset s.Idx :=
  Finset.univ.filter fun i => ∀ a, off a ≤ (i a).val ∧ (i a).val < off a + size a

theorem mem_box {s : Shape} {off size : Fin s.rank → ℕ} {i : s.Idx} :
    i ∈ box off size ↔ ∀ a, off a ≤ (i a).val ∧ (i a).val < off a + size a := by
  simp only [box, Finset.mem_filter, Finset.mem_univ, true_and]

/-- The indices of a three-dimensional box, axis by axis. -/
theorem mem_box3 {n0 n1 n2 a b c x y z : ℕ} {i : (⟨3, ![n0, n1, n2]⟩ : Shape).Idx} :
    i ∈ box (s := ⟨3, ![n0, n1, n2]⟩) ![a, b, c] ![x, y, z]
      ↔ (a ≤ (i 0).val ∧ (i 0).val < a + x) ∧ (b ≤ (i 1).val ∧ (i 1).val < b + y) ∧ (c ≤ (i 2).val ∧ (i 2).val < c + z) := by
  rw [mem_box]
  constructor
  · intro h; exact ⟨h 0, h 1, h 2⟩
  · rintro ⟨h0, h1, h2⟩ a; fin_cases a
    exacts [h0, h1, h2]

theorem set_unit_eq {s : Shape} (off size : Fin s.rank → ℕ) (inb : ∀ a, off a + size a ≤ s.size a) :
    (Rect.unit off size inb).set = box off size := by
  ext i; rw [Rect.mem_set_unit, mem_box]

/-- The elements a slice of a whole buffer at a box, squeezed, names. -/
theorem set_slice_box (b : Ref sig .tc) (off size : Fin b.ty.shape.rank → ℕ) (inb) (h) (s' : Shape)
    (hq : (Rect.unit off size inb).shape.Squeezes s') :
    (((Memref.whole b).slice (Rect.unit off size inb) h).squeeze s' hq).view.set = box off size :=
  ((Memref.set_view_squeeze _ _).trans (View.set_slice_whole _ _)).trans (set_unit_eq _ _ _)

/-- The elements an access of a whole buffer at a box names. -/
theorem set_access_box (b : Ref sig .tc) (off size : Fin b.ty.shape.rank → ℕ) (inb) :
    ((Memref.whole b).access (Rect.unit off size inb)).set = box off size :=
  (View.set_slice_whole _ _).trans (set_unit_eq _ _ _)

/-- The first three coordinates an element of the input array is read at, each reduced to its axis. -/
def ix3 (s : Shape) (h : ∀ a, 0 < s.size a) (v : Fin s.rank → ℕ) : s.Idx := fun a => ⟨v a % s.size a, Nat.mod_lt _ (h a)⟩

/-- The three-coordinate index. -/
def xIdx (b c j : ℕ) : S4x256x32768.Idx := ix3 S4x256x32768 (by decide) ![b, c, j]

end Cert.KernelIdeal.Hand

end
-- ==== Proof.IHeld.lean ====
/-
  Hand-written: what every buffer of the kernel holds at each grid step, as functions of the input array and the
  weights.
-/
module

public import proofs.«01_k».proof.Proof.IGeom
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- Column `j` of step `t`'s input window, in the input array. -/
def xcol (t j : ℕ) : ℕ := if j < 8192 then 8192 * (t % 4) + j else 128 * min (64 * (t % 4) + 64) 255 + (j - 8192)

/-- Step `t`'s input window, in either slot of the window buffer. -/
def XW (X : Vec F S4x256x32768 .f32) (t : ℕ) : Vec F S2x256x8320 .f32 :=
  fun i => X (xIdx (t / 4) (i 1).val (xcol t (i 2).val))

/-- Step `t`'s input window. -/
def XV (X : Vec F S4x256x32768 .f32) (t : ℕ) : Vec F S1x256x8320 .f32 :=
  fun i => X (xIdx (t / 4) (i 1).val (xcol t (i 2).val))

/-- How many of step `t`'s 2048 rows the problem has. -/
def vld (t : ℕ) : BitVec 32 := if t % 4 = 3 then 2046#32 else 2048#32

/-- Step `t`'s first layer, as its chunks read it. -/
def TT (w : Wts F) (X : Vec F S4x256x32768 .f32) (t : ℕ) : Fin 16 → Vec F S512x128 .f32 := rowsOf (padH (h1Of w (XV X t)))

/-- The counts before step `t`. -/
def CNT (w : Wts F) (X : Vec F S4x256x32768 .f32) : ℕ → Vec F S1x1024 .f32
  | 0 => k0_pay4
  | t + 1 => stepCt w (TT w X t) (vld t) (CNT w X t)

/-- The running squared error before step `t`. -/
def MS (w : Wts F) (X : Vec F S4x256x32768 .f32) : ℕ → F .f32
  | 0 => Scalar.ofBits .f32 0x00000000#32
  | t + 1 => stepMs w (TT w X t) (vld t) (MS w X t)

/-- A chunk's output rows at a channel and a row. -/
def qAt (v : FVec F S1x64x512 .f32) (ch r : ℕ) : F .f32 := v (ix3 S1x64x512 (by decide) ![0, ch, r])

/-- Step `t`'s output block at a channel and a column. -/
def QV (w : Wts F) (X : Vec F S4x256x32768 .f32) (t ch col : ℕ) : F .f32 :=
  if col < 512 then qAt (qo0 w (TT w X t)) ch col
  else if col < 1024 then qAt (qo1 w (TT w X t)) ch (col - 512)
  else if col < 1536 then qAt (qo2 w (TT w X t)) ch (col - 1024)
  else qAt (qo3 w (TT w X t)) ch (col - 1536)

/-- Step `t`'s output block, in either slot. -/
def QW (w : Wts F) (X : Vec F S4x256x32768 .f32) (t : ℕ) : Vec F S2x64x2048 .f32 := fun i => QV w X t (i 1).val (i 2).val

/-- The output array the kernel leaves. -/
def GOUT (w : Wts F) (X : Vec F S4x256x32768 .f32) : Vec F S4x64x8192 .f32 :=
  fun i => QV w X (4 * (i 0).val + (i 2).val / 2048) (i 1).val ((i 2).val % 2048)

/-! ### Copies -/

/-- A copy between two slices of whole buffers with boxes of the same sizes moves each element by the difference of
    the two corners. -/
theorem copy_main (X : Vec F S4x256x32768 .f32) (fd : Vec F S2x256x8320 .f32) {od : Fin 3 → ℕ} {os : Fin 3 → ℕ}
    (hd : ∀ a, od a + S1x256x8192.size a ≤ S2x256x8320.size a) (hs : ∀ a, os a + S1x256x8192.size a ≤ S4x256x32768.size a)
    (i : S2x256x8320.Idx) (hi : i ∈ box (s := S2x256x8320) od S1x256x8192.size) (i' : S4x256x32768.Idx)
    (he : ∀ a, (i' a).val = os a + ((i a).val - od a)) :
    ((xwM.slice (Rect.unit (s := S2x256x8320) od S1x256x8192.size hd) (fun _ => rfl)).squeeze S256x8192 squeezes_S1x256x8192_S256x8192).view.write (Elt F) fd
      (((xM.slice (Rect.unit (s := S4x256x32768) os S1x256x8192.size hs) (fun _ => rfl)).squeeze S256x8192 squeezes_S1x256x8192_S256x8192).view.read (Elt F) X) Finset.univ i
      = X i' := by
  have hi' := hi
  rw [← set_slice_box cc0_scratch0 od S1x256x8192.size hd (fun _ => rfl) S256x8192 squeezes_S1x256x8192_S256x8192] at hi'
  obtain ⟨y, rfl⟩ := View.exists_emb_of_mem_set _ hi'
  refine (View.write_emb_of_mem (M := Finset.univ) (x := y) _ _ (Finset.mem_univ y)).trans ?_
  show X _ = X i'
  congr 1
  funext a
  apply Fin.ext
  rw [he a]
  refine (ValueKit.view_emb_slice_whole_unit_val main_arg0 os S1x256x8192.size hs (Shape.reshapeEquiv squeezes_S1x256x8192_S256x8192.numel_eq y) a).trans ?_
  refine congrArg (os a + ·) (Nat.add_sub_cancel_left (od a) _).symm |>.trans ?_
  refine congrArg (fun z => os a + (z - od a)) ?_
  exact (ValueKit.view_emb_slice_whole_unit_val cc0_scratch0 od S1x256x8192.size hd (Shape.reshapeEquiv squeezes_S1x256x8192_S256x8192.numel_eq y) a).symm

/-- A copy between two slices of whole buffers with boxes of the same sizes moves each element by the difference of
    the two corners. -/
theorem copy_tail (X : Vec F S4x256x32768 .f32) (fd : Vec F S2x256x8320 .f32) {od : Fin 3 → ℕ} {os : Fin 3 → ℕ}
    (hd : ∀ a, od a + S1x256x128.size a ≤ S2x256x8320.size a) (hs : ∀ a, os a + S1x256x128.size a ≤ S4x256x32768.size a)
    (i : S2x256x8320.Idx) (hi : i ∈ box (s := S2x256x8320) od S1x256x128.size) (i' : S4x256x32768.Idx)
    (he : ∀ a, (i' a).val = os a + ((i a).val - od a)) :
    ((xwM.slice (Rect.unit (s := S2x256x8320) od S1x256x128.size hd) (fun _ => rfl)).squeeze S256x128 squeezes_S1x256x128_S256x128).view.write (Elt F) fd
      (((xM.slice (Rect.unit (s := S4x256x32768) os S1x256x128.size hs) (fun _ => rfl)).squeeze S256x128 squeezes_S1x256x128_S256x128).view.read (Elt F) X) Finset.univ i
      = X i' := by
  have hi' := hi
  rw [← set_slice_box cc0_scratch0 od S1x256x128.size hd (fun _ => rfl) S256x128 squeezes_S1x256x128_S256x128] at hi'
  obtain ⟨y, rfl⟩ := View.exists_emb_of_mem_set _ hi'
  refine (View.write_emb_of_mem (M := Finset.univ) (x := y) _ _ (Finset.mem_univ y)).trans ?_
  show X _ = X i'
  congr 1
  funext a
  apply Fin.ext
  rw [he a]
  refine (ValueKit.view_emb_slice_whole_unit_val main_arg0 os S1x256x128.size hs (Shape.reshapeEquiv squeezes_S1x256x128_S256x128.numel_eq y) a).trans ?_
  refine congrArg (os a + ·) (Nat.add_sub_cancel_left (od a) _).symm |>.trans ?_
  refine congrArg (fun z => os a + (z - od a)) ?_
  exact (ValueKit.view_emb_slice_whole_unit_val cc0_scratch0 od S1x256x128.size hd (Shape.reshapeEquiv squeezes_S1x256x128_S256x128.numel_eq y) a).symm

/-- A copy between two slices of whole buffers with boxes of the same sizes moves each element by the difference of
    the two corners. -/
theorem copy_out (X : Vec F S2x64x2048 .f32) (fd : Vec F S4x64x8192 .f32) {od : Fin 3 → ℕ} {os : Fin 3 → ℕ}
    (hd : ∀ a, od a + S1x64x2048.size a ≤ S4x64x8192.size a) (hs : ∀ a, os a + S1x64x2048.size a ≤ S2x64x2048.size a)
    (i : S4x64x8192.Idx) (hi : i ∈ box (s := S4x64x8192) od S1x64x2048.size) (i' : S2x64x2048.Idx)
    (he : ∀ a, (i' a).val = os a + ((i a).val - od a)) :
    ((oM.slice (Rect.unit (s := S4x64x8192) od S1x64x2048.size hd) (fun _ => rfl)).squeeze S64x2048 squeezes_S1x64x2048_S64x2048).view.write (Elt F) fd
      (((qM.slice (Rect.unit (s := S2x64x2048) os S1x64x2048.size hs) (fun _ => rfl)).squeeze S64x2048 squeezes_S1x64x2048_S64x2048).view.read (Elt F) X) Finset.univ i
      = X i' := by
  have hi' := hi
  rw [← set_slice_box main_call0_v10_0 od S1x64x2048.size hd (fun _ => rfl) S64x2048 squeezes_S1x64x2048_S64x2048] at hi'
  obtain ⟨y, rfl⟩ := View.exists_emb_of_mem_set _ hi'
  refine (View.write_emb_of_mem (M := Finset.univ) (x := y) _ _ (Finset.mem_univ y)).trans ?_
  show X _ = X i'
  congr 1
  funext a
  apply Fin.ext
  rw [he a]
  refine (ValueKit.view_emb_slice_whole_unit_val cc0_scratch4 os S1x64x2048.size hs (Shape.reshapeEquiv squeezes_S1x64x2048_S64x2048.numel_eq y) a).trans ?_
  refine congrArg (os a + ·) (Nat.add_sub_cancel_left (od a) _).symm |>.trans ?_
  refine congrArg (fun z => os a + (z - od a)) ?_
  exact (ValueKit.view_emb_slice_whole_unit_val main_call0_v10_0 od S1x64x2048.size hd (Shape.reshapeEquiv squeezes_S1x64x2048_S64x2048.numel_eq y) a).symm

end Cert.KernelIdeal.Hand

end
-- ==== Proof.IFlow.lean ====
/-
  Hand-written: the input copies. A slot of the window buffer is idle, or has its two copies (the window's 8192
  columns and the 128 past them) in flight on the slot's one semaphore.
-/
module

public import proofs.«01_k».proof.Proof.IHeld

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "EC" => (countersEmb (U := Pipeline.UD sig nD τ))

/-- The semaphore of slot `p` of the window buffer. -/
def semIn (p : ℕ) : DmaSem sig := cc0_scratch7.ix (ix3 S2 (by decide) fun _ => p)
/-- The semaphore of slot `p` of the output buffer. -/
def semOut (p : ℕ) : DmaSem sig := cc0_scratch8.ix (ix3 S2 (by decide) fun _ => p)

theorem sem_in_eq {p : ℕ} (hp : p < 2) {o : Fin 1 → ℕ} (inb) (e : o = ![p]) :
    ((cc0_scratch7.slice (Rect.unit (s := S2) o S1.size inb)).squeeze S_ squeezes_S1_S_).sem = semIn p := by
  subst e
  refine congrArg cc0_scratch7.ix (funext fun a => Fin.ext ?_)
  refine (ValueKit.rect_emb_unit_val _ _ _ _ a).trans ?_
  fin_cases a
  simp only [ix3]
  have h : ((Shape.reshapeEquiv squeezes_S1_S_.numel_eq (fun i => i.elim0) : S1.Idx) 0).val = 0 := by
    have := ((Shape.reshapeEquiv squeezes_S1_S_.numel_eq (fun i => i.elim0) : S1.Idx) 0).isLt
    have h1 : S1.size 0 = 1 := rfl
    omega
  show p + _ = p % 2
  rw [Nat.mod_eq_of_lt hp]
  exact congrArg (p + ·) h

theorem sem_out_eq {p : ℕ} (hp : p < 2) {o : Fin 1 → ℕ} (inb) (e : o = ![p]) :
    ((cc0_scratch8.slice (Rect.unit (s := S2) o S1.size inb)).squeeze S_ squeezes_S1_S_).sem = semOut p := by
  subst e
  refine congrArg cc0_scratch8.ix (funext fun a => Fin.ext ?_)
  refine (ValueKit.rect_emb_unit_val _ _ _ _ a).trans ?_
  fin_cases a
  simp only [ix3]
  have h : ((Shape.reshapeEquiv squeezes_S1_S_.numel_eq (fun i => i.elim0) : S1.Idx) 0).val = 0 := by
    have := ((Shape.reshapeEquiv squeezes_S1_S_.numel_eq (fun i => i.elim0) : S1.Idx) 0).isLt
    have h1 : S1.size 0 = 1 := rfl
    omega
  show p + _ = p % 2
  rw [Nat.mod_eq_of_lt hp]
  exact congrArg (p + ·) h

variable (c : Dev nD) (X : Vec F S4x256x32768 .f32)

/-- The share of the input array each of the four copies in flight reads through. -/
def qs : ℕ → PosShare TreeShare
  | 0 => fullShare.left.left
  | 1 => fullShare.left.right
  | 2 => fullShare.right.left
  | _ => fullShare.right.right

/-- The input array at some elements and one of the four shares. -/
abbrev xS (k : ℕ) (S : Finset S4x256x32768.Idx) : sProp 𝕄 := xM.view.loc (c : Thread nD τ) ↦[S]{qs k} X

/-- The elements of the input array step `t`'s main copy reads. -/
abbrev mb (t : ℕ) : Finset S4x256x32768.Idx := box (s := S4x256x32768) ![t / 4, 0, 8192 * (t % 4)] S1x256x8192.size
/-- The elements of the input array step `t`'s tail copy reads. -/
abbrev tb (t : ℕ) : Finset S4x256x32768.Idx := box (s := S4x256x32768) ![t / 4, 0, 128 * min (64 * (t % 4) + 64) 255] S1x256x128.size
/-- The main part of a slot of the window buffer. -/
abbrev wm (p : ℕ) : Finset S2x256x8320.Idx := box (s := S2x256x8320) ![p, 0, 0] S1x256x8192.size
/-- The tail of a slot of the window buffer. -/
abbrev wt (p : ℕ) : Finset S2x256x8320.Idx := box (s := S2x256x8320) ![p, 0, 8192] S1x256x128.size
/-- A slot of the window buffer. -/
abbrev wb (p : ℕ) : Finset S2x256x8320.Idx := box (s := S2x256x8320) ![p, 0, 0] S1x256x8320.size

theorem mem_wb {p : ℕ} {i : S2x256x8320.Idx} : i ∈ wb p ↔ (i 0).val = p := by
  refine mem_box3.trans ?_
  have h1 : (i 1).val < 256 := (i 1).isLt
  have h2 : (i 2).val < 8320 := (i 2).isLt
  omega

theorem mem_wm {p : ℕ} {i : S2x256x8320.Idx} : i ∈ wm p ↔ (i 0).val = p ∧ (i 2).val < 8192 := by
  refine mem_box3.trans ?_
  have h1 : (i 1).val < 256 := (i 1).isLt
  have h2 : (i 2).val < 8320 := (i 2).isLt
  omega

theorem mem_wt {p : ℕ} {i : S2x256x8320.Idx} : i ∈ wt p ↔ (i 0).val = p ∧ 8192 ≤ (i 2).val := by
  refine mem_box3.trans ?_
  have h1 : (i 1).val < 256 := (i 1).isLt
  have h2 : (i 2).val < 8320 := (i 2).isLt
  omega

theorem wb_eq (p : ℕ) : wb p = wm p ∪ wt p := by
  ext i
  rw [Finset.mem_union, mem_wb, mem_wm, mem_wt]
  omega

theorem wm_wt (p : ℕ) : Disjoint (wm p) (wt p) := by
  rw [Finset.disjoint_left]
  intro i h1 h2
  have := mem_wm.1 h1
  have := mem_wt.1 h2
  omega

/-- The amounts the two copies of a slot pay its semaphore. -/
def amt : Fin 2 → ℕ := ![Ref.dmaCredit cc0_scratch0 S256x8192 .f32, Ref.dmaCredit cc0_scratch0 S256x128 .f32]

/-- What the two copies of step `t` into slot `p` deliver. -/
def DD (p t : ℕ) : Fin 2 → sProp 𝕄
  | ⟨0, _⟩ => iprop((xwM.view.loc (c : Thread nD τ) ↦[wm p]{fullShare} XW X t) ∗ xS c X (2 * p) (mb t))
  | ⟨1, _⟩ => iprop((xwM.view.loc (c : Thread nD τ) ↦[wt p]{fullShare} XW X t) ∗ xS c X (2 * p + 1) (tb t))

instance DD_storable (p t : ℕ) : ∀ j, Storable (upEmb : UEmb _ 𝕄) (DD c X p t j)
  | ⟨0, _⟩ => by unfold DD; infer_instance
  | ⟨1, _⟩ => by unfold DD; infer_instance

/-- A slot with nothing in flight. -/
def Idle (p : ℕ) : sProp 𝕄 :=
  iprop(semVal ((c : Thread nD τ), .dma (semIn p)) 0 ∗ (∃ f, xwM.view.loc (c : Thread nD τ) ↦[wb p]{fullShare} f)
    ∗ xS c X (2 * p) Finset.univ ∗ xS c X (2 * p + 1) Finset.univ)

/-- A slot whose main copy is in flight. -/
def Half (p t : ℕ) : sProp 𝕄 :=
  iprop(MixedBatch EC (c : Thread nD τ) (.dma (semIn p)) () amt (DD c X p t) 1 0 ∗ (∃ f, xwM.view.loc (c : Thread nD τ) ↦[wt p]{fullShare} f)
    ∗ xS c X (2 * p) (Finset.univ \ mb t) ∗ xS c X (2 * p + 1) Finset.univ)

/-- A slot whose two copies are in flight. -/
def Busy (p t : ℕ) : sProp 𝕄 :=
  iprop(MixedBatch EC (c : Thread nD τ) (.dma (semIn p)) () amt (DD c X p t) 2 0
    ∗ xS c X (2 * p) (Finset.univ \ mb t) ∗ xS c X (2 * p + 1) (Finset.univ \ tb t))

variable {c X}

/-- The main part of a window, in the input array. -/
abbrev xSrc (os : Fin 3 → ℕ) (hs : ∀ a, os a + S1x256x8192.size a ≤ S4x256x32768.size a) : Memref sig .tc .hbm S256x8192 .f32 :=
  (xM.slice (Rect.unit (s := S4x256x32768) os S1x256x8192.size hs) (fun _ => rfl)).squeeze S256x8192 squeezes_S1x256x8192_S256x8192
/-- The main part of a slot of the window buffer. -/
abbrev xwDst (od : Fin 3 → ℕ) (hd : ∀ a, od a + S1x256x8192.size a ≤ S2x256x8320.size a) : Memref sig .tc .vmem S256x8192 .f32 :=
  (xwM.slice (Rect.unit (s := S2x256x8320) od S1x256x8192.size hd) (fun _ => rfl)).squeeze S256x8192 squeezes_S1x256x8192_S256x8192
/-- The tail of a window, in the input array. -/
abbrev xSrcT (os : Fin 3 → ℕ) (hs : ∀ a, os a + S1x256x128.size a ≤ S4x256x32768.size a) : Memref sig .tc .hbm S256x128 .f32 :=
  (xM.slice (Rect.unit (s := S4x256x32768) os S1x256x128.size hs) (fun _ => rfl)).squeeze S256x128 squeezes_S1x256x128_S256x128
/-- The tail of a slot of the window buffer. -/
abbrev xwDstT (od : Fin 3 → ℕ) (hd : ∀ a, od a + S1x256x128.size a ≤ S2x256x8320.size a) : Memref sig .tc .vmem S256x128 .f32 :=
  (xwM.slice (Rect.unit (s := S2x256x8320) od S1x256x128.size hd) (fun _ => rfl)).squeeze S256x128 squeezes_S1x256x128_S256x128

/-- Where the main copy of step `t` reads the elements it writes. -/
theorem XW_main {p t : ℕ} (hp : p < 2) (ht : t < 16) {i : S2x256x8320.Idx} (hi : i ∈ wm p) (a : Fin 3) :
    (xIdx (t / 4) (i 1).val (xcol t (i 2).val) a).val = (![t / 4, 0, 8192 * (t % 4)] : Fin 3 → ℕ) a + ((i a).val - (![p, 0, 0] : Fin 3 → ℕ) a) := by
  obtain ⟨h0, h2⟩ := mem_wm.1 hi
  have h1 : (i 1).val < 256 := (i 1).isLt
  fin_cases a
  · show t / 4 % 4 = t / 4 + ((i 0).val - p); omega
  · show (i 1).val % 256 = 0 + ((i 1).val - 0); omega
  · show xcol t (i 2).val % 32768 = 8192 * (t % 4) + ((i 2).val - 0)
    rw [xcol, if_pos h2]; omega

/-- Where the tail copy of step `t` reads the elements it writes. -/
theorem XW_tail {p t : ℕ} (hp : p < 2) (ht : t < 16) {i : S2x256x8320.Idx} (hi : i ∈ wt p) (a : Fin 3) :
    (xIdx (t / 4) (i 1).val (xcol t (i 2).val) a).val
      = (![t / 4, 0, 128 * min (64 * (t % 4) + 64) 255] : Fin 3 → ℕ) a + ((i a).val - (![p, 0, 8192] : Fin 3 → ℕ) a) := by
  obtain ⟨h0, h2⟩ := mem_wt.1 hi
  have h1 : (i 1).val < 256 := (i 1).isLt
  have h3 : (i 2).val < 8320 := (i 2).isLt
  fin_cases a
  · show t / 4 % 4 = t / 4 + ((i 0).val - p); omega
  · show (i 1).val % 256 = 0 + ((i 1).val - 0); omega
  · show xcol t (i 2).val % 32768 = 128 * min (64 * (t % 4) + 64) 255 + ((i 2).val - 8192)
    rw [xcol, if_neg (by omega)]; omega

/-- Issuing the main copy of step `t` into slot `p`. -/
theorem start_main {α : Type} {p t : ℕ} (hp : p < 2) (ht : t < 16) {od : Fin 3 → ℕ} {os : Fin 3 → ℕ} {sm : DmaSem sig} {hd hs}
    (ed : od = ![p, 0, 0]) (es : os = ![t / 4, 0, 8192 * (t % 4)]) (em : sm = semIn p) {h1 h2 h3}
    {k : PUnit → Prog (TpuEff nD τ sig (Elt F) Λ₀ .tc) α} {Q : α → sProp 𝕄} :
    Idle c X p ⊢ iprop((Half c X p t -∗ wp frame (wpE (defs₀ (F := F)) Variants.none (c : Thread nD τ) none) Set.univ (k ⟨⟩) Q)
      -∗ wp frame (wpE (defs₀ (F := F)) Variants.none (c : Thread nD τ) none) Set.univ
        (.op (.enqueueDma (xSrc os hs)
          (.here (xwDst od hd))
          (.dma sm) h1 h2 h3) k) Q) := by
  subst em ed es
  have hsd := set_slice_box cc0_scratch0 ![p, 0, 0] S1x256x8192.size hd (fun _ => rfl) S256x8192 squeezes_S1x256x8192_S256x8192
  have hss := set_slice_box main_arg0 ![t / 4, 0, 8192 * (t % 4)] S1x256x8192.size hs (fun _ => rfl) S256x8192 squeezes_S1x256x8192_S256x8192
  unfold Idle Half
  iintro ⟨Hv, ⟨%f, Hw⟩, Hx0, Hx1⟩ Hk
  rw [wb_eq]
  ihave Hw := (pointsTo_union (wm_wt p)).1 $$ Hw
  icases Hw with ⟨Hm, Ht⟩
  ihave Hx0 := (pointsTo_split_subset (Finset.subset_univ (mb t))).1 $$ Hx0
  icases Hx0 with ⟨Hs, Hr⟩
  imod (mixedBatch_alloc' (Lvl := ℕ) EC (c : Thread nD τ) () amt (DD c X p t) (sm := SemLoc.dma (semIn p)) (E := Set.univ)) $$ Hv with HB
  iapply (wp_dmaMixedBatch EC Variants.none (c : Thread nD τ) none (src := xSrc _ hs) (dst := xwDst _ hd) (q := qs (2 * p)) (fs := X) (Sd := wm p) (fd := f) (D := DD c X p t) (j := 0) (u := 0)
    () amt (subset_of_eq hsd) (by decide : 0 < 2) rfl (Nat.zero_le _)
    (sep_mono (Entails.of_eq (pointsTo_congr fun i hi => copy_main X f hd hs i hi _ (fun a => XW_main hp ht hi a)))
      (Entails.of_eq (congrArg (fun S => (xM.view.loc (c : Thread nD τ) ↦[S]{qs (2 * p)} X : sProp 𝕄)) hss)))) $$ [Hs Hm HB]
  · isplitl [Hs]
    · iapply (Entails.of_eq (congrArg (fun S => (xM.view.loc (c : Thread nD τ) ↦[S]{qs (2 * p)} X : sProp 𝕄)) hss.symm)) $$ Hs
    isplitl [Hm]
    · iexact Hm
    iexact HB
  iintro HB
  iapply Hk
  isplitl [HB]; · iexact HB
  isplitl [Ht]; · iexists f; iexact Ht
  isplitl [Hr]; · iexact Hr
  iexact Hx1

end Cert.KernelIdeal.Hand

end
-- ==== Proof.IFlowB.lean ====
/-
  Hand-written: the input copies, continued — issuing the second copy of a slot, and the two waits.
-/
module

public import proofs.«01_k».proof.Proof.IFlow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "EC" => (countersEmb (U := Pipeline.UD sig nD τ))

variable (c : Dev nD) (X : Vec F S4x256x32768 .f32)

/-- A slot whose main copy has been waited for. -/
def Mid (p t : ℕ) : sProp 𝕄 :=
  iprop(MixedBatch EC (c : Thread nD τ) (.dma (semIn p)) () amt (DD c X p t) 2 (0 + amt 0)
    ∗ xS c X (2 * p) (Finset.univ \ mb t) ∗ xS c X (2 * p + 1) (Finset.univ \ tb t))

/-- A slot that holds step `t`'s window, nothing in flight. -/
def Ready (p t : ℕ) : sProp 𝕄 :=
  iprop(semVal ((c : Thread nD τ), .dma (semIn p)) 0 ∗ (xwM.view.loc (c : Thread nD τ) ↦[wb p]{fullShare} XW X t)
    ∗ xS c X (2 * p) Finset.univ ∗ xS c X (2 * p + 1) Finset.univ)

variable {c X}

theorem ready_idle {p t : ℕ} : Ready c X p t ⊢ Idle c X p := by
  unfold Ready Idle
  iintro ⟨Hv, Hw, Hx0, Hx1⟩
  isplitl [Hv]; · iexact Hv
  isplitl [Hw]; · iexists _; iexact Hw
  isplitl [Hx0]; · iexact Hx0
  iexact Hx1

theorem amt_pos : ∀ j, 0 < amt j := by decide +kernel

/-- The wait for the main copy. -/
theorem wait_main {α : Type} {p t : ℕ} {W : Waits sig Unit} {sm : DmaSem sig} (em : sm = semIn p) {src : Memref sig .tc .hbm S256x8192 .f32} {od : Fin 3 → ℕ} {hd} {h1 h2}
    {k : PUnit → Prog (TpuEff nD τ sig (Elt F) Λ₀ .tc) α} {Q : α → sProp 𝕄} :
    iprop(Busy c X p t ∗ owes (c : Thread nD τ) 0 W) ⊢ iprop((iprop(Mid c X p t ∗ owes (c : Thread nD τ) 0 (insert (SemLoc.dma (semIn p), ()) W))
        -∗ wp frame (wpE (defs₀ (F := F)) Variants.none (c : Thread nD τ) none) Set.univ (k ⟨⟩) Q)
      -∗ wp frame (wpE (defs₀ (F := F)) Variants.none (c : Thread nD τ) none) Set.univ (.op (.waitDma2 sm src (xwDst od hd) h1 h2) k) Q) := by
  subst em
  unfold Busy Mid
  iintro ⟨⟨HB, Hr0, Hr1⟩, HO⟩ Hk
  iapply (wp_waitMixedBatch EC Variants.none (c : Thread nD τ) none () (dstw := xwDst od hd) (J := amt 0) rfl (A := amt) (D := DD c X p t) (j := 2) (u := 0) (by decide +kernel) (W := W)) $$ [HB HO]
  · isplitl [HB]; · iexact HB
    iexact HO
  iintro ⟨HB, HO⟩
  iapply Hk
  isplitr [HO]
  · isplitl [HB]; · iexact HB
    isplitl [Hr0]; · iexact Hr0
    iexact Hr1
  iexact HO

/-- The wait for the tail copy: the slot holds the window. -/
theorem wait_tail {α : Type} {p t : ℕ} {W : Waits sig Unit} {sm : DmaSem sig} (em : sm = semIn p) {src : Memref sig .tc .hbm S256x128 .f32} {od : Fin 3 → ℕ} {hd} {h1 h2}
    {k : PUnit → Prog (TpuEff nD τ sig (Elt F) Λ₀ .tc) α} {Q : α → sProp 𝕄} :
    iprop(Mid c X p t ∗ owes (c : Thread nD τ) 0 W) ⊢ iprop((iprop(Ready c X p t ∗ owes (c : Thread nD τ) 0 (insert (SemLoc.dma (semIn p), ()) W))
        -∗ wp frame (wpE (defs₀ (F := F)) Variants.none (c : Thread nD τ) none) Set.univ (k ⟨⟩) Q)
      -∗ wp frame (wpE (defs₀ (F := F)) Variants.none (c : Thread nD τ) none) Set.univ (.op (.waitDma2 sm src (xwDstT od hd) h1 h2) k) Q) := by
  subst em
  unfold Mid Ready
  iintro ⟨⟨HB, Hr0, Hr1⟩, HO⟩ Hk
  iapply (wp_waitMixedBatchAll EC Variants.none (c : Thread nD τ) none () (dstw := xwDstT od hd) (J := amt 1) rfl (A := amt) amt_pos (D := DD c X p t) (u := 0 + amt 0) (by decide +kernel) (W := W)) $$ [HB HO]
  · isplitl [HB]; · iexact HB
    iexact HO
  iintro ⟨HD, Hv, HO⟩
  ihave HD := (Entails.of_eq (show bigSep Finset.univ (DD c X p t)
    = iprop(((xwM.view.loc (c : Thread nD τ) ↦[wm p]{fullShare} XW X t) ∗ xS c X (2 * p) (mb t))
        ∗ ((xwM.view.loc (c : Thread nD τ) ↦[wt p]{fullShare} XW X t) ∗ xS c X (2 * p + 1) (tb t))) from bigSep_fin_two _)) $$ HD
  icases HD with ⟨⟨Hm, Hs0⟩, Ht, Hs1⟩
  iapply Hk
  isplitr [HO]
  · isplitl [Hv]; · iexact Hv
    isplitl [Hm Ht]
    · rw [wb_eq]
      iapply (pointsTo_union (wm_wt p)).2
      isplitl [Hm]; · iexact Hm
      iexact Ht
    isplitl [Hs0 Hr0]
    · iapply (pointsTo_split_subset (Finset.subset_univ (mb t))).2
      isplitl [Hs0]; · iexact Hs0
      iexact Hr0
    iapply (pointsTo_split_subset (Finset.subset_univ (tb t))).2
    isplitl [Hs1]; · iexact Hs1
    iexact Hr1
  iexact HO

/-- Issuing the tail copy of step `t` into slot `p`. -/
theorem start_tail {α : Type} {p t : ℕ} (hp : p < 2) (ht : t < 16) {od : Fin 3 → ℕ} {os : Fin 3 → ℕ} {sm : DmaSem sig} {hd hs}
    (ed : od = ![p, 0, 8192]) (es : os = ![t / 4, 0, 128 * min (64 * (t % 4) + 64) 255]) (em : sm = semIn p) {h1 h2 h3}
    {k : PUnit → Prog (TpuEff nD τ sig (Elt F) Λ₀ .tc) α} {Q : α → sProp 𝕄} :
    Half c X p t ⊢ iprop((Busy c X p t -∗ wp frame (wpE (defs₀ (F := F)) Variants.none (c : Thread nD τ) none) Set.univ (k ⟨⟩) Q)
      -∗ wp frame (wpE (defs₀ (F := F)) Variants.none (c : Thread nD τ) none) Set.univ
        (.op (.enqueueDma (xSrcT os hs)
          (.here (xwDstT od hd))
          (.dma sm) h1 h2 h3) k) Q) := by
  subst em ed es
  have hsd := set_slice_box cc0_scratch0 ![p, 0, 8192] S1x256x128.size hd (fun _ => rfl) S256x128 squeezes_S1x256x128_S256x128
  have hss := set_slice_box main_arg0 ![t / 4, 0, 128 * min (64 * (t % 4) + 64) 255] S1x256x128.size hs (fun _ => rfl) S256x128 squeezes_S1x256x128_S256x128
  unfold Half Busy
  iintro ⟨HB, ⟨%f, Hm⟩, Hx0, Hx1⟩ Hk
  ihave Hx1 := (pointsTo_split_subset (Finset.subset_univ (tb t))).1 $$ Hx1
  icases Hx1 with ⟨Hs, Hr⟩
  iapply (wp_dmaMixedBatch EC Variants.none (c : Thread nD τ) none (src := xSrcT _ hs) (dst := xwDstT _ hd) (q := qs (2 * p + 1)) (fs := X) (Sd := wt p) (fd := f) (D := DD c X p t) (j := 1) (u := 0)
    () amt (subset_of_eq hsd) (by decide : 1 < 2) rfl (Nat.zero_le _)
    (sep_mono (Entails.of_eq (pointsTo_congr fun i hi => copy_tail X f hd hs i hi _ (fun a => XW_tail hp ht hi a)))
      (Entails.of_eq (congrArg (fun S => (xM.view.loc (c : Thread nD τ) ↦[S]{qs (2 * p + 1)} X : sProp 𝕄)) hss)))) $$ [Hs Hm HB]
  · isplitl [Hs]
    · iapply (Entails.of_eq (congrArg (fun S => (xM.view.loc (c : Thread nD τ) ↦[S]{qs (2 * p + 1)} X : sProp 𝕄)) hss.symm)) $$ Hs
    isplitl [Hm]
    · iexact Hm
    iexact HB
  iintro HB
  iapply Hk
  isplitl [HB]; · iexact HB
  isplitl [Hx0]; · iexact Hx0
  iexact Hr

end Cert.KernelIdeal.Hand

end
-- ==== Proof.IFlowC.lean ====
/-
  Hand-written: the output copies. A slot of the output buffer is free, or has its block's copy to the
  output array in flight.
-/
module

public import proofs.«01_k».proof.Proof.IFlowB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "EC" => (countersEmb (U := Pipeline.UD sig nD τ))

variable (c : Dev nD) (w : Wts F) (X : Vec F S4x256x32768 .f32)

/-- A slot of the output buffer. -/
abbrev qb (p : ℕ) : Finset S2x64x2048.Idx := box (s := S2x64x2048) ![p, 0, 0] S1x64x2048.size
/-- Step `t`'s block of the output array. -/
abbrev ob (t : ℕ) : Finset S4x64x8192.Idx := box (s := S4x64x8192) ![t / 4, 0, 2048 * (t % 4)] S1x64x2048.size

theorem mem_qb {p : ℕ} {i : S2x64x2048.Idx} : i ∈ qb p ↔ (i 0).val = p := by
  refine mem_box3.trans ?_
  have h1 : (i 1).val < 64 := (i 1).isLt
  have h2 : (i 2).val < 2048 := (i 2).isLt
  omega

theorem mem_ob {t : ℕ} {i : S4x64x8192.Idx} : i ∈ ob t ↔ 4 * (i 0).val + (i 2).val / 2048 = t := by
  refine mem_box3.trans ?_
  have h1 : (i 1).val < 64 := (i 1).isLt
  have h2 : (i 2).val < 8192 := (i 2).isLt
  omega

/-- The output block as the source of a copy. -/
abbrev qSrc (os : Fin 3 → ℕ) (hs : ∀ a, os a + S1x64x2048.size a ≤ S2x64x2048.size a) : Memref sig .tc .vmem S64x2048 .f32 :=
  (qM.slice (Rect.unit (s := S2x64x2048) os S1x64x2048.size hs) (fun _ => rfl)).squeeze S64x2048 squeezes_S1x64x2048_S64x2048
/-- A block of the output array as the target of a copy. -/
abbrev oDst (od : Fin 3 → ℕ) (hd : ∀ a, od a + S1x64x2048.size a ≤ S4x64x8192.size a) : Memref sig .tc .hbm S64x2048 .f32 :=
  (oM.slice (Rect.unit (s := S4x64x8192) od S1x64x2048.size hd) (fun _ => rfl)).squeeze S64x2048 squeezes_S1x64x2048_S64x2048

/-- What an output copy pays its semaphore. -/
def amtO : ℕ := Ref.dmaCredit main_call0_v10_0 S64x2048 .f32

theorem amtO_pos : 0 < amtO := by decide +kernel

/-- A slot of the output buffer with nothing in flight. -/
def OFree (p : ℕ) : sProp 𝕄 :=
  iprop(semVal ((c : Thread nD τ), .dma (semOut p)) 0 ∗ (∃ f, qM.view.loc (c : Thread nD τ) ↦[qb p]{fullShare} f))

/-- What step `n`'s output copy delivers. -/
def OD (p n : ℕ) : sProp 𝕄 :=
  iprop((oM.view.loc (c : Thread nD τ) ↦[ob n]{fullShare} GOUT w X) ∗ (qM.view.loc (c : Thread nD τ) ↦[qb p]{fullShare} QW w X n))

/-- A slot of the output buffer whose block is being copied out. -/
def OBusy (p n : ℕ) : sProp 𝕄 := Flight EC (c : Thread nD τ) (.dma (semOut p)) () amtO (OD c w X p n)

variable {c w X}

/-- Where the copy of step `t`'s block reads the elements it writes. -/
theorem QW_out {p t : ℕ} (hp : p < 2) {i : S4x64x8192.Idx} (hi : i ∈ ob t) (a : Fin 3) :
    (ix3 S2x64x2048 (by decide) ![p, (i 1).val, (i 2).val % 2048] a).val
      = (![p, 0, 0] : Fin 3 → ℕ) a + ((i a).val - (![t / 4, 0, 2048 * (t % 4)] : Fin 3 → ℕ) a) := by
  have h := mem_ob.1 hi
  have h1 : (i 1).val < 64 := (i 1).isLt
  have h2 : (i 2).val < 8192 := (i 2).isLt
  have h0 : (i 0).val < 4 := (i 0).isLt
  fin_cases a
  · show p % 2 = p + ((i 0).val - t / 4); omega
  · show (i 1).val % 64 = 0 + ((i 1).val - 0); omega
  · show (i 2).val % 2048 % 2048 = 0 + ((i 2).val - 2048 * (t % 4)); omega

/-- Step `t`'s output block, read where its copy reads it, is what the output array holds. -/
theorem QW_GOUT {p t : ℕ} (hp : p < 2) {i : S4x64x8192.Idx} (hi : i ∈ ob t) :
    QW w X t (ix3 S2x64x2048 (by decide) ![p, (i 1).val, (i 2).val % 2048]) = GOUT w X i := by
  have h := mem_ob.1 hi
  have h1 : (i 1).val < 64 := (i 1).isLt
  have h2 : (i 2).val < 8192 := (i 2).isLt
  unfold QW GOUT
  rw [h]
  have e1 : (ix3 S2x64x2048 (by decide) ![p, (i 1).val, (i 2).val % 2048] 1).val = (i 1).val := by
    show (i 1).val % 64 = _; omega
  have e2 : (ix3 S2x64x2048 (by decide) ![p, (i 1).val, (i 2).val % 2048] 2).val = (i 2).val % 2048 := by
    show (i 2).val % 2048 % 2048 = _; omega
  rw [e1, e2]

/-- Issuing the copy of step `t`'s block. -/
theorem start_out {α : Type} {p t : ℕ} (hp : p < 2) {V : Vec F S4x64x8192 .f32} {od : Fin 3 → ℕ} {os : Fin 3 → ℕ} {sm : DmaSem sig} {hd hs}
    (ed : od = ![t / 4, 0, 2048 * (t % 4)]) (es : os = ![p, 0, 0]) (em : sm = semOut p) {h1 h2 h3}
    {k : PUnit → Prog (TpuEff nD τ sig (Elt F) Λ₀ .tc) α} {Q : α → sProp 𝕄} :
    iprop((qM.view.loc (c : Thread nD τ) ↦[qb p]{fullShare} QW w X t) ∗ (oM.view.loc (c : Thread nD τ) ↦[ob t]{fullShare} V)
        ∗ semVal ((c : Thread nD τ), .dma (semOut p)) 0)
      ⊢ iprop((OBusy c w X p t -∗ wp frame (wpE (defs₀ (F := F)) Variants.none (c : Thread nD τ) none) Set.univ (k ⟨⟩) Q)
      -∗ wp frame (wpE (defs₀ (F := F)) Variants.none (c : Thread nD τ) none) Set.univ
        (.op (.enqueueDma (qSrc os hs) (.here (oDst od hd)) (.dma sm) h1 h2 h3) k) Q) := by
  subst em ed es
  have hsd := set_slice_box main_call0_v10_0 ![t / 4, 0, 2048 * (t % 4)] S1x64x2048.size hd (fun _ => rfl) S64x2048 squeezes_S1x64x2048_S64x2048
  have hss := set_slice_box cc0_scratch4 ![p, 0, 0] S1x64x2048.size hs (fun _ => rfl) S64x2048 squeezes_S1x64x2048_S64x2048
  unfold OBusy OD
  iintro ⟨Hs, Hm, Hv⟩ Hk
  iapply (wp_dmaLocal EC Variants.none (c : Thread nD τ) none (src := qSrc _ hs) (dst := oDst _ hd) (q := fullShare) (fs := QW w X t) (Sd := ob t) (fd := V)
    () amtO rfl amtO_pos (subset_of_eq hsd)) $$ [Hs Hm Hv]
  · isplitl [Hs]
    · iapply (Entails.of_eq (congrArg (fun S => (qM.view.loc (c : Thread nD τ) ↦[S]{fullShare} QW w X t : sProp 𝕄)) hss.symm)) $$ Hs
    isplitl [Hm]
    · iexact Hm
    iexact Hv
  iintro HF
  iapply Hk
  iapply (Flight_mono EC (c : Thread nD τ) (BIClass.sep_mono (Entails.of_eq (pointsTo_congr fun i hi => (copy_out (QW w X t) V hd hs i hi _ (fun a => QW_out hp hi a)).trans (QW_GOUT hp hi)))
      (Entails.of_eq (congrArg (fun S => (qM.view.loc (c : Thread nD τ) ↦[S]{fullShare} QW w X t : sProp 𝕄)) hss)))) $$ HF

/-- The wait for the copy of step `n`'s block. -/
theorem wait_out {α : Type} {p n : ℕ} {W : Waits sig Unit} {sm : DmaSem sig} (em : sm = semOut p) {src : Memref sig .tc .vmem S64x2048 .f32} {od : Fin 3 → ℕ} {hd} {h1 h2}
    {k : PUnit → Prog (TpuEff nD τ sig (Elt F) Λ₀ .tc) α} {Q : α → sProp 𝕄} :
    iprop(OBusy c w X p n ∗ owes (c : Thread nD τ) 0 W)
      ⊢ iprop((iprop((oM.view.loc (c : Thread nD τ) ↦[ob n]{fullShare} GOUT w X) ∗ OFree c p ∗ owes (c : Thread nD τ) 0 (insert (SemLoc.dma (semOut p), ()) W))
        -∗ wp frame (wpE (defs₀ (F := F)) Variants.none (c : Thread nD τ) none) Set.univ (k ⟨⟩) Q)
      -∗ wp frame (wpE (defs₀ (F := F)) Variants.none (c : Thread nD τ) none) Set.univ (.op (.waitDma2 sm src (oDst od hd) h1 h2) k) Q) := by
  subst em
  unfold OBusy OD OFree
  iintro ⟨HB, HO⟩ Hk
  iapply (wp_waitLocal EC Variants.none (c : Thread nD τ) none () (dstw := oDst od hd) (N := amtO) rfl (W := W)) $$ [HB HO]
  · isplitl [HB]; · iexact HB
    iexact HO
  iintro ⟨⟨Ho, Hq⟩, Hv, HO⟩
  iapply Hk
  isplitl [Ho]; · iexact Ho
  isplitr [HO]
  · isplitl [Hv]; · iexact Hv
    iexists _; iexact Hq
  iexact HO

end Cert.KernelIdeal.Hand

end
-- ==== Proof.IPart1.lean ====
/-
  Hand-written: the kernel's first part. It zeroes the running totals at the first step, keeps one
  window in flight ahead, waits for this step's window and loads it.
-/
module

public import proofs.«01_k».proof.Proof.IFlowC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "EC" => (countersEmb (U := Pipeline.UD sig nD τ))

variable (c : Dev nD) (X : Vec F S4x256x32768 .f32)

/-- The window slots before step `t`. -/
def InState (t : ℕ) : sProp 𝕄 :=
  if t = 0 ∨ t = 16 then iprop(Idle c X 0 ∗ Idle c X 1) else iprop(Busy c X (t % 2) t ∗ Idle c X ((t + 1) % 2))

variable {c X}

/-- A branch that does something, or nothing, before a common rest. -/
theorem ite_run {α : Type} {cd : Prop} [Decidable cd] {A : cd → Prog (TpuEff nD τ sig (Elt F) Λ₀ .tc) α} {J : Prog (TpuEff nD τ sig (Elt F) Λ₀ .tc) α}
    {R R' : sProp 𝕄} {K : α → sProp 𝕄}
    (hA : ∀ h, R ⊢ iprop((R' -∗ wp frame (wpE (defs₀ (F := F)) Variants.none (c : Thread nD τ) none) Set.univ J K)
      -∗ wp frame (wpE (defs₀ (F := F)) Variants.none (c : Thread nD τ) none) Set.univ (A h) K))
    (hB : ¬cd → R ⊢ R') :
    R ⊢ iprop((R' -∗ wp frame (wpE (defs₀ (F := F)) Variants.none (c : Thread nD τ) none) Set.univ J K)
      -∗ wp frame (wpE (defs₀ (F := F)) Variants.none (c : Thread nD τ) none) Set.univ (dite cd A fun _ => J) K) := by
  by_cases h : cd
  · rw [dif_pos h]; exact hA h
  · rw [dif_neg h]
    iintro HR Hk
    iapply Hk
    iapply (hB h) $$ HR

variable (t : Fin grid0.N) {arg3 : Memref sig .tc .vmem S1024x128 .f32} (harg3 : arg3.IsWhole) {arg4 : Memref sig .tc .vmem S1x128 .f32} (harg4 : arg4.IsWhole) {arg5 : Memref sig .tc .vmem S512x64 .f32} (harg5 : arg5.IsWhole) {arg6 : Memref sig .tc .vmem S1x64 .f32} (harg6 : arg6.IsWhole) {arg7 : Memref sig .tc .vmem S1024x64 .f32} (harg7 : arg7.IsWhole) {arg8 : Memref sig .tc .vmem S1024x64 .f32} (harg8 : arg8.IsWhole) {arg9 : Memref sig .tc .vmem S1x1024 .f32} (harg9 : arg9.IsWhole) {arg11 : Memref sig .tc .smem S1 .f32} (harg11 : arg11.IsWhole) {arg12 : Memref sig .tc .smem S1 .f32} (harg12 : arg12.IsWhole) {arg14 : Memref sig .tc .vmem S8320x128 .f32} (harg14 : arg14.IsWhole) {arg15 : Memref sig .tc .vmem S8320x128 .f32} (harg15 : arg15.IsWhole) {arg16 : Memref sig .tc .vmem S4104x128 .f32} (harg16 : arg16.IsWhole) {arg18 : Memref sig .tc .vmem S1x1024 .f32} (harg18 : arg18.IsWhole) {arg19 : Memref sig .tc .smem S1 .f32} (harg19 : arg19.IsWhole)

theorem v5_eq : ∀ t : Fin grid0.N,
    Scalar.select (Scalar.cmpi .eq (BitVec.ofNat 32 (grid0.coords t 1).val) 3#32) 2046#32 2048#32 = vld t.val := by decide +kernel

/-- The window load reads this step's window. -/
theorem load_XW {p t : ℕ} {o : Fin 3 → ℕ} (inb : ∀ a, o a + S1x256x8320.size a ≤ S2x256x8320.size a) (X : Vec F S4x256x32768 .f32) (e : o = ![p, 0, 0]) :
    View.readAt (Elt F) xwM.view (Rect.unit (s := S2x256x8320) o S1x256x8320.size inb).toLoadRect (XW X t) = XV X t := by
  subst e
  funext i
  have h1 : ((Rect.unit (s := S2x256x8320) ![p, 0, 0] S1x256x8320.size inb).toLoadRect.idx i 1).val = (i 1).val := by
    show 0 + 1 * (i 1).val = _; omega
  have h2 : ((Rect.unit (s := S2x256x8320) ![p, 0, 0] S1x256x8320.size inb).toLoadRect.idx i 2).val = (i 2).val := by
    show 0 + 1 * (i 2).val = _; omega
  show X (xIdx (t / 4) _ (xcol t _)) = X (xIdx (t / 4) _ (xcol t _))
  rw [← h1, ← h2]
  rfl

theorem in_next {t : ℕ} (ht : t < 16) :
    iprop(Idle c X (t % 2) ∗ (if t < 15 then Busy c X ((t + 1) % 2) (t + 1) else Idle c X ((t + 1) % 2))) ⊢ InState c X (t + 1) := by
  unfold InState
  by_cases h : t < 15
  · rw [if_pos h, if_neg (by omega), show (t + 1 + 1) % 2 = t % 2 by omega]
    iintro ⟨HI, HB⟩
    isplitl [HB]; · iexact HB
    iexact HI
  · obtain rfl : t = 15 := by omega
    rw [if_neg h, if_pos (by omega)]
    iintro ⟨HI, HB⟩
    isplitl [HB]; · iexact HB
    iexact HI

/-- The first part: afterwards the next window is in flight and this one has been read. -/
theorem part1_run (c : Dev nD) (X : Vec F S4x256x32768 .f32) (w : Wts F) (C : Vec F S1x1024 .f32) (m : Elt F .f32) (W : Waits sig Unit)
    (hC : t.val ≠ 0 → C = CNT w X t.val) (hm : t.val ≠ 0 → m = MS w X t.val)
    (K : (Σ' (arg1 : BitVec 32) (v1 : BitVec 32) (v2 : BitVec 32) (v3 : BitVec 32) (v5 : BitVec 32), Vec F S1x256x8320 .f32) → sProp 𝕄) :
    iprop(InState c X t.val ∗ ow c arg18 C ∗ ow c arg19 (fun _ => m) ∗ owes (c : Thread nD τ) 0 W
      ∗ (∀ a1 v1 v2 v3, iprop(InState c X (t.val + 1) ∗ ow c arg18 (CNT w X t.val) ∗ ow c arg19 (fun _ => MS w X t.val) ∗ ∃ W', owes (c : Thread nD τ) 0 W')
        -∗ K ⟨a1, v1, v2, v3, vld t.val, XV X t.val⟩))
    ⊢ wp frame (wpE (defs₀ (F := F)) Variants.none c none) Set.univ
        (k0_part1 (grid0.coords t) xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8) K := by
  have ht : t.val < 16 := t.isLt
  simp only [k0_part1_eq_skeleton]; unfold k0_part1_skel
  dsimp only
  rw [v5_eq t]
  iintro ⟨HI, H18, H19, HO, Hk⟩
  have hK : ∀ a1 v1 v2 v3 v, XV X t.val = v → (K ⟨a1, v1, v2, v3, vld t.val, XV X t.val⟩ ⊢ K ⟨a1, v1, v2, v3, vld t.val, v⟩) := fun a1 v1 v2 v3 v h => kcast (h ▸ rfl)
  iapply (ite_run (R := iprop(InState c X t.val ∗ ow c arg18 C ∗ ow c arg19 (fun _ => m)))
    (R' := iprop(Busy c X (t.val % 2) t.val ∗ Idle c X ((t.val + 1) % 2) ∗ ow c arg18 (CNT w X t.val) ∗ ow c arg19 (fun _ => MS w X t.val))) ?hA ?hB) $$ [HI H18 H19]
  case hA =>
    intro h
    have h0 := (cond1_iff t).1 h
    rw [InState, if_pos (Or.inl h0)]
    unfold ow owns
    iintro ⟨⟨HI0, HI1⟩, ⟨%f18, %e18, H18⟩, ⟨%f19, %e19, H19⟩⟩ Hk
    sl_exec
    iapply (start_main (p := 0) (t := 0) (by decide) (by decide) (by rw [off2_eq, h0]) (by rw [off3_eq, h0]) (sem_in_eq (by decide) _ (by rw [off1_eq, h0]))) $$ HI0
    iintro HI0
    iapply (start_tail (p := 0) (t := 0) (by decide) (by decide) (by rw [off4_eq, h0]) (by rw [off5_eq, h0]) (sem_in_eq (by decide) _ (by rw [off1_eq, h0]))) $$ HI0
    iintro HI0
    iapply Hk
    rw [h0]
    isplitl [HI0]; · iexact HI0
    isplitl [HI1]; · iexact HI1
    isplitl [H18]
    · iexists _; isplitr; swap; · iexact H18
      ipureintro; exact View.read_writes_full _ _ _ _ _
    iexists _; isplitr; swap; · iexact H19
    ipureintro; exact View.read_writes_full _ _ _ _ _
  case hB =>
    intro h
    have h0 : t.val ≠ 0 := fun e => h ((cond1_iff t).2 e)
    obtain rfl := hC h0
    obtain rfl := hm h0
    rw [InState, if_neg (by omega)]
    iintro ⟨⟨HB, HI⟩, H18, H19⟩
    isplitl [HB]; · iexact HB
    isplitl [HI]; · iexact HI
    isplitl [H18]; · iexact H18
    iexact H19
  · isplitl [HI]; · iexact HI
    isplitl [H18]; · iexact H18
    iexact H19
  iintro ⟨HB, HJ, H18, H19⟩
  iapply (ite_run (R := Idle c X ((t.val + 1) % 2))
    (R' := if t.val < 15 then Busy c X ((t.val + 1) % 2) (t.val + 1) else Idle c X ((t.val + 1) % 2)) ?hA ?hB) $$ HJ
  case hA =>
    intro h
    have h0 := (cond2_iff t).1 h
    rw [if_pos h0]
    iintro HI Hk
    iapply (start_main (p := (t.val + 1) % 2) (t := t.val + 1) (Nat.mod_lt _ (by decide)) (by omega) (off7_eq t) (off8_eq t h0) (sem_in_eq (Nat.mod_lt _ (by decide)) _ (off6_eq t))) $$ HI
    iintro HI
    iapply (start_tail (p := (t.val + 1) % 2) (t := t.val + 1) (Nat.mod_lt _ (by decide)) (by omega) (off9_eq t) (off10_eq t h0) (sem_in_eq (Nat.mod_lt _ (by decide)) _ (off6_eq t))) $$ HI
    iintro HI
    iapply Hk $$ HI
  case hB =>
    intro h
    have h0 : ¬ t.val < 15 := fun e => h ((cond2_iff t).2 e)
    rw [if_neg h0]
  iintro HN
  iapply (wait_main (p := t.val % 2) (t := t.val) (sem_in_eq (Nat.mod_lt _ (by decide)) _ (off11_eq t))) $$ [HB HO]
  · isplitl [HB]; · iexact HB
    iexact HO
  iintro ⟨HB, HO⟩
  iapply (wait_tail (p := t.val % 2) (t := t.val) (sem_in_eq (Nat.mod_lt _ (by decide)) _ (off11_eq t))) $$ [HB HO]
  · isplitl [HB]; · iexact HB
    iexact HO
  iintro ⟨HB, HO⟩
  unfold Ready
  icases HB with ⟨Hv, Hw, Hx0, Hx1⟩
  have hS : (xwM.access (Rect.unit (s := S2x256x8320) (k0_off16 (grid0.coords t)) S1x256x8320.size (k0_off16_inb (grid0.coords t)))).set ⊆ wb (t.val % 2) := by
    rw [set_access_box]
    exact subset_of_eq (congrArg (fun o => box (s := S2x256x8320) o S1x256x8320.size) (off16_eq t))
  iapply (wp_load_rect Variants.none (c : Thread nD τ) none Set.univ hS) $$ Hw
  iintro Hw
  rw [rbind]
  sl_step
  iapply (hK _ _ _ _ _ ?_)
  · exact (load_XW _ _ (off16_eq t)).symm
  iapply Hk
  isplitl [HN Hv Hw Hx0 Hx1]
  · ihave HI := (show iprop(semVal ((c : Thread nD τ), .dma (semIn (t.val % 2))) 0 ∗ (xwM.view.loc (c : Thread nD τ) ↦[wb (t.val % 2)]{fullShare} XW X t.val)
        ∗ xS c X (2 * (t.val % 2)) Finset.univ ∗ xS c X (2 * (t.val % 2) + 1) Finset.univ) ⊢ Idle c X (t.val % 2) from ready_idle (t := t.val)) $$ [Hv Hw Hx0 Hx1]
    · isplitl [Hv]; · iexact Hv
      isplitl [Hw]; · iexact Hw
      isplitl [Hx0]; · iexact Hx0
      iexact Hx1
    iapply (in_next (X := X) ht) $$ [HI HN]
    isplitl [HI]; · iexact HI
    iexact HN
  isplitl [H18]; · iexact H18
  isplitl [H19]; · iexact H19
  iexists _; iexact HO

end Cert.KernelIdeal.Hand

end
-- ==== Proof.IPart3.lean ====
/-
  Hand-written: the kernel's third part. It finishes the first layer, stores it, and waits for the copy
  that still reads this step's output slot.
-/
module

public import proofs.«01_k».proof.Proof.IPart1
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "EC" => (countersEmb (U := Pipeline.UD sig nD τ))

variable (c : Dev nD) (w : Wts F) (X : Vec F S4x256x32768 .f32)

/-- The output slot step `t` is about to use. -/
def OutSlot (t : ℕ) : sProp 𝕄 := if t < 2 then OFree c (t % 2) else OBusy c w X (t % 2) (t - 2)

/-- The block the drained copy of step `t - 2` wrote. -/
def Drained (t : ℕ) : sProp 𝕄 := if t < 2 then iprop(emp) else iprop(oM.view.loc (c : Thread nD τ) ↦[ob (t - 2)]{fullShare} GOUT w X)

variable {c w X}

/-- Storing the first layer over the first 4098 rows leaves it padded, as far as those rows go. -/
theorem store_h1 (arg16 : Memref sig .tc .vmem S4104x128 .f32) (f : arg16.view.ty.Contents (Elt F)) (h : FVec F S4098x128 .f32)
    (inb : ∀ a, (![0, 0] : Fin 2 → ℕ) a + S4098x128.size a ≤ S4104x128.size a) (i : S4104x128.Idx) (hi : (i 0).val < 4098) :
    View.read (Elt F) arg16.view (arg16.view.writes (Elt F) f [⟨Rect.unit (s := S4104x128) ![0, 0] S4098x128.size inb, h⟩]) i = padH h i := by
  rw [padH, dif_pos hi]
  exact View.read_writes_cons_unit_of_mem (v := arg16.view) (f := f) (off := ![0, 0]) (off' := ![0, 0]) (size := S4098x128.size) inb h [] i _ rfl
    (fun a => by fin_cases a <;> exact (Nat.zero_add _).symm)

variable (t : Fin grid0.N) {arg3 : Memref sig .tc .vmem S1024x128 .f32} (harg3 : arg3.IsWhole) {arg4 : Memref sig .tc .vmem S1x128 .f32} (harg4 : arg4.IsWhole) {arg5 : Memref sig .tc .vmem S512x64 .f32} (harg5 : arg5.IsWhole) {arg6 : Memref sig .tc .vmem S1x64 .f32} (harg6 : arg6.IsWhole) {arg7 : Memref sig .tc .vmem S1024x64 .f32} (harg7 : arg7.IsWhole) {arg8 : Memref sig .tc .vmem S1024x64 .f32} (harg8 : arg8.IsWhole) {arg9 : Memref sig .tc .vmem S1x1024 .f32} (harg9 : arg9.IsWhole) {arg11 : Memref sig .tc .smem S1 .f32} (harg11 : arg11.IsWhole) {arg12 : Memref sig .tc .smem S1 .f32} (harg12 : arg12.IsWhole) {arg14 : Memref sig .tc .vmem S8320x128 .f32} (harg14 : arg14.IsWhole) {arg15 : Memref sig .tc .vmem S8320x128 .f32} (harg15 : arg15.IsWhole) {arg16 : Memref sig .tc .vmem S4104x128 .f32} (harg16 : arg16.IsWhole) {arg18 : Memref sig .tc .vmem S1x1024 .f32} (harg18 : arg18.IsWhole) {arg19 : Memref sig .tc .smem S1 .f32} (harg19 : arg19.IsWhole)

/-- The third part: the first layer is stored and the output slot is free. -/
theorem part3_run (c : Dev nD) (X : Vec F S4x256x32768 .f32) (w : Wts F) (a b : Vec F S8320x128 .f32) (s : FVec F S4098x128 .f32) (W : Waits sig Unit) (a1 v1 : BitVec 32)
    (K : FVec F S512x64 .f32 → sProp 𝕄) :
    iprop(ow c arg14 a ∗ ow c arg15 b ∗ ow c arg3 w.W1 ∗ ow c arg4 w.B1 ∗ (∃ d, ow c arg16 d) ∗ OutSlot c w X t.val ∗ owes (c : Thread nD τ) 0 W
      ∗ (∀ H, iprop(⌜∀ i, (i 0).val < 4098 → H i = padH (layer1 w s a b) i⌝ ∗ ow c arg14 a ∗ ow c arg15 b ∗ ow c arg3 w.W1 ∗ ow c arg4 w.B1 ∗ ow c arg16 H
          ∗ OFree c (t.val % 2) ∗ Drained c w X t.val ∗ ∃ W', owes (c : Thread nD τ) 0 W')
        -∗ K k0_pay10))
    ⊢ wp frame (wpE (defs₀ (F := F)) Variants.none c none) Set.univ
        (k0_part3 (grid0.coords t) xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8 a1 v1 s) K := by
  have ht : t.val < 16 := t.isLt
  simp only [k0_part3_eq_skeleton]; unfold k0_part3_skel
  dsimp only
  unfold ow owns
  iintro ⟨⟨%f14, %e14, H14⟩, ⟨%f15, %e15, H15⟩, ⟨%f3, %e3, H3⟩, ⟨%f4, %e4, H4⟩, ⟨%d16, %f16, -, H16⟩, HS, HO, Hk⟩
  sl_exec
  have hH : ∀ i : S4104x128.Idx, (i 0).val < 4098 → View.read (Elt F) arg16.view (arg16.view.writes (Elt F) f16 [⟨Rect.unit (s := S4104x128) ![0, 0] S4098x128.size inb_S4104x128_S4098x128_0_0, layer1 w s a b⟩]) i
      = padH (layer1 w s a b) i := fun i hi => store_h1 arg16 f16 _ _ i hi
  have hL : layer1 w s a b = k0_pay9 s (View.readAt (Elt F) arg14.view (⟨![2, 0], S4098x128.size, ![2, 1], inb_S8320x128_S4098x128_2_0_s_2_1⟩ : LoadRect S8320x128) f14)
      (View.readAt (Elt F) arg15.view (⟨![2, 0], S4098x128.size, ![2, 1], inb_S8320x128_S4098x128_2_0_s_2_1⟩ : LoadRect S8320x128) f15)
      (View.readAt (Elt F) arg3.view (Rect.unit (s := S1024x128) ![512, 0] S128x128.size inb_S1024x128_S128x128_512_0).toLoadRect f3)
      (View.readAt (Elt F) arg3.view (Rect.unit (s := S1024x128) ![640, 0] S128x128.size inb_S1024x128_S128x128_640_0).toLoadRect f3)
      (View.readAt (Elt F) arg14.view (⟨![3, 0], S4098x128.size, ![2, 1], inb_S8320x128_S4098x128_3_0_s_2_1⟩ : LoadRect S8320x128) f14)
      (View.readAt (Elt F) arg15.view (⟨![3, 0], S4098x128.size, ![2, 1], inb_S8320x128_S4098x128_3_0_s_2_1⟩ : LoadRect S8320x128) f15)
      (View.readAt (Elt F) arg3.view (Rect.unit (s := S1024x128) ![768, 0] S128x128.size inb_S1024x128_S128x128_768_0).toLoadRect f3)
      (View.readAt (Elt F) arg3.view (Rect.unit (s := S1024x128) ![896, 0] S128x128.size inb_S1024x128_S128x128_896_0).toLoadRect f3)
      (View.readAt (Elt F) arg4.view (Rect.unit (s := S1x128) ![0, 0] S1x128.size inb_S1x128_S1x128_0_0).toLoadRect f4) := by
    have F4 : View.readAt (Elt F) arg4.view (Rect.unit (s := S1x128) ![0, 0] S1x128.size inb_S1x128_S1x128_0_0).toLoadRect f4 = View.read (Elt F) arg4.view f4 := View.readAt_full _ _ _
    rw [F4, layer1, ← e14, ← e15, ← e3, ← e4]
    rfl
  rw [hL] at hH
  dsimp only
  iapply (ite_run (c := c) (R := iprop(OutSlot c w X t.val ∗ owes (c : Thread nD τ) 0 W))
    (R' := iprop(OFree c (t.val % 2) ∗ Drained c w X t.val ∗ ∃ W', owes (c : Thread nD τ) 0 W')) ?hA ?hB) $$ [HS HO]
  case hA =>
    intro h
    have h0 := (cond3_iff t).1 h
    rw [OutSlot, if_neg (by omega), Drained, if_neg (by omega)]
    iintro ⟨HS, HO⟩ Hk
    iapply (wait_out (p := t.val % 2) (sem_out_eq (Nat.mod_lt _ (by decide)) _ (off17_eq t))) $$ [HS HO]
    · isplitl [HS]; · iexact HS
      iexact HO
    iintro ⟨Ho, Hf, HO⟩
    iapply Hk
    isplitl [Hf]; · iexact Hf
    isplitl [Ho]; · iexact Ho
    iexists _; iexact HO
  case hB =>
    intro h
    have h0 : t.val < 2 := by
      by_contra h1
      exact h ((cond3_iff t).2 (by omega))
    rw [OutSlot, if_pos h0, Drained, if_pos h0]
    iintro ⟨HS, HO⟩
    isplitl [HS]; · iexact HS
    isplitr; · iempintro
    iexists _; iexact HO
  · isplitl [HS]; · iexact HS
    iexact HO
  iintro ⟨HS, HD, HO⟩
  sl_step
  iapply Hk
  isplitr
  · ipureintro; rw [hL]; exact hH
  isplitl [H14]
  · iexists _; isplitr; swap; · iexact H14
    ipureintro; exact e14
  isplitl [H15]
  · iexists _; isplitr; swap; · iexact H15
    ipureintro; exact e15
  isplitl [H3]
  · iexists _; isplitr; swap; · iexact H3
    ipureintro; exact e3
  isplitl [H4]
  · iexists _; isplitr; swap; · iexact H4
    ipureintro; exact e4
  isplitl [H16]
  · iexists _; isplitr; swap; · iexact H16
    ipureintro; rfl
  isplitl [HS]; · iexact HS
  isplitl [HD]; · iexact HD
  iexact HO

end Cert.KernelIdeal.Hand

end
-- ==== Proof.IFlowD.lean ====
/-
  Hand-written: the output array's blocks over the grid, and the output block a step assembles.
-/
module

public import proofs.«01_k».proof.Proof.IPart3

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "EC" => (countersEmb (U := Pipeline.UD sig nD τ))

variable (c : Dev nD) (w : Wts F) (X : Vec F S4x256x32768 .f32) (V : Vec F S4x64x8192 .f32)

/-- The step that writes an element of the output array. -/
abbrev blk (i : S4x64x8192.Idx) : ℕ := 4 * (i 0).val + (i 2).val / 2048

theorem blk_lt (i : S4x64x8192.Idx) : blk i < 16 := by
  have h0 : (i 0).val < 4 := (i 0).isLt
  have h2 : (i 2).val < 8192 := (i 2).isLt
  unfold blk; omega

/-- The elements no copy has been issued for before step `t`. -/
def oTodo (t : ℕ) : Finset S4x64x8192.Idx := Finset.univ.filter fun i => t ≤ blk i
/-- The elements whose copies have been waited for before step `t`. -/
def oDone (t : ℕ) : Finset S4x64x8192.Idx := Finset.univ.filter fun i => blk i + 2 < t

theorem mem_oTodo {t : ℕ} {i : S4x64x8192.Idx} : i ∈ oTodo t ↔ t ≤ blk i := by simp [oTodo]
theorem mem_oDone {t : ℕ} {i : S4x64x8192.Idx} : i ∈ oDone t ↔ blk i + 2 < t := by simp [oDone]

theorem oTodo_step (t : ℕ) : oTodo t = ob t ∪ oTodo (t + 1) := by
  ext i
  rw [Finset.mem_union, mem_oTodo, mem_oTodo, mem_ob]
  unfold blk; omega

theorem oTodo_disj (t : ℕ) : Disjoint (ob t) (oTodo (t + 1)) := by
  rw [Finset.disjoint_left]
  intro i h1 h2
  have h1 := mem_ob.1 h1
  have h2 := mem_oTodo.1 h2
  unfold blk at h2; omega

theorem oDone_step {t : ℕ} (h : 2 ≤ t) : oDone (t + 1) = oDone t ∪ ob (t - 2) := by
  ext i
  rw [Finset.mem_union, mem_oDone, mem_oDone, mem_ob]
  unfold blk; omega

theorem oDone_disj {t : ℕ} : Disjoint (oDone t) (ob (t - 2)) := by
  rw [Finset.disjoint_left]
  intro i h1 h2
  have h1 := mem_oDone.1 h1
  have h2 := mem_ob.1 h2
  unfold blk at h1; omega

theorem oDone_small {t : ℕ} (h : t < 2) : oDone (t + 1) = oDone t := by
  ext i
  rw [mem_oDone, mem_oDone]
  omega

theorem oTodo_zero : oTodo 0 = Finset.univ := by
  ext i; simp [mem_oTodo]

theorem oDone_zero : oDone 0 = ∅ := by
  ext i; simp [mem_oDone]

theorem oDone_last : oDone 18 = Finset.univ := by
  ext i
  have := blk_lt i
  simp only [mem_oDone, Finset.mem_univ, iff_true]
  omega

/-- The output array and the output slots before step `t`. -/
def OutState (t : ℕ) : sProp 𝕄 :=
  if t = 16 then iprop(OFree c 0 ∗ OFree c 1 ∗ (oM.view.loc (c : Thread nD τ) ↦[Finset.univ]{fullShare} GOUT w X))
  else iprop(OutSlot c w X t ∗ OutSlot c w X (t + 1) ∗ (oM.view.loc (c : Thread nD τ) ↦[oTodo t]{fullShare} V)
    ∗ (oM.view.loc (c : Thread nD τ) ↦[oDone t]{fullShare} GOUT w X))

variable {c w X V}

/-- A drained block joins the finished part of the output array. -/
theorem done_step {t : ℕ} : iprop((oM.view.loc (c : Thread nD τ) ↦[oDone t]{fullShare} GOUT w X) ∗ Drained c w X t)
    ⊢ (oM.view.loc (c : Thread nD τ) ↦[oDone (t + 1)]{fullShare} GOUT w X : sProp 𝕄) := by
  unfold Drained
  by_cases h : t < 2
  · rw [if_pos h, oDone_small h]
    iintro ⟨H, -⟩
    iexact H
  · rw [if_neg h, oDone_step (by omega)]
    exact (pointsTo_union oDone_disj).2

/-- One chunk's store, read inside its box. -/
theorem chunk_in {p k : ℕ} (u : FVec F S1x64x512 .f32) (f : Vec F S2x64x2048 .f32) {o : Fin 3 → ℕ} (inb : ∀ a, o a + S1x64x512.size a ≤ S2x64x2048.size a)
    (e : o = ![p, 0, k]) (i : S2x64x2048.Idx) (hi : i ∈ qb p) (h1 : k ≤ (i 2).val) (h2 : (i 2).val < k + 512) :
    ((qM.access (Rect.unit (s := S2x64x2048) o S1x64x512.size inb)).write (Elt F) f u Finset.univ) i = qAt u (i 1).val ((i 2).val - k) := by
  have hp := mem_qb.1 hi
  have h3 : (i 1).val < 64 := (i 1).isLt
  have hy : (qM.access (Rect.unit (s := S2x64x2048) o S1x64x512.size inb)).emb (ix3 S1x64x512 (by decide) ![0, (i 1).val, (i 2).val - k]) = i := by
    subst e
    funext a
    apply Fin.ext
    refine (ValueKit.view_emb_slice_whole_unit_val cc0_scratch4 ![p, 0, k] S1x64x512.size inb _ a).trans ?_
    fin_cases a
    · show p + 0 % 1 = (i 0).val; omega
    · show 0 + (i 1).val % 64 = (i 1).val; omega
    · show k + ((i 2).val - k) % 512 = (i 2).val; omega
  exact (congrArg ((qM.access (Rect.unit (s := S2x64x2048) o S1x64x512.size inb)).write (Elt F) f u Finset.univ) hy.symm).trans
    (View.write_emb_of_mem (M := Finset.univ) _ _ (Finset.mem_univ _))

/-- One chunk's store, read outside its box. -/
theorem chunk_out {p k : ℕ} (u : FVec F S1x64x512 .f32) (f : Vec F S2x64x2048 .f32) {o : Fin 3 → ℕ} (inb : ∀ a, o a + S1x64x512.size a ≤ S2x64x2048.size a)
    (e : o = ![p, 0, k]) (i : S2x64x2048.Idx) (h1 : (i 2).val < k) :
    ((qM.access (Rect.unit (s := S2x64x2048) o S1x64x512.size inb)).write (Elt F) f u Finset.univ) i = f i := by
  apply View.write_of_not_mem
  intro h
  have h : i ∈ box (s := S2x64x2048) o S1x64x512.size := (Finset.ext_iff.1 (set_access_box cc0_scratch4 o S1x64x512.size inb) i).1 h
  subst e
  have := mem_box3.1 h
  omega

/-- The four chunks a step stores make up its output block. -/
theorem chunks_QW {p : ℕ} (t : ℕ) (f : Vec F S2x64x2048 .f32) {o0 o1 o2 o3 : Fin 3 → ℕ} (inb0 inb1 inb2 inb3)
    (e0 : o0 = ![p, 0, 0]) (e1 : o1 = ![p, 0, 512]) (e2 : o2 = ![p, 0, 1024]) (e3 : o3 = ![p, 0, 1536]) (i : S2x64x2048.Idx) (hi : i ∈ qb p) :
    ((qM.access (Rect.unit (s := S2x64x2048) o3 S1x64x512.size inb3)).write (Elt F)
      ((qM.access (Rect.unit (s := S2x64x2048) o2 S1x64x512.size inb2)).write (Elt F)
        ((qM.access (Rect.unit (s := S2x64x2048) o1 S1x64x512.size inb1)).write (Elt F)
          ((qM.access (Rect.unit (s := S2x64x2048) o0 S1x64x512.size inb0)).write (Elt F) f (qo0 w (TT w X t)) Finset.univ)
          (qo1 w (TT w X t)) Finset.univ)
        (qo2 w (TT w X t)) Finset.univ)
      (qo3 w (TT w X t)) Finset.univ) i = QW w X t i := by
  have h2 : (i 2).val < 2048 := (i 2).isLt
  show _ = QV w X t (i 1).val (i 2).val
  unfold QV
  by_cases c3 : 1536 ≤ (i 2).val
  · rw [if_neg (by omega), if_neg (by omega), if_neg (by omega), chunk_in _ _ inb3 e3 i hi c3 (by omega)]
  rw [chunk_out _ _ inb3 e3 i (by omega)]
  by_cases c2 : 1024 ≤ (i 2).val
  · rw [if_neg (by omega), if_neg (by omega), if_pos (by omega), chunk_in _ _ inb2 e2 i hi c2 (by omega)]
  rw [chunk_out _ _ inb2 e2 i (by omega)]
  by_cases c1 : 512 ≤ (i 2).val
  · rw [if_neg (by omega), if_pos (by omega), chunk_in _ _ inb1 e1 i hi c1 (by omega)]
  rw [chunk_out _ _ inb1 e1 i (by omega)]
  rw [if_pos (by omega), chunk_in _ _ inb0 e0 i hi (by omega) (by omega)]
  rfl

/-- A chunk's store falls in the step's output slot. -/
theorem chunk_sub {p k : ℕ} {o : Fin 3 → ℕ} (inb) (e : o = ![p, 0, k]) :
    (qM.access (Rect.unit (s := S2x64x2048) o S1x64x512.size inb)).set ⊆ qb p := by
  rw [set_access_box]
  intro i hi
  subst e
  have := mem_box3.1 hi
  exact mem_qb.2 (by omega)

end Cert.KernelIdeal.Hand

end
-- ==== Proof.IBody.lean ====
/-
  Hand-written: one step of the kernel, its parts put together.
-/
module

public import proofs.«01_k».proof.Proof.IFlowD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "EC" => (countersEmb (U := Pipeline.UD sig nD τ))

/-- A held memref's elements as a buffer that reads as its contents. -/
theorem ow_open {c : Dev nD} {sp : Space} {S : Shape} {e : EltTy} {m : Memref sig .tc sp S e} {d : S.Idx → Elt F e} :
    ow c m d ⊢ iprop(∃ f, ⌜View.read (Elt F) m.view f = d⌝ ∗ (m.view.loc (c : Thread nD τ) ↦[m.view.set]{fullShare} f)) := .rfl

/-- A buffer that reads as the contents is the held memref. -/
theorem ow_close {c : Dev nD} {sp : Space} {S : Shape} {e : EltTy} {m : Memref sig .tc sp S e} {d : S.Idx → Elt F e} {f} (h : View.read (Elt F) m.view f = d) :
    (m.view.loc (c : Thread nD τ) ↦[m.view.set]{fullShare} f : sProp 𝕄) ⊢ ow c m d := by
  unfold ow owns
  iintro H
  iexists f
  isplitr
  · ipureintro; exact h
  iexact H

theorem out_open {c : Dev nD} {w : Wts F} {X : Vec F S4x256x32768 .f32} {V : Vec F S4x64x8192 .f32} {t : ℕ} (ht : t < 16) :
    OutState c w X V t ⊣⊢ iprop(OutSlot c w X t ∗ OutSlot c w X (t + 1) ∗ (oM.view.loc (c : Thread nD τ) ↦[oTodo t]{fullShare} V)
      ∗ (oM.view.loc (c : Thread nD τ) ↦[oDone t]{fullShare} GOUT w X)) := by
  rw [OutState, if_neg (by omega)]

theorem free_open {c : Dev nD} {p : ℕ} : OFree (F := F) c p
    ⊢ iprop(semVal ((c : Thread nD τ), .dma (semOut p)) 0 ∗ (∃ f, qM.view.loc (c : Thread nD τ) ↦[qb p]{fullShare} f)) := .rfl

theorem slot_next {c : Dev nD} {w : Wts F} {X : Vec F S4x256x32768 .f32} {t : ℕ} : OBusy c w X (t % 2) t ⊢ OutSlot c w X (t + 1 + 1) := by
  rw [OutSlot, if_neg (by omega), show (t + 1 + 1) % 2 = t % 2 by omega, show t + 1 + 1 - 2 = t by omega]

/-- The last step's two drained blocks complete the output array. -/
theorem done_last {c : Dev nD} {w : Wts F} {X : Vec F S4x256x32768 .f32} :
    iprop((oM.view.loc (c : Thread nD τ) ↦[oDone 16]{fullShare} GOUT w X) ∗ (oM.view.loc (c : Thread nD τ) ↦[ob 14]{fullShare} GOUT w X)
      ∗ (oM.view.loc (c : Thread nD τ) ↦[ob 15]{fullShare} GOUT w X))
      ⊢ (oM.view.loc (c : Thread nD τ) ↦[Finset.univ]{fullShare} GOUT w X : sProp 𝕄) := by
  rw [← oDone_last, oDone_step (t := 17) (by decide), oDone_step (t := 16) (by decide)]
  iintro ⟨H, Ha, Hb⟩
  have hd : Disjoint (oDone 16 ∪ ob (16 - 2)) (ob (17 - 2)) := by rw [← oDone_step (t := 16) (by decide)]; exact oDone_disj
  iapply (pointsTo_union hd).2
  isplitl [H Ha]
  · iapply (pointsTo_union (oDone_disj (t := 16))).2
    isplitl [H]; · iexact H
    iexact Ha
  iexact Hb

/-- After the last step every block is written and both slots are free. -/
theorem out_close {c : Dev nD} {w : Wts F} {X : Vec F S4x256x32768 .f32} {V} :
    iprop(OFree c 0 ∗ OFree c 1 ∗ (oM.view.loc (c : Thread nD τ) ↦[Finset.univ]{fullShare} GOUT w X)) ⊢ OutState c w X V 16 := by
  rw [OutState, if_pos rfl]

/-- What the loss cell holds after step `t`. -/
def lossAt (w : Wts F) (X : Vec F S4x256x32768 .f32) (t : ℕ) (d : S1.Idx → Elt F .f32) : S1.Idx → Elt F .f32 :=
  if t = 15 then fun _ => k0_pay2 (MS w X 16) else d
/-- What the perplexity cell holds after step `t`. -/
def perpAt (w : Wts F) (X : Vec F S4x256x32768 .f32) (t : ℕ) (d : S1.Idx → Elt F .f32) : S1.Idx → Elt F .f32 :=
  if t = 15 then fun _ => k0_pay3 (CNT w X 16) else d

variable (t : Fin grid0.N) {arg3 : Memref sig .tc .vmem S1024x128 .f32} (harg3 : arg3.IsWhole) {arg4 : Memref sig .tc .vmem S1x128 .f32} (harg4 : arg4.IsWhole) {arg5 : Memref sig .tc .vmem S512x64 .f32} (harg5 : arg5.IsWhole) {arg6 : Memref sig .tc .vmem S1x64 .f32} (harg6 : arg6.IsWhole) {arg7 : Memref sig .tc .vmem S1024x64 .f32} (harg7 : arg7.IsWhole) {arg8 : Memref sig .tc .vmem S1024x64 .f32} (harg8 : arg8.IsWhole) {arg9 : Memref sig .tc .vmem S1x1024 .f32} (harg9 : arg9.IsWhole) {arg11 : Memref sig .tc .smem S1 .f32} (harg11 : arg11.IsWhole) {arg12 : Memref sig .tc .smem S1 .f32} (harg12 : arg12.IsWhole) {arg14 : Memref sig .tc .vmem S8320x128 .f32} (harg14 : arg14.IsWhole) {arg15 : Memref sig .tc .vmem S8320x128 .f32} (harg15 : arg15.IsWhole) {arg16 : Memref sig .tc .vmem S4104x128 .f32} (harg16 : arg16.IsWhole) {arg18 : Memref sig .tc .vmem S1x1024 .f32} (harg18 : arg18.IsWhole) {arg19 : Memref sig .tc .smem S1 .f32} (harg19 : arg19.IsWhole)

set_option maxHeartbeats 4000000 in
/-- One step of the kernel. -/
theorem body_run (c : Dev nD) (X : Vec F S4x256x32768 .f32) (V : Vec F S4x64x8192 .f32) (w : Wts F) (C : Vec F S1x1024 .f32) (m : Elt F .f32) (W : Waits sig Unit)
    (d11 d12 : S1.Idx → Elt F .f32)
    (hC : t.val ≠ 0 → C = CNT w X t.val) (hm : t.val ≠ 0 → m = MS w X t.val) (K : PUnit → sProp 𝕄) :
    iprop(InState c X t.val ∗ OutState c w X V t.val ∗ (∃ d, ow c arg14 d) ∗ (∃ d, ow c arg15 d) ∗ (∃ d, ow c arg16 d) ∗ ow c arg18 C ∗ ow c arg19 (fun _ => m)
      ∗ ow c arg3 w.W1 ∗ ow c arg4 w.B1 ∗ ow c arg5 w.W2 ∗ ow c arg6 w.B2 ∗ ow c arg7 w.CB ∗ ow c arg8 w.CB2 ∗ ow c arg9 w.CS ∗ ow c arg11 d11 ∗ ow c arg12 d12
      ∗ owes (c : Thread nD τ) 0 W
      ∗ (iprop(InState c X (t.val + 1) ∗ OutState c w X V (t.val + 1) ∗ (∃ d, ow c arg14 d) ∗ (∃ d, ow c arg15 d) ∗ (∃ d, ow c arg16 d)
          ∗ ow c arg18 (CNT w X (t.val + 1)) ∗ ow c arg19 (fun _ => MS w X (t.val + 1))
          ∗ ow c arg3 w.W1 ∗ ow c arg4 w.B1 ∗ ow c arg5 w.W2 ∗ ow c arg6 w.B2 ∗ ow c arg7 w.CB ∗ ow c arg8 w.CB2 ∗ ow c arg9 w.CS
          ∗ ow c arg11 (lossAt w X t.val d11) ∗ ow c arg12 (perpAt w X t.val d12) ∗ ∃ W', owes (c : Thread nD τ) 0 W') -∗ K ⟨⟩))
    ⊢ wp frame (wpE (defs₀ (F := F)) Variants.none c none) Set.univ (cc0__vq_kernel (grid0.coords t) xM (Memref.isWhole_whole _) arg3 harg3 arg4 harg4 arg5 harg5 arg6 harg6 arg7 harg7 arg8 harg8 arg9 harg9 oM (Memref.isWhole_whole _) arg11 harg11 arg12 harg12 xwM (Memref.isWhole_whole _) arg14 harg14 arg15 harg15 arg16 harg16 qM (Memref.isWhole_whole _) arg18 harg18 arg19 harg19 cc0_scratch7 cc0_scratch8) K := by
  have ht : t.val < 16 := t.isLt
  iintro ⟨HI, HOS, H14, H15, H16, H18, H19, H3, H4, H5, H6, H7, H8, H9, H11, H12, HO, Hk⟩
  ihave HOS := (out_open (V := V) ht).1 $$ HOS
  icases HOS with ⟨HS0, HS1, HT, HDn⟩
  simp only [cc0__vq_kernel_eq_skeleton]; unfold cc0__vq_kernel_skel
  dsimp only
  rw [wp_bind]
  iapply (part1_run t (c := c) (X := X) (w := w) (C := C) (m := m) (W := W) (hC := hC) (hm := hm))
  isplitl [HI]; · iexact HI
  isplitl [H18]; · iexact H18
  isplitl [H19]; · iexact H19
  isplitl [HO]; · iexact HO
  iintro %a1 %v1 %v2 %v3 ⟨HI, H18, H19, ⟨%W1, HO⟩⟩
  dsimp only
  rw [wp_bind]
  iapply (part2_run (c := c) (w := w))
  isplitl [H14]; · iexact H14
  isplitl [H15]; · iexact H15
  isplitl [H3]; · iexact H3
  iintro ⟨H14, H15, H3⟩ %s %hs
  rw [wp_bind]
  iapply (part3_run t (c := c) (X := X) (w := w) (W := W1))
  isplitl [H14]; · iexact H14
  isplitl [H15]; · iexact H15
  isplitl [H3]; · iexact H3
  isplitl [H4]; · iexact H4
  isplitl [H16]; · iexact H16
  isplitl [HS0]; · iexact HS0
  isplitl [HO]; · iexact HO
  iintro %H ⟨%hH, H14, H15, H3, H4, H16, HF, HD, ⟨%W2, HO⟩⟩
  subst hs
  have hT : rowsOf H = TT w X t.val := rowsOf_congr hH
  ihave HF := (free_open (c := c) (p := t.val % 2)) $$ HF
  icases HF with ⟨Hv, ⟨%fq, HQ⟩⟩
  rw [wp_bind]
  iapply (part4_run (c := c) (w := w) (H := H))
  isplitl [H16]; · iexact H16
  isplitl [H5]; · iexact H5
  isplitl [H6]; · iexact H6
  isplitl [H8]; · iexact H8
  isplitl [H9]; · iexact H9
  iintro ⟨H16, H5, H6, H8, H9⟩
  dsimp only
  rw [wp_bind]
  iapply (part5_run (c := c) (w := w) (T := rowsOf H) (v5 := vld t.val) (C := CNT w X t.val) (m := MS w X t.val))
  isplitl [H18]; · iexact H18
  isplitl [H19]; · iexact H19
  isplitl [H7]; · iexact H7
  iintro ⟨H18, H19, H7⟩
  dsimp only
  rw [wp_bind]
  iapply (part6_run (c := c) (w := w) (H := H) (v5 := vld t.val) (hS := chunk_sub (p := t.val % 2) _ (off20_eq t)))
  isplitl [H19]; · iexact H19
  isplitl [HQ]; · iexact HQ
  isplitl [H16]; · iexact H16
  isplitl [H5]; · iexact H5
  iintro ⟨H19, HQ, H16, H5⟩
  rw [wp_bind]
  iapply (part7_run (c := c) (w := w) (T := rowsOf H) (v5 := vld t.val))
  isplitl [H18]; · iexact H18
  isplitl [H6]; · iexact H6
  isplitl [H8]; · iexact H8
  isplitl [H9]; · iexact H9
  iintro ⟨H18, H6, H8, H9⟩
  dsimp only
  rw [wp_bind]
  iapply (part8_run (c := c) (w := w) (H := H) (v5 := vld t.val) (C := ct0 w (rowsOf H) (vld t.val) (CNT w X t.val)) (hS := chunk_sub (p := t.val % 2) _ (off21_eq t)))
  isplitl [H18]; · iexact H18
  isplitl [H19]; · iexact H19
  isplitl [HQ]; · iexact HQ
  isplitl [H7]; · iexact H7
  isplitl [H16]; · iexact H16
  isplitl [H5]; · iexact H5
  iintro ⟨H18, H19, HQ, H7, H16, H5⟩
  dsimp only
  rw [wp_bind]
  iapply (part9_run (c := c) (w := w) (H := H))
  isplitl [H16]; · iexact H16
  isplitl [H5]; · iexact H5
  isplitl [H6]; · iexact H6
  isplitl [H8]; · iexact H8
  isplitl [H9]; · iexact H9
  iintro ⟨H16, H5, H6, H8, H9⟩
  dsimp only
  rw [wp_bind]
  iapply (part10_run (c := c) (w := w) (H := H) (v5 := vld t.val) (hS := chunk_sub (p := t.val % 2) _ (off22_eq t)))
  isplitl [H18]; · iexact H18
  isplitl [H19]; · iexact H19
  isplitl [HQ]; · iexact HQ
  isplitl [H7]; · iexact H7
  isplitl [H16]; · iexact H16
  iintro ⟨H18, H19, HQ, H7, H16⟩
  dsimp only
  rw [wp_bind]
  iapply (part11_run (c := c) (w := w) (H := H))
  isplitl [H16]; · iexact H16
  isplitl [H5]; · iexact H5
  isplitl [H6]; · iexact H6
  isplitl [H8]; · iexact H8
  isplitl [H9]; · iexact H9
  iintro ⟨H16, H5, H6, H8, H9⟩
  dsimp only
  rw [wp_bind]
  iapply (part12_run (c := c) (w := w) (T := rowsOf H) (v5 := vld t.val))
  isplitl [H18]; · iexact H18
  isplitl [H19]; · iexact H19
  isplitl [H7]; · iexact H7
  iintro ⟨H18, H19, H7⟩
  dsimp only
  ihave H18 := ow_open $$ H18
  icases H18 with ⟨%f18, %e18, H18⟩
  ihave H19 := ow_open $$ H19
  icases H19 with ⟨%f19, -, H19⟩
  ihave H11 := ow_open $$ H11
  icases H11 with ⟨%f11, %e11, H11⟩
  ihave H12 := ow_open $$ H12
  icases H12 with ⟨%f12, %e12, H12⟩
  ihave HT := (Entails.of_eq (congrArg (fun S => (oM.view.loc (c : Thread nD τ) ↦[S]{fullShare} V : sProp 𝕄)) (oTodo_step t.val))) $$ HT
  ihave HT := (pointsTo_union (oTodo_disj t.val)).1 $$ HT
  icases HT with ⟨Hob, HT⟩
  sl_exec
  have hS := chunk_sub (p := t.val % 2) (k0_off23_inb (grid0.coords t)) (off23_eq t)
  iapply (wp_load_rect Variants.none (c : Thread nD τ) none Set.univ hS) $$ HQ
  iintro HQ
  iapply (wp_store Variants.none (c : Thread nD τ) none Set.univ (Mk := Finset.univ) hS) $$ HQ
  iintro HQ
  rw [rbind]
  have hq : ∀ i ∈ qb (t.val % 2), ((qM.access (Rect.unit (s := S2x64x2048) (k0_off23 (grid0.coords t)) S1x64x512.size (k0_off23_inb (grid0.coords t)))).write (Elt F)
      ((qM.access (Rect.unit (s := S2x64x2048) (k0_off22 (grid0.coords t)) S1x64x512.size (k0_off22_inb (grid0.coords t)))).write (Elt F)
        ((qM.access (Rect.unit (s := S2x64x2048) (k0_off21 (grid0.coords t)) S1x64x512.size (k0_off21_inb (grid0.coords t)))).write (Elt F)
          ((qM.access (Rect.unit (s := S2x64x2048) (k0_off20 (grid0.coords t)) S1x64x512.size (k0_off20_inb (grid0.coords t)))).write (Elt F) fq (qo0 w (rowsOf H)) Finset.univ)
          (qo1 w (rowsOf H)) Finset.univ)
        (qo2 w (rowsOf H)) Finset.univ)
      (qo3 w (rowsOf H)) Finset.univ) i = QW w X t.val i := by
    rw [hT]
    exact fun i hi => chunks_QW t.val fq _ _ _ _ (off20_eq t) (off21_eq t) (off22_eq t) (off23_eq t) i hi
  ihave HQ := (Entails.of_eq (pointsTo_congr hq)) $$ HQ
  iapply (start_out (c := c) (w := w) (X := X) (V := V) (p := t.val % 2) (t := t.val) (Nat.mod_lt _ (by decide)) (off24_eq t) (off25_eq t)
    (sem_out_eq (Nat.mod_lt _ (by decide)) _ (off11_eq t))) $$ [HQ Hob Hv]
  · isplitl [HQ]; · iexact HQ
    isplitl [Hob]; · iexact Hob
    iexact Hv
  iintro HB
  ihave HDn := (done_step (c := c) (w := w) (X := X) (t := t.val)) $$ [HDn HD]
  · isplitl [HDn]; · iexact HDn
    iexact HD
  have h18 : View.read (Elt F) arg18.view f18 = CNT w X (t.val + 1) := by rw [e18, hT]; rfl
  ihave H18 := (ow_close h18) $$ H18
  ihave H19 := (ow_close (d := fun _ => MS w X (t.val + 1)) (by refine (View.read_writes_full _ _ _ _ _).trans ?_; rw [hT]; rfl)) $$ H19
  iapply (ite_run (c := c) (R := iprop(OBusy c w X (t.val % 2) t.val ∗ OutSlot c w X (t.val + 1) ∗ (oM.view.loc (c : Thread nD τ) ↦[oTodo (t.val + 1)]{fullShare} V)
      ∗ (oM.view.loc (c : Thread nD τ) ↦[oDone (t.val + 1)]{fullShare} GOUT w X) ∗ ow c arg18 (CNT w X (t.val + 1)) ∗ ow c arg19 (fun _ => MS w X (t.val + 1))
      ∗ ow c arg11 d11 ∗ ow c arg12 d12 ∗ owes (c : Thread nD τ) 0 W2))
    (R' := iprop(OutState c w X V (t.val + 1) ∗ ow c arg18 (CNT w X (t.val + 1)) ∗ ow c arg19 (fun _ => MS w X (t.val + 1))
      ∗ ow c arg11 (lossAt w X t.val d11) ∗ ow c arg12 (perpAt w X t.val d12) ∗ ∃ W', owes (c : Thread nD τ) 0 W')) ?hA ?hB) $$ [HB HS1 HT HDn H18 H19 H11 H12 HO]
  case hA =>
    intro h
    have h0 := (cond4_iff t).1 h
    rw [lossAt, if_pos h0, perpAt, if_pos h0, OutSlot, if_neg (by omega), h0]
    iintro ⟨HB, HS1, -, HDn, H18, H19, H11, H12, HO⟩ HK
    ihave H18 := ow_open $$ H18
    ihave H19 := ow_open $$ H19
    ihave H11 := ow_open $$ H11
    ihave H12 := ow_open $$ H12
    icases H18 with ⟨%f18, %e18, H18⟩
    icases H19 with ⟨%f19, %e19, H19⟩
    icases H11 with ⟨%f11, %e11, H11⟩
    icases H12 with ⟨%f12, %e12, H12⟩
    iapply (wait_out (c := c) (w := w) (X := X) (p := 1) (n := 15) (sem_out_eq (by decide) _ ((off26_eq t).trans (by rw [h0])))) $$ [HB HO]
    · isplitl [HB]; · iexact HB
      iexact HO
    iintro ⟨Hb, HF1, HO⟩
    iapply (wait_out (c := c) (w := w) (X := X) (p := 0) (n := 14) (sem_out_eq (by decide) _ ((off29_eq t).trans (by rw [h0])))) $$ [HS1 HO]
    · isplitl [HS1]; · iexact HS1
      iexact HO
    iintro ⟨Ha, HF0, HO⟩
    rw [rbind]
    sl_exec
    have hm' : View.readAt (Elt F) arg19.view (Rect.unit ![0] S1.size inb_S1_S1_0).toLoadRect f19 (Shape.Idx.first (by decide)) = MS w X (15 + 1) :=
      congrFun ((View.readAt_full _ _ _).trans e19) _
    iapply HK
    isplitl [HF0 HF1 HDn Ha Hb]
    · iapply (out_close (V := V))
      isplitl [HF0]; · iexact HF0
      isplitl [HF1]; · iexact HF1
      iapply done_last
      isplitl [HDn]; · iexact HDn
      isplitl [Ha]; · iexact Ha
      iexact Hb
    isplitl [H18]; · iapply (ow_close e18) $$ H18
    isplitl [H19]; · iapply (ow_close e19) $$ H19
    isplitl [H11]
    · iapply (ow_close (d := fun _ => k0_pay2 (MS w X 16)) ((View.read_writes_full _ _ _ _ _).trans (congrArg (fun v => fun _ => k0_pay2 v) hm'))) $$ H11
    isplitl [H12]
    · iapply (ow_close (d := fun _ => k0_pay3 (CNT w X 16)) ((View.read_writes_full _ _ _ _ _).trans
        (congrArg (fun v => fun _ => k0_pay3 v) ((View.readAt_full _ _ _).trans e18)))) $$ H12
    iexists _; iexact HO
  case hB =>
    intro h
    have h0 : t.val ≠ 15 := fun e => h ((cond4_iff t).2 e)
    rw [lossAt, if_neg h0, perpAt, if_neg h0]
    iintro ⟨HB, HS1, HT, HDn, H18, H19, H11, H12, HO⟩
    isplitl [HB HS1 HT HDn]
    · iapply (out_open (V := V) (show t.val + 1 < 16 by omega)).2
      isplitl [HS1]; · iexact HS1
      isplitl [HB]
      · iapply (slot_next (c := c) (w := w) (X := X)) $$ HB
      isplitl [HT]; · iexact HT
      iexact HDn
    isplitl [H18]; · iexact H18
    isplitl [H19]; · iexact H19
    isplitl [H11]; · iexact H11
    isplitl [H12]; · iexact H12
    iexists _; iexact HO
  · isplitl [HB]; · iexact HB
    isplitl [HS1]; · iexact HS1
    isplitl [HT]; · iexact HT
    isplitl [HDn]; · iexact HDn
    isplitl [H18]; · iexact H18
    isplitl [H19]; · iexact H19
    isplitl [H11]; · iapply (ow_close e11) $$ H11
    isplitl [H12]; · iapply (ow_close e12) $$ H12
    iexact HO
  iintro ⟨HOS, H18, H19, H11, H12, HO⟩
  sl_step
  iapply Hk
  isplitl [HI]; · iexact HI
  isplitl [HOS]; · iexact HOS
  isplitl [H14]; · iexists _; iexact H14
  isplitl [H15]; · iexists _; iexact H15
  isplitl [H16]; · iexists _; iexact H16
  isplitl [H18]; · iexact H18
  isplitl [H19]; · iexact H19
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H12]; · iexact H12
  iexact HO

end Cert.KernelIdeal.Hand

end
-- ==== Proof.IEnds.lean ====
/-
  Hand-written: what the launch hands the kernel, and what the kernel hands back.
-/
module

public import proofs.«01_k».proof.Proof.IBody
public import Idealize.ShloMosaic.Lib.Pipeline.FrameSuffixV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "EC" => (countersEmb (U := Pipeline.UD sig nD τ))

theorem wb_univ : (Finset.univ : Finset S2x256x8320.Idx) = wb 0 ∪ wb 1 := by
  ext i
  have h : (i 0).val < 2 := (i 0).isLt
  rw [Finset.mem_union, mem_wb, mem_wb]
  simp only [Finset.mem_univ, true_iff]
  omega
theorem wb_disj : Disjoint (wb 0) (wb 1) := Finset.disjoint_left.2 fun i h0 h1 => by
  rw [mem_wb] at h0 h1; omega
theorem qb_univ : (Finset.univ : Finset S2x64x2048.Idx) = qb 0 ∪ qb 1 := by
  ext i
  have h : (i 0).val < 2 := (i 0).isLt
  rw [Finset.mem_union, mem_qb, mem_qb]
  simp only [Finset.mem_univ, true_iff]
  omega
theorem qb_disj : Disjoint (qb 0) (qb 1) := Finset.disjoint_left.2 fun i h0 h1 => by
  rw [mem_qb] at h0 h1; omega

variable (c : Dev nD) (X : Vec F S4x256x32768 .f32)

/-- The input array in its four shares. -/
theorem x_split : (xM.view.loc (c : Thread nD τ) ↦{fullShare} X : sProp 𝕄)
    ⊣⊢ iprop((xS c X 0 Finset.univ ∗ xS c X 1 Finset.univ) ∗ (xS c X 2 Finset.univ ∗ xS c X 3 Finset.univ)) := by
  have h := pointsTo_share (nD := nD) (τ := τ) (Ix := Unit) (Val := Elt F) (Name := ℕ) (U := Pipeline.UD sig nD τ) (Lvl := ℕ) (ℓ := xM.view.loc (c : Thread nD τ)) (I := Finset.univ) (f := X) (PosShare.mem_left_op_right fullShare)
  have h0 := pointsTo_share (nD := nD) (τ := τ) (Ix := Unit) (Val := Elt F) (Name := ℕ) (U := Pipeline.UD sig nD τ) (Lvl := ℕ) (ℓ := xM.view.loc (c : Thread nD τ)) (I := Finset.univ) (f := X) (PosShare.mem_left_op_right fullShare.left)
  have h1 := pointsTo_share (nD := nD) (τ := τ) (Ix := Unit) (Val := Elt F) (Name := ℕ) (U := Pipeline.UD sig nD τ) (Lvl := ℕ) (ℓ := xM.view.loc (c : Thread nD τ)) (I := Finset.univ) (f := X) (PosShare.mem_left_op_right fullShare.right)
  exact ⟨h.1.trans (BIClass.sep_mono h0.1 h1.1), (BIClass.sep_mono h0.2 h1.2).trans h.2⟩

/-- The two slots of the window buffer. -/
theorem xw_split (f : Buf (Elt F) (xwM.view.loc (c : Thread nD τ))) : (xwM.view.loc (c : Thread nD τ) ↦{fullShare} f : sProp 𝕄)
    ⊢ iprop((xwM.view.loc (c : Thread nD τ) ↦[wb 0]{fullShare} f) ∗ (xwM.view.loc (c : Thread nD τ) ↦[wb 1]{fullShare} f)) := by
  show (xwM.view.loc (c : Thread nD τ) ↦[(Finset.univ : Finset S2x256x8320.Idx)]{fullShare} f : sProp 𝕄) ⊢ _
  rw [wb_univ]
  exact (pointsTo_union wb_disj).1
theorem xw_join (f g : Buf (Elt F) (xwM.view.loc (c : Thread nD τ))) :
    iprop((xwM.view.loc (c : Thread nD τ) ↦[wb 0]{fullShare} f) ∗ (xwM.view.loc (c : Thread nD τ) ↦[wb 1]{fullShare} g))
    ⊢ (iprop(∃ h, xwM.view.loc (c : Thread nD τ) ↦{fullShare} h) : sProp 𝕄) := by
  refine (pointsTo_join wb_disj).trans ?_
  rw [← wb_univ]
  iintro H; iexists _; iexact H
/-- The two slots of the output buffer. -/
theorem q_split (f : Buf (Elt F) (qM.view.loc (c : Thread nD τ))) : (qM.view.loc (c : Thread nD τ) ↦{fullShare} f : sProp 𝕄)
    ⊢ iprop((qM.view.loc (c : Thread nD τ) ↦[qb 0]{fullShare} f) ∗ (qM.view.loc (c : Thread nD τ) ↦[qb 1]{fullShare} f)) := by
  show (qM.view.loc (c : Thread nD τ) ↦[(Finset.univ : Finset S2x64x2048.Idx)]{fullShare} f : sProp 𝕄) ⊢ _
  rw [qb_univ]
  exact (pointsTo_union qb_disj).1
theorem q_join (f g : Buf (Elt F) (qM.view.loc (c : Thread nD τ))) :
    iprop((qM.view.loc (c : Thread nD τ) ↦[qb 0]{fullShare} f) ∗ (qM.view.loc (c : Thread nD τ) ↦[qb 1]{fullShare} g))
    ⊢ (iprop(∃ h, qM.view.loc (c : Thread nD τ) ↦{fullShare} h) : sProp 𝕄) := by
  refine (pointsTo_join qb_disj).trans ?_
  rw [← qb_univ]
  iintro H; iexists _; iexact H

/-- Nothing is in flight before the first step. -/
theorem in_start (f : Buf (Elt F) (xwM.view.loc (c : Thread nD τ))) :
    iprop((xM.view.loc (c : Thread nD τ) ↦{fullShare} X) ∗ (xwM.view.loc (c : Thread nD τ) ↦{fullShare} f)
      ∗ semVal ((c : Thread nD τ), SemLoc.dma 9) 0 ∗ semVal ((c : Thread nD τ), SemLoc.dma 10) 0)
    ⊢ (InState c X 0 : sProp 𝕄) := by
  rw [InState, if_pos (Or.inl rfl)]
  unfold Idle
  rw [show SemLoc.dma (semIn 0) = SemLoc.dma 9 by rfl, show SemLoc.dma (semIn 1) = SemLoc.dma 10 by rfl]
  iintro ⟨HX, HW, H9, H10⟩
  ihave HX := (x_split c X).1 $$ HX
  icases HX with ⟨⟨Ha, Hb⟩, ⟨Hc, Hd⟩⟩
  ihave HW := (xw_split c f) $$ HW
  icases HW with ⟨Hw0, Hw1⟩
  isplitl [H9 Hw0 Ha Hb]
  · isplitl [H9]; · iexact H9
    isplitl [Hw0]; · iexists f; iexact Hw0
    isplitl [Ha]; · iexact Ha
    iexact Hb
  isplitl [H10]; · iexact H10
  isplitl [Hw1]; · iexists f; iexact Hw1
  isplitl [Hc]; · iexact Hc
  iexact Hd

/-- Nor after the last. -/
theorem in_end : (InState c X 16 : sProp 𝕄)
    ⊢ iprop((xM.view.loc (c : Thread nD τ) ↦{fullShare} X) ∗ (∃ f, xwM.view.loc (c : Thread nD τ) ↦{fullShare} f)
      ∗ semVal ((c : Thread nD τ), SemLoc.dma 9) 0 ∗ semVal ((c : Thread nD τ), SemLoc.dma 10) 0) := by
  rw [InState, if_pos (Or.inr rfl)]
  unfold Idle
  rw [show SemLoc.dma (semIn 0) = SemLoc.dma 9 by rfl, show SemLoc.dma (semIn 1) = SemLoc.dma 10 by rfl]
  iintro ⟨⟨H9, ⟨%f0, Hw0⟩, Ha, Hb⟩, ⟨H10, ⟨%f1, Hw1⟩, Hc, Hd⟩⟩
  isplitl [Ha Hb Hc Hd]
  · iapply (x_split c X).2
    isplitl [Ha Hb]
    · isplitl [Ha]; · iexact Ha
      iexact Hb
    isplitl [Hc]; · iexact Hc
    iexact Hd
  isplitl [Hw0 Hw1]
  · iapply (xw_join c f0 f1)
    isplitl [Hw0]; · iexact Hw0
    iexact Hw1
  isplitl [H9]; · iexact H9
  iexact H10

variable (w : Wts F) (V : Vec F S4x64x8192 .f32)

/-- Before the first step no block of the output is written. -/
theorem out_start (f : Buf (Elt F) (qM.view.loc (c : Thread nD τ))) :
    iprop((oM.view.loc (c : Thread nD τ) ↦{fullShare} V) ∗ (qM.view.loc (c : Thread nD τ) ↦{fullShare} f)
      ∗ semVal ((c : Thread nD τ), SemLoc.dma 11) 0 ∗ semVal ((c : Thread nD τ), SemLoc.dma 12) 0)
    ⊢ (OutState c w X V 0 : sProp 𝕄) := by
  rw [OutState, if_neg (by decide), OutSlot, if_pos (by decide), OutSlot, if_pos (by decide), oTodo_zero, oDone_zero, pointsTo_empty]
  unfold OFree
  rw [show SemLoc.dma (semOut (0 % 2)) = SemLoc.dma 11 by rfl, show SemLoc.dma (semOut ((0 + 1) % 2)) = SemLoc.dma 12 by rfl]
  iintro ⟨HO, HQ, H11, H12⟩
  ihave HQ := (q_split c f) $$ HQ
  icases HQ with ⟨Hq0, Hq1⟩
  isplitl [H11 Hq0]
  · isplitl [H11]; · iexact H11
    iexists f; iexact Hq0
  isplitl [H12 Hq1]
  · isplitl [H12]; · iexact H12
    iexists f; iexact Hq1
  isplitl [HO]; · iexact HO
  iempintro

/-- After the last step every block is. -/
theorem out_end : (OutState c w X V 16 : sProp 𝕄)
    ⊢ iprop((oM.view.loc (c : Thread nD τ) ↦{fullShare} GOUT w X) ∗ (∃ f, qM.view.loc (c : Thread nD τ) ↦{fullShare} f)
      ∗ semVal ((c : Thread nD τ), SemLoc.dma 11) 0 ∗ semVal ((c : Thread nD τ), SemLoc.dma 12) 0) := by
  rw [OutState, if_pos rfl]
  unfold OFree
  rw [show SemLoc.dma (semOut 0) = SemLoc.dma 11 by rfl, show SemLoc.dma (semOut 1) = SemLoc.dma 12 by rfl]
  iintro ⟨⟨H11, ⟨%f0, Hq0⟩⟩, ⟨H12, ⟨%f1, Hq1⟩⟩, HO⟩
  isplitl [HO]; · iexact HO
  isplitl [Hq0 Hq1]
  · iapply (q_join c f0 f1)
    isplitl [Hq0]; · iexact Hq0
    iexact Hq1
  isplitl [H11]; · iexact H11
  iexact H12

end Cert.KernelIdeal.Hand

end
-- ==== Proof.IRun.lean ====
/-
  Hand-written: the run of the whole program: its arguments end as launched, its results at what the steps accumulate.
-/
module

public import proofs.«01_k».proof.Proof.IEnds
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ
local notation "EC" => (countersEmb (U := Pipeline.UD sig nD τ))

variable (m : (ℓ : Loc nD τ sig) → Buf (Elt F) ℓ) (ρ : Dev nD → PrngReg)

/-- The input array as launched. -/
abbrev xin (c : Dev nD) : Vec F S4x256x32768 .f32 := V m c main_arg0
/-- The weights as the host lines before the region leave them. -/
def wts (c : Dev nD) : Wts F :=
  ⟨V m c main_call0_v1, V m c main_call0_v4, V m c main_call0_v3, V m c main_call0_v5, V m c main_arg5, V m c main_call0_v7, V m c main_call0_v9⟩

/-- What holds between steps. -/
def Inv (c : Dev nD) (n : ℕ) : sProp 𝕄 :=
  iprop(InState c (xin m c) n ∗ OutState c (wts m c) (xin m c) (V m c main_call0_v10_0) n
    ∗ (∃ d, ow c (Memref.whole cc0_scratch1 : Memref sig .tc .vmem S8320x128 .f32) d) ∗ (∃ d, ow c (Memref.whole cc0_scratch2 : Memref sig .tc .vmem S8320x128 .f32) d)
    ∗ (∃ d, ow c (Memref.whole cc0_scratch3 : Memref sig .tc .vmem S4104x128 .f32) d)
    ∗ ∃ C s, ⌜n ≠ 0 → C = CNT (wts m c) (xin m c) n ∧ s = MS (wts m c) (xin m c) n⌝
      ∗ ow c (Memref.whole cc0_scratch5 : Memref sig .tc .vmem S1x1024 .f32) C ∗ ow c (Memref.whole cc0_scratch6 : Memref sig .tc .smem S1 .f32) (fun _ => s))

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => (wts m c).W1
    | ⟨1, _⟩ => (wts m c).B1
    | ⟨2, _⟩ => (wts m c).W2
    | ⟨3, _⟩ => (wts m c).B2
    | ⟨4, _⟩ => (wts m c).CB
    | ⟨5, _⟩ => (wts m c).CB2
    | ⟨6, _⟩ => (wts m c).CS
    | ⟨7, _⟩ => fun _ => k0_pay2 (MS (wts m c) (xin m c) 16)
    | ⟨8, _⟩ => fun _ => k0_pay3 (CNT (wts m c) (xin m c) 16)
    | ⟨n + 9, h⟩ => absurd h (Nat.not_lt.2 (Nat.le_add_left _ _))
  Φ t := Inv m c t.val
  q _ := fullShare
  owed _ := 0

theorem A_eq (c : Dev nD) (w : Fin cfg0.W) : (dats m 0 c).A w = V m c (Pipeline.arrRef spec0 w) := by
  dsimp only [dats]

/-- Window 0 is its whole array at every step. -/
theorem iblk_0 (c : Dev nD) (t : Fin cfg0.N) : iblk m c 0 t = (wts m c).W1 := by
  funext i
  show V m c main_call0_v1 _ = V m c main_call0_v1 i
  refine congrArg (V m c main_call0_v1) (funext fun a => Fin.ext ?_)
  fin_cases a <;> exact (ValueKit.rect_emb_unit_val _ _ _ _ _).trans (Nat.zero_add _)
theorem before_0 (c : Dev nD) (t : Fin cfg0.N) (d) : (dats m 0 c).before 0 t d = (wts m c).W1 :=
  ((dats m 0 c).before_in_eq_fetched 0 rfl (fun _ => rfl) (fun _ _ _ => rfl) (fun t => (iblk_0 m c t).symm) t d).trans (iblk_0 m c t)

/-- Window 1 is its whole array at every step. -/
theorem iblk_1 (c : Dev nD) (t : Fin cfg0.N) : iblk m c 1 t = (wts m c).B1 := by
  funext i
  show V m c main_call0_v4 _ = V m c main_call0_v4 i
  refine congrArg (V m c main_call0_v4) (funext fun a => Fin.ext ?_)
  fin_cases a <;> exact (ValueKit.rect_emb_unit_val _ _ _ _ _).trans (Nat.zero_add _)
theorem before_1 (c : Dev nD) (t : Fin cfg0.N) (d) : (dats m 0 c).before 1 t d = (wts m c).B1 :=
  ((dats m 0 c).before_in_eq_fetched 1 rfl (fun _ => rfl) (fun _ _ _ => rfl) (fun t => (iblk_1 m c t).symm) t d).trans (iblk_1 m c t)

/-- Window 2 is its whole array at every step. -/
theorem iblk_2 (c : Dev nD) (t : Fin cfg0.N) : iblk m c 2 t = (wts m c).W2 := by
  funext i
  show V m c main_call0_v3 _ = V m c main_call0_v3 i
  refine congrArg (V m c main_call0_v3) (funext fun a => Fin.ext ?_)
  fin_cases a <;> exact (ValueKit.rect_emb_unit_val _ _ _ _ _).trans (Nat.zero_add _)
theorem before_2 (c : Dev nD) (t : Fin cfg0.N) (d) : (dats m 0 c).before 2 t d = (wts m c).W2 :=
  ((dats m 0 c).before_in_eq_fetched 2 rfl (fun _ => rfl) (fun _ _ _ => rfl) (fun t => (iblk_2 m c t).symm) t d).trans (iblk_2 m c t)

/-- Window 3 is its whole array at every step. -/
theorem iblk_3 (c : Dev nD) (t : Fin cfg0.N) : iblk m c 3 t = (wts m c).B2 := by
  funext i
  show V m c main_call0_v5 _ = V m c main_call0_v5 i
  refine congrArg (V m c main_call0_v5) (funext fun a => Fin.ext ?_)
  fin_cases a <;> exact (ValueKit.rect_emb_unit_val _ _ _ _ _).trans (Nat.zero_add _)
theorem before_3 (c : Dev nD) (t : Fin cfg0.N) (d) : (dats m 0 c).before 3 t d = (wts m c).B2 :=
  ((dats m 0 c).before_in_eq_fetched 3 rfl (fun _ => rfl) (fun _ _ _ => rfl) (fun t => (iblk_3 m c t).symm) t d).trans (iblk_3 m c t)

/-- Window 4 is its whole array at every step. -/
theorem iblk_4 (c : Dev nD) (t : Fin cfg0.N) : iblk m c 4 t = (wts m c).CB := by
  funext i
  show V m c main_arg5 _ = V m c main_arg5 i
  refine congrArg (V m c main_arg5) (funext fun a => Fin.ext ?_)
  fin_cases a <;> exact (ValueKit.rect_emb_unit_val _ _ _ _ _).trans (Nat.zero_add _)
theorem before_4 (c : Dev nD) (t : Fin cfg0.N) (d) : (dats m 0 c).before 4 t d = (wts m c).CB :=
  ((dats m 0 c).before_in_eq_fetched 4 rfl (fun _ => rfl) (fun _ _ _ => rfl) (fun t => (iblk_4 m c t).symm) t d).trans (iblk_4 m c t)

/-- Window 5 is its whole array at every step. -/
theorem iblk_5 (c : Dev nD) (t : Fin cfg0.N) : iblk m c 5 t = (wts m c).CB2 := by
  funext i
  show V m c main_call0_v7 _ = V m c main_call0_v7 i
  refine congrArg (V m c main_call0_v7) (funext fun a => Fin.ext ?_)
  fin_cases a <;> exact (ValueKit.rect_emb_unit_val _ _ _ _ _).trans (Nat.zero_add _)
theorem before_5 (c : Dev nD) (t : Fin cfg0.N) (d) : (dats m 0 c).before 5 t d = (wts m c).CB2 :=
  ((dats m 0 c).before_in_eq_fetched 5 rfl (fun _ => rfl) (fun _ _ _ => rfl) (fun t => (iblk_5 m c t).symm) t d).trans (iblk_5 m c t)

/-- Window 6 is its whole array at every step. -/
theorem iblk_6 (c : Dev nD) (t : Fin cfg0.N) : iblk m c 6 t = (wts m c).CS := by
  funext i
  show V m c main_call0_v9 _ = V m c main_call0_v9 i
  refine congrArg (V m c main_call0_v9) (funext fun a => Fin.ext ?_)
  fin_cases a <;> exact (ValueKit.rect_emb_unit_val _ _ _ _ _).trans (Nat.zero_add _)
theorem before_6 (c : Dev nD) (t : Fin cfg0.N) (d) : (dats m 0 c).before 6 t d = (wts m c).CS :=
  ((dats m 0 c).before_in_eq_fetched 6 rfl (fun _ => rfl) (fun _ _ _ => rfl) (fun t => (iblk_6 m c t).symm) t d).trans (iblk_6 m c t)
theorem after_0 (c : Dev nD) (t : Fin cfg0.N) : (dats m 0 c).after 0 t = (wts m c).W1 := by dsimp only [dats]
theorem after_1 (c : Dev nD) (t : Fin cfg0.N) : (dats m 0 c).after 1 t = (wts m c).B1 := by dsimp only [dats]
theorem after_2 (c : Dev nD) (t : Fin cfg0.N) : (dats m 0 c).after 2 t = (wts m c).W2 := by dsimp only [dats]
theorem after_3 (c : Dev nD) (t : Fin cfg0.N) : (dats m 0 c).after 3 t = (wts m c).B2 := by dsimp only [dats]
theorem after_4 (c : Dev nD) (t : Fin cfg0.N) : (dats m 0 c).after 4 t = (wts m c).CB := by dsimp only [dats]
theorem after_5 (c : Dev nD) (t : Fin cfg0.N) : (dats m 0 c).after 5 t = (wts m c).CB2 := by dsimp only [dats]
theorem after_6 (c : Dev nD) (t : Fin cfg0.N) : (dats m 0 c).after 6 t = (wts m c).CS := by dsimp only [dats]
theorem after_7 (c : Dev nD) (t : Fin cfg0.N) : (dats m 0 c).after 7 t = fun _ => k0_pay2 (MS (wts m c) (xin m c) 16) := by dsimp only [dats]
theorem after_8 (c : Dev nD) (t : Fin cfg0.N) : (dats m 0 c).after 8 t = fun _ => k0_pay3 (CNT (wts m c) (xin m c) 16) := by dsimp only [dats]

/-- What the body must leave in a window's buffer: at a step that does not store it, what it held. -/
def leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leaves_live {c : Dev nD} {w : Fin cfg0.W} {t : Fin cfg0.N} (h : cfg0.idle w (cfg0.grid.coords t) = false) :
    leaves m c w t = owns (c : Thread nD τ) ((cfg0.win w).stage (cfg0.slots t w)) fullShare ((dats m 0 c).after w t) := by
  unfold leaves; rw [h]
theorem leaves_idle {c : Dev nD} {w : Fin cfg0.W} {t : Fin cfg0.N} (h : cfg0.idle w (cfg0.grid.coords t) = true) (hf : (cfg0.win w).flush t = false) :
    leaves m c w t = iprop(∃ d, owns (c : Thread nD τ) ((cfg0.win w).stage (cfg0.slots t w)) fullShare ((dats m 0 c).before w t d)) := by
  unfold leaves; rw [h, hf]

theorem idle_7 (t : Fin cfg0.N) : cfg0.idle 7 (cfg0.grid.coords t) = !(k0_cond4 (grid0.coords t) == 1#1) := rfl
theorem idle_8 (t : Fin cfg0.N) : cfg0.idle 8 (cfg0.grid.coords t) = !(k0_cond4 (grid0.coords t) == 1#1) := rfl

/-- The loss cell's buffer is left as it must be. -/
theorem loss_leaves (c : Dev nD) (t : Fin cfg0.N) (d) :
    ow c (stage0_7 (Fin.cast nbuf0_7 (cfg0.slots t 7))) (lossAt (wts m c) (xin m c) t.val ((dats m 0 c).before 7 t d)) ⊢ leaves m c 7 t := by
  by_cases h : t.val = 15
  · rw [leaves_live m (by rw [idle_7, (cond4_iff t).2 h]; rfl), after_7, lossAt, if_pos h]; exact .rfl
  · have hc : k0_cond4 (grid0.coords t) ≠ 1#1 := fun e => h ((cond4_iff t).1 e)
    have hf : (cfg0.win 7).flush t = false := by
      have h16 : t.val < 16 := t.isLt
      cases hx : (cfg0.win 7).flush t with
      | false => rfl
      | true => have := (flush0_7 t).1 hx; omega
    rw [leaves_idle m (by rw [idle_7, beq_eq_false_iff_ne.2 hc]; rfl) hf, lossAt, if_neg h]
    iintro H; iexists d; iexact H
/-- The perplexity cell's buffer is left as it must be. -/
theorem perp_leaves (c : Dev nD) (t : Fin cfg0.N) (d) :
    ow c (stage0_8 (Fin.cast nbuf0_8 (cfg0.slots t 8))) (perpAt (wts m c) (xin m c) t.val ((dats m 0 c).before 8 t d)) ⊢ leaves m c 8 t := by
  by_cases h : t.val = 15
  · rw [leaves_live m (by rw [idle_8, (cond4_iff t).2 h]; rfl), after_8, perpAt, if_pos h]; exact .rfl
  · have hc : k0_cond4 (grid0.coords t) ≠ 1#1 := fun e => h ((cond4_iff t).1 e)
    have hf : (cfg0.win 8).flush t = false := by
      have h16 : t.val < 16 := t.isLt
      cases hx : (cfg0.win 8).flush t with
      | false => rfl
      | true => have := (flush0_8 t).1 hx; omega
    rw [leaves_idle m (by rw [idle_8, beq_eq_false_iff_ne.2 hc]; rfl) hf, perpAt, if_neg h]
    iintro H; iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ leaves m c 7 t ∗ leaves m c 8 t)

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Inv m c (t.val + 1) from rfl, show (dats m 0 c).Φ t.castSucc = Inv m c t.val from rfl]
  simp only [before_0, before_1, before_2, before_3, before_4, before_5, before_6]
  rw [after_0, after_1, after_2, after_3, after_4, after_5, after_6]
  unfold Dat.owesAt Pipeline.owesWithin Inv
  rw [show (dats m 0 c).owed t.castSucc = 0 from rfl, show (dats m 0 c).owed t.succ = 0 from rfl]
  iintro ⟨⟨HI, HOS, H14, H15, H16, ⟨%C, %s, %hCs, H18, H19⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_run t (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (Memref.isWhole_whole _) (Memref.isWhole_whole _) (Memref.isWhole_whole _) (Memref.isWhole_whole _) (Memref.isWhole_whole _) (c := c) (X := xin m c) (V := V m c main_call0_v10_0) (w := wts m c) (C := C) (m := s) (W := W)
    (d11 := (dats m 0 c).before 7 t d7) (d12 := (dats m 0 c).before 8 t d8) (hC := fun h => (hCs h).1) (hm := fun h => (hCs h).2))
  isplitl [HI]; · iexact HI
  isplitl [HOS]; · iexact HOS
  isplitl [H14]; · iexact H14
  isplitl [H15]; · iexact H15
  isplitl [H16]; · iexact H16
  isplitl [H18]; · iexact H18
  isplitl [H19]; · iexact H19
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HW]; · iexact HW
  iintro ⟨HI, HOS, H14, H15, H16, H18, H19, H0, H1, H2, H3, H4, H5, H6, H7, H8, ⟨%W', HW⟩⟩
  isplitl [HI HOS H14 H15 H16 H18 H19]
  · isplitl [HI]; · iexact HI
    isplitl [HOS]; · iexact HOS
    isplitl [H14]; · iexact H14
    isplitl [H15]; · iexact H15
    isplitl [H16]; · iexact H16
    iexists _, _
    isplitr; swap
    · isplitl [H18]; · iexact H18
      iexact H19
    ipureintro; exact fun _ => ⟨rfl, rfl⟩
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (loss_leaves m c t d7) $$ H7
  iapply (perp_leaves m c t d8) $$ H8

theorem defs₀_row (t : Fin grid0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The two DMA cells of each direction. -/
abbrev osem0 : Fin 4 → SemLoc sig := fun j => (![SemLoc.dma 9, SemLoc.dma 10, SemLoc.dma 11, SemLoc.dma 12] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0) := by
  rw [Pipeline.ownSems0_eq_of_list c osem0 [0, 1, 2, 3] (by decide) (by decide)]; rfl

/-- The input left where it is. -/
def H0 : Finset (Ref sig .tc) := {main_arg0}
/-- The output the body's transfers write. -/
def R0 : Finset (Ref sig .tc) := {main_call0_v10_0}
theorem H0_sub : H0 ⊆ Pipeline.restRefs sig spec0 := by decide
theorem R0_sub : R0 ⊆ Pipeline.restRefs sig spec0 \ H0 := by decide

/-- What the written output ends as (elsewhere, what the region found). -/
def G (c : Dev nD) (b : Ref sig .tc) : Buf (Elt F) ((c : Thread nD τ).loc b) :=
  if h : b = main_call0_v10_0 then h ▸ (GOUT (wts m c) (xin m c) : Vec F S4x64x8192 .f32) else V m c b

theorem G_out (c : Dev nD) : G m c main_call0_v10_0 = (GOUT (wts m c) (xin m c) : Vec F S4x64x8192 .f32) := by
  unfold G; rw [dif_pos rfl]

/-- The one element of a buffer of one. -/
def theOne (f : S1.Idx → Elt F .f32) : Elt F .f32 := f (Shape.Idx.first (s := S1) (by decide))
theorem theOne_eq (f : S1.Idx → Elt F .f32) : f = fun _ => theOne f := funext fun i => congrArg f (by
  funext a; fin_cases a; exact Subsingleton.elim (α := Fin 1) _ _)

theorem phi_in (c : Dev nD) : Pipeline.ΦDRV osem0 spec0 H0 R0 (V m) (V m) c ⊢ (dats m 0 c).Φ 0 := by
  rw [show (dats m 0 c).Φ 0 = Inv m c 0 from rfl]
  unfold Pipeline.ΦDRV
  rw [scopedRest0_eq, ownSems00_eq, H0, R0, BI.bigSep_singleton, BI.bigSep_singleton]
  unfold Inv
  simp only [ow, owns_whole]
  iintro ⟨⟨⟨%f0, H0⟩, ⟨%f1, H1⟩, ⟨%f2, H2⟩, ⟨%f3, H3⟩, ⟨%f4, H4⟩, ⟨%f5, H5⟩, ⟨%f6, H6⟩⟩, ⟨Ha, Hb, Hc, Hd⟩, HX, HO⟩
  isplitl [HX H0 Ha Hb]
  · iapply (in_start c (xin m c) f0)
    isplitl [HX]; · iexact HX
    isplitl [H0]; · iexact H0
    isplitl [Ha]; · iexact Ha
    iexact Hb
  isplitl [HO H4 Hc Hd]
  · iapply (out_start c (xin m c) (wts m c) (V m c main_call0_v10_0) f4)
    isplitl [HO]; · iexact HO
    isplitl [H4]; · iexact H4
    isplitl [Hc]; · iexact Hc
    iexact Hd
  isplitl [H1]; · iexists f1; iexact H1
  isplitl [H2]; · iexists f2; iexact H2
  isplitl [H3]; · iexists f3; iexact H3
  iexists f5, (theOne (F := F) f6)
  isplitr
  · ipureintro; exact fun h => absurd rfl h
  isplitl [H5]; · iexact H5
  iapply (Entails.of_eq (congrArg (fun g => (((c : Thread nD τ).loc cc0_scratch6) ↦{fullShare} g : sProp 𝕄)) (theOne_eq (F := F) f6))) $$ H6

theorem phi_out (c : Dev nD) : (dats m 0 c).Φ (Fin.last cfg0.N) ⊢ Pipeline.ΦDRV osem0 spec0 H0 R0 (V m) (G m) c := by
  rw [show (dats m 0 c).Φ (Fin.last cfg0.N) = Inv m c 16 from rfl]
  unfold Pipeline.ΦDRV
  rw [scopedRest0_eq, ownSems00_eq, H0, R0, BI.bigSep_singleton, BI.bigSep_singleton, G_out]
  unfold Inv
  simp only [ow, owns_whole]
  iintro ⟨HI, HOS, ⟨%f1, H1⟩, ⟨%f2, H2⟩, ⟨%f3, H3⟩, ⟨%f5, %f6, -, H5, H6⟩⟩
  ihave HI := (in_end c (xin m c)) $$ HI
  icases HI with ⟨HX, ⟨%f0, H0⟩, Ha, Hb⟩
  ihave HOS := (out_end c (xin m c) (wts m c) (V m c main_call0_v10_0)) $$ HOS
  icases HOS with ⟨HO, ⟨%f4, H4⟩, Hc, Hd⟩
  isplitl [H0 H1 H2 H3 H4 H5 H6]
  · isplitl [H0]; · iexists f0; iexact H0
    isplitl [H1]; · iexists f1; iexact H1
    isplitl [H2]; · iexists f2; iexact H2
    isplitl [H3]; · iexists f3; iexact H3
    isplitl [H4]; · iexists f4; iexact H4
    isplitl [H5]; · iexists f5; iexact H5
    iexists _; iexact H6
  isplitl [Ha Hb Hc Hd]
  · isplitl [Ha]; · iexact Ha
    isplitl [Hb]; · iexact Hb
    isplitl [Hc]; · iexact Hc
    iexact Hd
  isplitl [HX]; · iexact HX
  iexact HO

set_option maxHeartbeats 800000 in
/-- The program around the region, at the algebra of the kernel's own transfers. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- What core `c`'s buffer `b` holds at the end. -/
abbrev endAt (c : Dev nD) (b : Ref sig .tc) : Buf (Elt F) ((c : Thread nD τ).loc b) :=
  StableHlo.after (List.flatten [hostOps1]) (Pipeline.withArrays spec0 c (Pipeline.withR (V0 m c) R0 c (G m c)) fun w => (dats m 0 c).arrAt w cfg0.N) (Proc.devRef .tc b)

set_option backward.isDefEq.respectTransparency.types false in
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b) = endAt m c b) ∧ r.2.sem = fun _ => 0) :=
  Pipeline.θ_run_frame_dmaR_aroundV (Q' := _) (hQ' := fun _ h => h) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmainD m Variants.none) (hA := A_eq m) (hin := phi_in m) (hout := phi_out m)

/-- A buffer that neither the region nor the lines after it write ends as the region found it. -/
theorem endAt_of (c : Dev nD) (b : Ref sig .tc) (hw : b ≠ main_v0_0 ∧ b ≠ main_v0_1 ∧ b ≠ main_v0_2) (hr : b ≠ main_call0_v10_0)
    (ha : ∀ w, Pipeline.arrRef spec0 w ≠ b) : endAt m c b = V m c b := by
  unfold endAt
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact ⟨StableHlo.devRef_ne_of_ne hw.1, StableHlo.devRef_ne_of_ne hw.2.1, StableHlo.devRef_ne_of_ne hw.2.2⟩)),
    Pipeline.withArrays_of_ne _ c _ _ b ha, Pipeline.withR_of_not_mem _ _ c _ b (by rw [R0, Finset.mem_singleton]; exact hr)]

/-- The program runs, its arguments end as launched and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (Pipeline.mem_restRefs_of main_arg0 (by decide) (by decide))).trans ((endAt_of m c main_arg0 (by decide) (by decide) (by decide)).trans (V_main_arg0 m c)),
      ((h.1 c).2 main_arg1 (Pipeline.mem_restRefs_of main_arg1 (by decide) (by decide))).trans ((endAt_of m c main_arg1 (by decide) (by decide) (by decide)).trans (V_main_arg1 m c)),
      ((h.1 c).2 main_arg2 (Pipeline.mem_restRefs_of main_arg2 (by decide) (by decide))).trans ((endAt_of m c main_arg2 (by decide) (by decide) (by decide)).trans (V_main_arg2 m c)),
      ((h.1 c).2 main_arg3 (Pipeline.mem_restRefs_of main_arg3 (by decide) (by decide))).trans ((endAt_of m c main_arg3 (by decide) (by decide) (by decide)).trans (V_main_arg3 m c)),
      ((h.1 c).2 main_arg4 (Pipeline.mem_restRefs_of main_arg4 (by decide) (by decide))).trans ((endAt_of m c main_arg4 (by decide) (by decide) (by decide)).trans (V_main_arg4 m c)),
      ((h.1 c).1 4).trans (((dats m 0 c).arrAt_in 4 rfl _).trans ((A_eq m c 4).trans (V_main_arg5 m c)))⟩, h.2⟩) (run_main m ρ)

end Cert.KernelIdeal.Hand

end
-- ==== Proof.RefRun.lean ====
/- The reference as a list of host operations, and its run: every execution ends with each result at the
   operations' composed term of the arguments, and the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The least value of each row's search. -/
def argVal (x : (⟨S32760x1024, .f32⟩ : BufTy).Contents (Elt F)) (y : (⟨S32760x1024, .i32⟩ : BufTy).Contents (Elt F))
    (u : (⟨S_, .f32⟩ : BufTy).Contents (Elt F)) (v : (⟨S_, .i32⟩ : BufTy).Contents (Elt F)) :
    (⟨S32760, .f32⟩ : BufTy).Contents (Elt F) :=
  fun j => (Host.argReduce reducer_argmin_f32_i32 x y u v reducesTo_S32760x1024_S32760_d1 h_S_ j).1

/-- The lane that each row's search ends at. -/
def argIdx (x : (⟨S32760x1024, .f32⟩ : BufTy).Contents (Elt F)) (y : (⟨S32760x1024, .i32⟩ : BufTy).Contents (Elt F))
    (u : (⟨S_, .f32⟩ : BufTy).Contents (Elt F)) (v : (⟨S_, .i32⟩ : BufTy).Contents (Elt F)) :
    (⟨S32760, .i32⟩ : BufTy).Contents (Elt F) :=
  fun j => (Host.argReduce reducer_argmin_f32_i32 x y u v reducesTo_S32760x1024_S32760_d1 h_S_ j).2

/-- @main's operations 1 … 60 of 117 (window `main_part0`). -/
abbrev ops_part0 : List (HloOp τ sig (Elt F)) :=
  [ nullary main_cst (constant S_ .f32 0x00000000#32),
    unary main_cst main_v0 (broadcastInDim S4x16383x128 ![] bcast_S_S4x16383x128 : (⟨S_, .f32⟩ : BufTy).Contents (Elt F) → (⟨S4x16383x128, .f32⟩ : BufTy).Contents (Elt F)),
    unary main_arg0 main_v1 ((Host.slice S4x256x16383 ![0, 0, 0] ![1, 1, 2] · slicesBy_S4x256x32768_S4x256x16383_0s1_0s1_0s2) : (⟨S4x256x32768, .f32⟩ : BufTy).Contents (Elt F) → (⟨S4x256x16383, .f32⟩ : BufTy).Contents (Elt F)),
    unary main_arg1 main_v2 ((extractStridedSlice S128x256x1 ![0, 0, 0] · slices_S128x256x4_S128x256x1_0_0_0) : (⟨S128x256x4, .f32⟩ : BufTy).Contents (Elt F) → (⟨S128x256x1, .f32⟩ : BufTy).Contents (Elt F)),
    reshape main_v2 main_v3 (rfl : (.f32 : EltTy) = .f32) shapeCasts_S128x256x1_S128x256,
    binary main_v1 main_v3 main_v4 ((fun l r => Host.dotGeneral dot_S4x256x16383_S128x256_S4x16383x128_1_1_02_0_n_n none l r) : (⟨S4x256x16383, .f32⟩ : BufTy).Contents (Elt F) → (⟨S128x256, .f32⟩ : BufTy).Contents (Elt F) → (⟨S4x16383x128, .f32⟩ : BufTy).Contents (Elt F)),
    binary main_v0 main_v4 main_v5 (addf : (⟨S4x16383x128, .f32⟩ : BufTy).Contents (Elt F) → (⟨S4x16383x128, .f32⟩ : BufTy).Contents (Elt F) → (⟨S4x16383x128, .f32⟩ : BufTy).Contents (Elt F)),
    unary main_arg0 main_v6 ((Host.slice S4x256x16383 ![0, 0, 1] ![1, 1, 2] · slicesBy_S4x256x32768_S4x256x16383_0s1_0s1_1s2) : (⟨S4x256x32768, .f32⟩ : BufTy).Contents (Elt F) → (⟨S4x256x16383, .f32⟩ : BufTy).Contents (Elt F)),
    unary main_arg1 main_v7 ((extractStridedSlice S128x256x1 ![0, 0, 1] · slices_S128x256x4_S128x256x1_0_0_1) : (⟨S128x256x4, .f32⟩ : BufTy).Contents (Elt F) → (⟨S128x256x1, .f32⟩ : BufTy).Contents (Elt F)),
    reshape main_v7 main_v8 (rfl : (.f32 : EltTy) = .f32) shapeCasts_S128x256x1_S128x256,
    binary main_v6 main_v8 main_v9 ((fun l r => Host.dotGeneral dot_S4x256x16383_S128x256_S4x16383x128_1_1_02_0_n_n none l r) : (⟨S4x256x16383, .f32⟩ : BufTy).Contents (Elt F) → (⟨S128x256, .f32⟩ : BufTy).Contents (Elt F) → (⟨S4x16383x128, .f32⟩ : BufTy).Contents (Elt F)),
    binary main_v5 main_v9 main_v10 (addf : (⟨S4x16383x128, .f32⟩ : BufTy).Contents (Elt F) → (⟨S4x16383x128, .f32⟩ : BufTy).Contents (Elt F) → (⟨S4x16383x128, .f32⟩ : BufTy).Contents (Elt F)),
    unary main_arg0 main_v11 ((Host.slice S4x256x16383 ![0, 0, 2] ![1, 1, 2] · slicesBy_S4x256x32768_S4x256x16383_0s1_0s1_2s2) : (⟨S4x256x32768, .f32⟩ : BufTy).Contents (Elt F) → (⟨S4x256x16383, .f32⟩ : BufTy).Contents (Elt F)),
    unary main_arg1 main_v12 ((extractStridedSlice S128x256x1 ![0, 0, 2] · slices_S128x256x4_S128x256x1_0_0_2) : (⟨S128x256x4, .f32⟩ : BufTy).Contents (Elt F) → (⟨S128x256x1, .f32⟩ : BufTy).Contents (Elt F)),
    reshape main_v12 main_v13 (rfl : (.f32 : EltTy) = .f32) shapeCasts_S128x256x1_S128x256,
    binary main_v11 main_v13 main_v14 ((fun l r => Host.dotGeneral dot_S4x256x16383_S128x256_S4x16383x128_1_1_02_0_n_n none l r) : (⟨S4x256x16383, .f32⟩ : BufTy).Contents (Elt F) → (⟨S128x256, .f32⟩ : BufTy).Contents (Elt F) → (⟨S4x16383x128, .f32⟩ : BufTy).Contents (Elt F)),
    binary main_v10 main_v14 main_v15 (addf : (⟨S4x16383x128, .f32⟩ : BufTy).Contents (Elt F) → (⟨S4x16383x128, .f32⟩ : BufTy).Contents (Elt F) → (⟨S4x16383x128, .f32⟩ : BufTy).Contents (Elt F)),
    unary main_arg0 main_v16 ((Host.slice S4x256x16383 ![0, 0, 3] ![1, 1, 2] · slicesBy_S4x256x32768_S4x256x16383_0s1_0s1_3s2) : (⟨S4x256x32768, .f32⟩ : BufTy).Contents (Elt F) → (⟨S4x256x16383, .f32⟩ : BufTy).Contents (Elt F)),
    unary main_arg1 main_v17 ((extractStridedSlice S128x256x1 ![0, 0, 3] · slices_S128x256x4_S128x256x1_0_0_3) : (⟨S128x256x4, .f32⟩ : BufTy).Contents (Elt F) → (⟨S128x256x1, .f32⟩ : BufTy).Contents (Elt F)),
    reshape main_v17 main_v18 (rfl : (.f32 : EltTy) = .f32) shapeCasts_S128x256x1_S128x256,
    binary main_v16 main_v18 main_v19 ((fun l r => Host.dotGeneral dot_S4x256x16383_S128x256_S4x16383x128_1_1_02_0_n_n none l r) : (⟨S4x256x16383, .f32⟩ : BufTy).Contents (Elt F) → (⟨S128x256, .f32⟩ : BufTy).Contents (Elt F) → (⟨S4x16383x128, .f32⟩ : BufTy).Contents (Elt F)),
    binary main_v15 main_v19 main_v20 (addf : (⟨S4x16383x128, .f32⟩ : BufTy).Contents (Elt F) → (⟨S4x16383x128, .f32⟩ : BufTy).Contents (Elt F) → (⟨S4x16383x128, .f32⟩ : BufTy).Contents (Elt F)),
    unary main_v20 main_v21 ((transpose S4x128x16383 [0, 2, 1] · transposes_S4x16383x128_S4x128x16383_0_2_1) : (⟨S4x16383x128, .f32⟩ : BufTy).Contents (Elt F) → (⟨S4x128x16383, .f32⟩ : BufTy).Contents (Elt F)),
    unary main_arg2 main_v22 (broadcastInDim S1x128x1 ![1] bcast_S128_S1x128x1_1 : (⟨S128, .f32⟩ : BufTy).Contents (Elt F) → (⟨S1x128x1, .f32⟩ : BufTy).Contents (Elt F)),
    unary main_v22 main_v23 (broadcastInDim S4x128x16383 ![0, 1, 2] bcast_S1x128x1_S4x128x16383_0_1_2 : (⟨S1x128x1, .f32⟩ : BufTy).Contents (Elt F) → (⟨S4x128x16383, .f32⟩ : BufTy).Contents (Elt F)),
    binary main_v21 main_v23 main_v24 (addf : (⟨S4x128x16383, .f32⟩ : BufTy).Contents (Elt F) → (⟨S4x128x16383, .f32⟩ : BufTy).Contents (Elt F) → (⟨S4x128x16383, .f32⟩ : BufTy).Contents (Elt F)),
    unary main_v24 main_v25 (Host.tanh : (⟨S4x128x16383, .f32⟩ : BufTy).Contents (Elt F) → (⟨S4x128x16383, .f32⟩ : BufTy).Contents (Elt F)),
    nullary main_cst_0 (constant S_ .f32 0x00000000#32),
    unary main_cst_0 main_v26 (broadcastInDim S4x8190x64 ![] bcast_S_S4x8190x64 : (⟨S_, .f32⟩ : BufTy).Contents (Elt F) → (⟨S4x8190x64, .f32⟩ : BufTy).Contents (Elt F)),
    unary main_v25 main_v27 ((Host.slice S4x128x8190 ![0, 0, 0] ![1, 1, 2] · slicesBy_S4x128x16383_S4x128x8190_0s1_0s1_0s2) : (⟨S4x128x16383, .f32⟩ : BufTy).Contents (Elt F) → (⟨S4x128x8190, .f32⟩ : BufTy).Contents (Elt F)),
    unary main_arg3 main_v28 ((extractStridedSlice S64x128x1 ![0, 0, 0] · slices_S64x128x4_S64x128x1_0_0_0) : (⟨S64x128x4, .f32⟩ : BufTy).Contents (Elt F) → (⟨S64x128x1, .f32⟩ : BufTy).Contents (Elt F)),
    reshape main_v28 main_v29 (rfl : (.f32 : EltTy) = .f32) shapeCasts_S64x128x1_S64x128,
    binary main_v27 main_v29 main_v30 ((fun l r => Host.dotGeneral dot_S4x128x8190_S64x128_S4x8190x64_1_1_02_0_n_n none l r) : (⟨S4x128x8190, .f32⟩ : BufTy).Contents (Elt F) → (⟨S64x128, .f32⟩ : BufTy).Contents (Elt F) → (⟨S4x8190x64, .f32⟩ : BufTy).Contents (Elt F)),
    binary main_v26 main_v30 main_v31 (addf : (⟨S4x8190x64, .f32⟩ : BufTy).Contents (Elt F) → (⟨S4x8190x64, .f32⟩ : BufTy).Contents (Elt F) → (⟨S4x8190x64, .f32⟩ : BufTy).Contents (Elt F)),
    unary main_v25 main_v32 ((Host.slice S4x128x8190 ![0, 0, 1] ![1, 1, 2] · slicesBy_S4x128x16383_S4x128x8190_0s1_0s1_1s2) : (⟨S4x128x16383, .f32⟩ : BufTy).Contents (Elt F) → (⟨S4x128x8190, .f32⟩ : BufTy).Contents (Elt F)),
    unary main_arg3 main_v33 ((extractStridedSlice S64x128x1 ![0, 0, 1] · slices_S64x128x4_S64x128x1_0_0_1) : (⟨S64x128x4, .f32⟩ : BufTy).Contents (Elt F) → (⟨S64x128x1, .f32⟩ : BufTy).Contents (Elt F)),
    reshape main_v33 main_v34 (rfl : (.f32 : EltTy) = .f32) shapeCasts_S64x128x1_S64x128,
    binary main_v32 main_v34 main_v35 ((fun l r => Host.dotGeneral dot_S4x128x8190_S64x128_S4x8190x64_1_1_02_0_n_n none l r) : (⟨S4x128x8190, .f32⟩ : BufTy).Contents (Elt F) → (⟨S64x128, .f32⟩ : BufTy).Contents (Elt F) → (⟨S4x8190x64, .f32⟩ : BufTy).Contents (Elt F)),
    binary main_v31 main_v35 main_v36 (addf : (⟨S4x8190x64, .f32⟩ : BufTy).Contents (Elt F) → (⟨S4x8190x64, .f32⟩ : BufTy).Contents (Elt F) → (⟨S4x8190x64, .f32⟩ : BufTy).Contents (Elt F)),
    unary main_v25 main_v37 ((Host.slice S4x128x8190 ![0, 0, 2] ![1, 1, 2] · slicesBy_S4x128x16383_S4x128x8190_0s1_0s1_2s2) : (⟨S4x128x16383, .f32⟩ : BufTy).Contents (Elt F) → (⟨S4x128x8190, .f32⟩ : BufTy).Contents (Elt F)),
    unary main_arg3 main_v38 ((extractStridedSlice S64x128x1 ![0, 0, 2] · slices_S64x128x4_S64x128x1_0_0_2) : (⟨S64x128x4, .f32⟩ : BufTy).Contents (Elt F) → (⟨S64x128x1, .f32⟩ : BufTy).Contents (Elt F)),
    reshape main_v38 main_v39 (rfl : (.f32 : EltTy) = .f32) shapeCasts_S64x128x1_S64x128,
    binary main_v37 main_v39 main_v40 ((fun l r => Host.dotGeneral dot_S4x128x8190_S64x128_S4x8190x64_1_1_02_0_n_n none l r) : (⟨S4x128x8190, .f32⟩ : BufTy).Contents (Elt F) → (⟨S64x128, .f32⟩ : BufTy).Contents (Elt F) → (⟨S4x8190x64, .f32⟩ : BufTy).Contents (Elt F)),
    binary main_v36 main_v40 main_v41 (addf : (⟨S4x8190x64, .f32⟩ : BufTy).Contents (Elt F) → (⟨S4x8190x64, .f32⟩ : BufTy).Contents (Elt F) → (⟨S4x8190x64, .f32⟩ : BufTy).Contents (Elt F)),
    unary main_v25 main_v42 ((Host.slice S4x128x8190 ![0, 0, 3] ![1, 1, 2] · slicesBy_S4x128x16383_S4x128x8190_0s1_0s1_3s2) : (⟨S4x128x16383, .f32⟩ : BufTy).Contents (Elt F) → (⟨S4x128x8190, .f32⟩ : BufTy).Contents (Elt F)),
    unary main_arg3 main_v43 ((extractStridedSlice S64x128x1 ![0, 0, 3] · slices_S64x128x4_S64x128x1_0_0_3) : (⟨S64x128x4, .f32⟩ : BufTy).Contents (Elt F) → (⟨S64x128x1, .f32⟩ : BufTy).Contents (Elt F)),
    reshape main_v43 main_v44 (rfl : (.f32 : EltTy) = .f32) shapeCasts_S64x128x1_S64x128,
    binary main_v42 main_v44 main_v45 ((fun l r => Host.dotGeneral dot_S4x128x8190_S64x128_S4x8190x64_1_1_02_0_n_n none l r) : (⟨S4x128x8190, .f32⟩ : BufTy).Contents (Elt F) → (⟨S64x128, .f32⟩ : BufTy).Contents (Elt F) → (⟨S4x8190x64, .f32⟩ : BufTy).Contents (Elt F)),
    binary main_v41 main_v45 main_v46 (addf : (⟨S4x8190x64, .f32⟩ : BufTy).Contents (Elt F) → (⟨S4x8190x64, .f32⟩ : BufTy).Contents (Elt F) → (⟨S4x8190x64, .f32⟩ : BufTy).Contents (Elt F)),
    unary main_v46 main_v47 ((transpose S4x64x8190 [0, 2, 1] · transposes_S4x8190x64_S4x64x8190_0_2_1) : (⟨S4x8190x64, .f32⟩ : BufTy).Contents (Elt F) → (⟨S4x64x8190, .f32⟩ : BufTy).Contents (Elt F)),
    unary main_arg4 main_v48 (broadcastInDim S1x64x1 ![1] bcast_S64_S1x64x1_1 : (⟨S64, .f32⟩ : BufTy).Contents (Elt F) → (⟨S1x64x1, .f32⟩ : BufTy).Contents (Elt F)),
    unary main_v48 main_v49 (broadcastInDim S4x64x8190 ![0, 1, 2] bcast_S1x64x1_S4x64x8190_0_1_2 : (⟨S1x64x1, .f32⟩ : BufTy).Contents (Elt F) → (⟨S4x64x8190, .f32⟩ : BufTy).Contents (Elt F)),
    binary main_v47 main_v49 main_v50 (addf : (⟨S4x64x8190, .f32⟩ : BufTy).Contents (Elt F) → (⟨S4x64x8190, .f32⟩ : BufTy).Contents (Elt F) → (⟨S4x64x8190, .f32⟩ : BufTy).Contents (Elt F)),
    unary main_v50 main_v51 (Host.tanh : (⟨S4x64x8190, .f32⟩ : BufTy).Contents (Elt F) → (⟨S4x64x8190, .f32⟩ : BufTy).Contents (Elt F)),
    unary main_v51 main_v52 ((transpose S4x8190x64 [0, 2, 1] · transposes_S4x64x8190_S4x8190x64_0_2_1) : (⟨S4x64x8190, .f32⟩ : BufTy).Contents (Elt F) → (⟨S4x8190x64, .f32⟩ : BufTy).Contents (Elt F)),
    reshape main_v52 main_v53 (rfl : (.f32 : EltTy) = .f32) shapeCasts_S4x8190x64_S32760x64,
    binary main_v53 main_v53 main_v54 (mulf : (⟨S32760x64, .f32⟩ : BufTy).Contents (Elt F) → (⟨S32760x64, .f32⟩ : BufTy).Contents (Elt F) → (⟨S32760x64, .f32⟩ : BufTy).Contents (Elt F)),
    nullary main_cst_1 (constant S_ .f32 0x00000000#32),
    binary main_v54 main_cst_1 main_v55 ((fun x v => Host.reduceAdd x v reducesTo_S32760x64_S32760_d1 h_S_) : (⟨S32760x64, .f32⟩ : BufTy).Contents (Elt F) → (⟨S_, .f32⟩ : BufTy).Contents (Elt F) → (⟨S32760, .f32⟩ : BufTy).Contents (Elt F)),
    unary main_v55 main_v56 (broadcastInDim S32760x1 ![0] bcast_S32760_S32760x1_0 : (⟨S32760, .f32⟩ : BufTy).Contents (Elt F) → (⟨S32760x1, .f32⟩ : BufTy).Contents (Elt F)) ]

/-- @main's operations 61 … 117 of 117 (window `main_part1`). -/
abbrev ops_part1 : List (HloOp τ sig (Elt F)) :=
  [ nullary main_cst_2 (constant S_ .f32 0x00000000#32),
    binary main_arg5 main_cst_2 main_v57 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v57 main_v58 (broadcastInDim S1x1024 ![1] bcast_S1024_S1x1024_1 : (⟨S1024, .f32⟩ : BufTy).Contents (Elt F) → (⟨S1x1024, .f32⟩ : BufTy).Contents (Elt F)),
    unary main_v56 main_v59 (broadcastInDim S32760x1024 ![0, 1] bcast_S32760x1_S32760x1024_0_1 : (⟨S32760x1, .f32⟩ : BufTy).Contents (Elt F) → (⟨S32760x1024, .f32⟩ : BufTy).Contents (Elt F)),
    unary main_v58 main_v60 (broadcastInDim S32760x1024 ![0, 1] bcast_S1x1024_S32760x1024_0_1 : (⟨S1x1024, .f32⟩ : BufTy).Contents (Elt F) → (⟨S32760x1024, .f32⟩ : BufTy).Contents (Elt F)),
    binary main_v59 main_v60 main_v61 (addf : (⟨S32760x1024, .f32⟩ : BufTy).Contents (Elt F) → (⟨S32760x1024, .f32⟩ : BufTy).Contents (Elt F) → (⟨S32760x1024, .f32⟩ : BufTy).Contents (Elt F)),
    nullary main_cst_3 (constant S_ .f32 0x40000000#32),
    unary main_cst_3 main_v62 (broadcastInDim S32760x64 ![] bcast_S_S32760x64 : (⟨S_, .f32⟩ : BufTy).Contents (Elt F) → (⟨S32760x64, .f32⟩ : BufTy).Contents (Elt F)),
    binary main_v62 main_v53 main_v63 (mulf : (⟨S32760x64, .f32⟩ : BufTy).Contents (Elt F) → (⟨S32760x64, .f32⟩ : BufTy).Contents (Elt F) → (⟨S32760x64, .f32⟩ : BufTy).Contents (Elt F)),
    unary main_arg5 main_v64 ((transpose S64x1024 [1, 0] · transposes_S1024x64_S64x1024_1_0) : (⟨S1024x64, .f32⟩ : BufTy).Contents (Elt F) → (⟨S64x1024, .f32⟩ : BufTy).Contents (Elt F)),
    binary main_v63 main_v64 main_v65 ((fun l r => Host.dotGeneral dot_S32760x64_S64x1024_S32760x1024_1_0_0_1_n_n none l r) : (⟨S32760x64, .f32⟩ : BufTy).Contents (Elt F) → (⟨S64x1024, .f32⟩ : BufTy).Contents (Elt F) → (⟨S32760x1024, .f32⟩ : BufTy).Contents (Elt F)),
    binary main_v61 main_v65 main_v66 (subf : (⟨S32760x1024, .f32⟩ : BufTy).Contents (Elt F) → (⟨S32760x1024, .f32⟩ : BufTy).Contents (Elt F) → (⟨S32760x1024, .f32⟩ : BufTy).Contents (Elt F)),
    TRef.nullary (TRef.of (T := ⟨S32760x1024, .i32⟩) main_call0_v0) (iotaInDim S32760x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32760x1024, .f32⟩) main_v66) (TRef.of (T := ⟨S32760x1024, .i32⟩) main_call0_v0) (TRef.of (T := ⟨S_, .f32⟩) main_call0_cst) (TRef.of (T := ⟨S_, .i32⟩) main_call0_c) (TRef.of (T := ⟨S32760, .f32⟩) main_call0_v1_0) argVal,
    TRef.quaternary (TRef.of (T := ⟨S32760x1024, .f32⟩) main_v66) (TRef.of (T := ⟨S32760x1024, .i32⟩) main_call0_v0) (TRef.of (T := ⟨S_, .f32⟩) main_call0_cst) (TRef.of (T := ⟨S_, .i32⟩) main_call0_c) (TRef.of (T := ⟨S32760, .i32⟩) main_v67) argIdx,
    TRef.unary (TRef.of (T := ⟨S32760, .i32⟩) main_v67) (TRef.of (T := ⟨S32760x1, .i32⟩) main_call1_v0) (broadcastInDim S32760x1 ![0] bcast_S32760_S32760x1_0),
    TRef.nullary (TRef.of (T := ⟨S1x1024, .i32⟩) main_call1_v1) (iotaInDim S1x1024 32 1),
    TRef.unary (TRef.of (T := ⟨S32760x1, .i32⟩) main_call1_v0) (TRef.of (T := ⟨S32760x1024, .i32⟩) main_call1_v2) (broadcastInDim S32760x1024 ![0, 1] bcast_S32760x1_S32760x1024_0_1),
    TRef.unary (TRef.of (T := ⟨S1x1024, .i32⟩) main_call1_v1) (TRef.of (T := ⟨S32760x1024, .i32⟩) main_call1_v3) (broadcastInDim S32760x1024 ![0, 1] bcast_S1x1024_S32760x1024_0_1),
    TRef.binary (TRef.of (T := ⟨S32760x1024, .i32⟩) main_call1_v2) (TRef.of (T := ⟨S32760x1024, .i32⟩) main_call1_v3) (TRef.of (T := ⟨S32760x1024, .i1⟩) main_call1_v4) (cmpi .eq),
    TRef.unary (TRef.of (T := ⟨S32760x1024, .i1⟩) main_call1_v4) (TRef.of (T := ⟨S32760x1024, .f32⟩) main_v68) (uitofp .f32),
    binary main_v68 main_arg5 main_v69 ((fun l r => Host.dotGeneral dot_S32760x1024_S1024x64_S32760x64_1_0_0_1_n_n none l r) : (⟨S32760x1024, .f32⟩ : BufTy).Contents (Elt F) → (⟨S1024x64, .f32⟩ : BufTy).Contents (Elt F) → (⟨S32760x64, .f32⟩ : BufTy).Contents (Elt F)),
    reshape main_v69 main_v70 (rfl : (.f32 : EltTy) = .f32) shapeCasts_S32760x64_S4x8190x64,
    binary main_v52 main_v70 main_v71 (subf : (⟨S4x8190x64, .f32⟩ : BufTy).Contents (Elt F) → (⟨S4x8190x64, .f32⟩ : BufTy).Contents (Elt F) → (⟨S4x8190x64, .f32⟩ : BufTy).Contents (Elt F)),
    binary main_v71 main_v71 main_v72 (mulf : (⟨S4x8190x64, .f32⟩ : BufTy).Contents (Elt F) → (⟨S4x8190x64, .f32⟩ : BufTy).Contents (Elt F) → (⟨S4x8190x64, .f32⟩ : BufTy).Contents (Elt F)),
    nullary main_cst_4 (constant S_ .f32 0x00000000#32),
    binary main_v72 main_cst_4 main_v73 ((fun x v => Host.reduceAdd x v reducesTo_S4x8190x64_S_d0_1_2 h_S_) : (⟨S4x8190x64, .f32⟩ : BufTy).Contents (Elt F) → (⟨S_, .f32⟩ : BufTy).Contents (Elt F) → (⟨S_, .f32⟩ : BufTy).Contents (Elt F)),
    nullary main_cst_5 (constant S_ .f32 0x49FFF000#32),
    binary main_v73 main_cst_5 main_v74 (Host.divf : (⟨S_, .f32⟩ : BufTy).Contents (Elt F) → (⟨S_, .f32⟩ : BufTy).Contents (Elt F) → (⟨S_, .f32⟩ : BufTy).Contents (Elt F)),
    binary main_v52 main_v70 main_v75 (subf : (⟨S4x8190x64, .f32⟩ : BufTy).Contents (Elt F) → (⟨S4x8190x64, .f32⟩ : BufTy).Contents (Elt F) → (⟨S4x8190x64, .f32⟩ : BufTy).Contents (Elt F)),
    binary main_v75 main_v75 main_v76 (mulf : (⟨S4x8190x64, .f32⟩ : BufTy).Contents (Elt F) → (⟨S4x8190x64, .f32⟩ : BufTy).Contents (Elt F) → (⟨S4x8190x64, .f32⟩ : BufTy).Contents (Elt F)),
    nullary main_cst_6 (constant S_ .f32 0x00000000#32),
    binary main_v76 main_cst_6 main_v77 ((fun x v => Host.reduceAdd x v reducesTo_S4x8190x64_S_d0_1_2 h_S_) : (⟨S4x8190x64, .f32⟩ : BufTy).Contents (Elt F) → (⟨S_, .f32⟩ : BufTy).Contents (Elt F) → (⟨S_, .f32⟩ : BufTy).Contents (Elt F)),
    nullary main_cst_7 (constant S_ .f32 0x49FFF000#32),
    binary main_v77 main_cst_7 main_v78 (Host.divf : (⟨S_, .f32⟩ : BufTy).Contents (Elt F) → (⟨S_, .f32⟩ : BufTy).Contents (Elt F) → (⟨S_, .f32⟩ : BufTy).Contents (Elt F)),
    nullary main_cst_8 (constant S_ .f32 0x3E800000#32),
    binary main_cst_8 main_v78 main_v79 (mulf : (⟨S_, .f32⟩ : BufTy).Contents (Elt F) → (⟨S_, .f32⟩ : BufTy).Contents (Elt F) → (⟨S_, .f32⟩ : BufTy).Contents (Elt F)),
    binary main_v74 main_v79 main_v80 (addf : (⟨S_, .f32⟩ : BufTy).Contents (Elt F) → (⟨S_, .f32⟩ : BufTy).Contents (Elt F) → (⟨S_, .f32⟩ : BufTy).Contents (Elt F)),
    binary main_v70 main_v52 main_v81 (subf : (⟨S4x8190x64, .f32⟩ : BufTy).Contents (Elt F) → (⟨S4x8190x64, .f32⟩ : BufTy).Contents (Elt F) → (⟨S4x8190x64, .f32⟩ : BufTy).Contents (Elt F)),
    binary main_v52 main_v81 main_v82 (addf : (⟨S4x8190x64, .f32⟩ : BufTy).Contents (Elt F) → (⟨S4x8190x64, .f32⟩ : BufTy).Contents (Elt F) → (⟨S4x8190x64, .f32⟩ : BufTy).Contents (Elt F)),
    nullary main_cst_9 (constant S_ .f32 0x00000000#32),
    binary main_v68 main_cst_9 main_v83 ((fun x v => Host.reduceAdd x v reducesTo_S32760x1024_S1024_d0 h_S_) : (⟨S32760x1024, .f32⟩ : BufTy).Contents (Elt F) → (⟨S_, .f32⟩ : BufTy).Contents (Elt F) → (⟨S1024, .f32⟩ : BufTy).Contents (Elt F)),
    nullary main_cst_10 (constant S_ .f32 0x46FFF000#32),
    unary main_cst_10 main_v84 (broadcastInDim S1024 ![] bcast_S_S1024 : (⟨S_, .f32⟩ : BufTy).Contents (Elt F) → (⟨S1024, .f32⟩ : BufTy).Contents (Elt F)),
    binary main_v83 main_v84 main_v85 (Host.divf : (⟨S1024, .f32⟩ : BufTy).Contents (Elt F) → (⟨S1024, .f32⟩ : BufTy).Contents (Elt F) → (⟨S1024, .f32⟩ : BufTy).Contents (Elt F)),
    nullary main_cst_11 (constant S_ .f32 0x2EDBE6FF#32),
    unary main_cst_11 main_v86 (broadcastInDim S1024 ![] bcast_S_S1024 : (⟨S_, .f32⟩ : BufTy).Contents (Elt F) → (⟨S1024, .f32⟩ : BufTy).Contents (Elt F)),
    binary main_v85 main_v86 main_v87 (addf : (⟨S1024, .f32⟩ : BufTy).Contents (Elt F) → (⟨S1024, .f32⟩ : BufTy).Contents (Elt F) → (⟨S1024, .f32⟩ : BufTy).Contents (Elt F)),
    unary main_v87 main_v88 (Host.log : (⟨S1024, .f32⟩ : BufTy).Contents (Elt F) → (⟨S1024, .f32⟩ : BufTy).Contents (Elt F)),
    binary main_v85 main_v88 main_v89 (mulf : (⟨S1024, .f32⟩ : BufTy).Contents (Elt F) → (⟨S1024, .f32⟩ : BufTy).Contents (Elt F) → (⟨S1024, .f32⟩ : BufTy).Contents (Elt F)),
    nullary main_cst_12 (constant S_ .f32 0x00000000#32),
    binary main_v89 main_cst_12 main_v90 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v90 main_v91 (Host.negf : (⟨S_, .f32⟩ : BufTy).Contents (Elt F) → (⟨S_, .f32⟩ : BufTy).Contents (Elt F)),
    unary main_v91 main_v92 (Host.exp : (⟨S_, .f32⟩ : BufTy).Contents (Elt F) → (⟨S_, .f32⟩ : BufTy).Contents (Elt F)),
    unary main_v82 main_v93 ((transpose S4x64x8190 [0, 2, 1] · transposes_S4x8190x64_S4x64x8190_0_2_1) : (⟨S4x8190x64, .f32⟩ : BufTy).Contents (Elt F) → (⟨S4x64x8190, .f32⟩ : BufTy).Contents (Elt F)) ]

/-- @main's 117 operations, in order (a called function's operations stand in its call's place, spelt `TRef.…`). -/
abbrev ops : List (HloOp τ sig (Elt F)) :=
  ops_part0 ++ (ops_part1)

set_option maxRecDepth 8192 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_sub : (ops_part0 : List (HloOp τ sig (Elt F))).Forall fun op => op.bufs ⊆ tcRefs τ sig :=
  ⟨nullary_bufs_sub .., unary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., unary_bufs_sub .., binary_bufs_sub .., unary_bufs_sub .., nullary_bufs_sub .., unary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., reshape_bufs_sub .., binary_bufs_sub .., binary_bufs_sub .., unary_bufs_sub .., unary_bufs_sub .., unary_bufs_sub .., binary_bufs_sub .., unary_bufs_sub .., unary_bufs_sub .., reshape_bufs_sub .., binary_bufs_sub .., nullary_bufs_sub .., binary_bufs_sub .., unary_bufs_sub ..⟩
set_option maxRecDepth 8192 in
theorem ops_part0_fresh : (ops_part0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., binary_bufs_sub .., unary_bufs_sub .., unary_bufs_sub .., unary_bufs_sub .., binary_bufs_sub .., nullary_bufs_sub .., unary_bufs_sub .., binary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., reshape_bufs_sub .., binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., unary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops_part0_sub op h, List.forall_iff_forall_mem.mp ops_part1_sub op h]
theorem ops_fresh : ∀ op ∈ (ops : List (HloOp τ sig (Elt F))), op.fresh = ∅ := fun op h => by
    simp only [ops, List.mem_append] at h
    rcases h with h | h
    exacts [List.forall_iff_forall_mem.mp ops_part0_fresh op h, List.forall_iff_forall_mem.mp ops_part1_fresh op h]

set_option maxRecDepth 8192 in
/-- `main_v25`'s composed term of the arguments (named: it is used 4 times). -/
def res_main_v25 (V0 : Valuation τ sig (Elt F)) : (Proc.devRef .tc main_v25 : DevRef τ sig).ty.Contents (Elt F) :=
  Host.tanh (addf (transpose S4x128x16383 [0, 2, 1] (addf (addf (addf (addf (broadcastInDim S4x16383x128 ![] bcast_S_S4x16383x128 (constant S_ .f32 0x00000000#32)) (Host.dotGeneral dot_S4x256x16383_S128x256_S4x16383x128_1_1_02_0_n_n none (Host.slice S4x256x16383 ![0, 0, 0] ![1, 1, 2] (V0 (Proc.devRef .tc main_arg0)) slicesBy_S4x256x32768_S4x256x16383_0s1_0s1_0s2) (shapeCast _ (extractStridedSlice S128x256x1 ![0, 0, 0] (V0 (Proc.devRef .tc main_arg1)) slices_S128x256x4_S128x256x1_0_0_0) shapeCasts_S128x256x1_S128x256))) (Host.dotGeneral dot_S4x256x16383_S128x256_S4x16383x128_1_1_02_0_n_n none (Host.slice S4x256x16383 ![0, 0, 1] ![1, 1, 2] (V0 (Proc.devRef .tc main_arg0)) slicesBy_S4x256x32768_S4x256x16383_0s1_0s1_1s2) (shapeCast _ (extractStridedSlice S128x256x1 ![0, 0, 1] (V0 (Proc.devRef .tc main_arg1)) slices_S128x256x4_S128x256x1_0_0_1) shapeCasts_S128x256x1_S128x256))) (Host.dotGeneral dot_S4x256x16383_S128x256_S4x16383x128_1_1_02_0_n_n none (Host.slice S4x256x16383 ![0, 0, 2] ![1, 1, 2] (V0 (Proc.devRef .tc main_arg0)) slicesBy_S4x256x32768_S4x256x16383_0s1_0s1_2s2) (shapeCast _ (extractStridedSlice S128x256x1 ![0, 0, 2] (V0 (Proc.devRef .tc main_arg1)) slices_S128x256x4_S128x256x1_0_0_2) shapeCasts_S128x256x1_S128x256))) (Host.dotGeneral dot_S4x256x16383_S128x256_S4x16383x128_1_1_02_0_n_n none (Host.slice S4x256x16383 ![0, 0, 3] ![1, 1, 2] (V0 (Proc.devRef .tc main_arg0)) slicesBy_S4x256x32768_S4x256x16383_0s1_0s1_3s2) (shapeCast _ (extractStridedSlice S128x256x1 ![0, 0, 3] (V0 (Proc.devRef .tc main_arg1)) slices_S128x256x4_S128x256x1_0_0_3) shapeCasts_S128x256x1_S128x256))) transposes_S4x16383x128_S4x128x16383_0_2_1) (broadcastInDim S4x128x16383 ![0, 1, 2] bcast_S1x128x1_S4x128x16383_0_1_2 (broadcastInDim S1x128x1 ![1] bcast_S128_S1x128x1_1 (V0 (Proc.devRef .tc main_arg2)))))

set_option maxRecDepth 8192 in
/-- `main_v52`'s composed term of the arguments (named: it is used 5 times). -/
def res_main_v52 (V0 : Valuation τ sig (Elt F)) : (Proc.devRef .tc main_v52 : DevRef τ sig).ty.Contents (Elt F) :=
  transpose S4x8190x64 [0, 2, 1] (Host.tanh (addf (transpose S4x64x8190 [0, 2, 1] (addf (addf (addf (addf (broadcastInDim S4x8190x64 ![] bcast_S_S4x8190x64 (constant S_ .f32 0x00000000#32)) (Host.dotGeneral dot_S4x128x8190_S64x128_S4x8190x64_1_1_02_0_n_n none (Host.slice S4x128x8190 ![0, 0, 0] ![1, 1, 2] (res_main_v25 V0) slicesBy_S4x128x16383_S4x128x8190_0s1_0s1_0s2) (shapeCast _ (extractStridedSlice S64x128x1 ![0, 0, 0] (V0 (Proc.devRef .tc main_arg3)) slices_S64x128x4_S64x128x1_0_0_0) shapeCasts_S64x128x1_S64x128))) (Host.dotGeneral dot_S4x128x8190_S64x128_S4x8190x64_1_1_02_0_n_n none (Host.slice S4x128x8190 ![0, 0, 1] ![1, 1, 2] (res_main_v25 V0) slicesBy_S4x128x16383_S4x128x8190_0s1_0s1_1s2) (shapeCast _ (extractStridedSlice S64x128x1 ![0, 0, 1] (V0 (Proc.devRef .tc main_arg3)) slices_S64x128x4_S64x128x1_0_0_1) shapeCasts_S64x128x1_S64x128))) (Host.dotGeneral dot_S4x128x8190_S64x128_S4x8190x64_1_1_02_0_n_n none (Host.slice S4x128x8190 ![0, 0, 2] ![1, 1, 2] (res_main_v25 V0) slicesBy_S4x128x16383_S4x128x8190_0s1_0s1_2s2) (shapeCast _ (extractStridedSlice S64x128x1 ![0, 0, 2] (V0 (Proc.devRef .tc main_arg3)) slices_S64x128x4_S64x128x1_0_0_2) shapeCasts_S64x128x1_S64x128))) (Host.dotGeneral dot_S4x128x8190_S64x128_S4x8190x64_1_1_02_0_n_n none (Host.slice S4x128x8190 ![0, 0, 3] ![1, 1, 2] (res_main_v25 V0) slicesBy_S4x128x16383_S4x128x8190_0s1_0s1_3s2) (shapeCast _ (extractStridedSlice S64x128x1 ![0, 0, 3] (V0 (Proc.devRef .tc main_arg3)) slices_S64x128x4_S64x128x1_0_0_3) shapeCasts_S64x128x1_S64x128))) transposes_S4x8190x64_S4x64x8190_0_2_1) (broadcastInDim S4x64x8190 ![0, 1, 2] bcast_S1x64x1_S4x64x8190_0_1_2 (broadcastInDim S1x64x1 ![1] bcast_S64_S1x64x1_1 (V0 (Proc.devRef .tc main_arg4)))))) transposes_S4x64x8190_S4x8190x64_0_2_1

set_option maxRecDepth 8192 in
/-- `main_v53`'s composed term of the arguments (named: it is used 3 times). -/
def res_main_v53 (V0 : Valuation τ sig (Elt F)) : (Proc.devRef .tc main_v53 : DevRef τ sig).ty.Contents (Elt F) :=
  shapeCast _ (res_main_v52 V0) shapeCasts_S4x8190x64_S32760x64

set_option maxRecDepth 8192 in
/-- `main_v66`'s composed term of the arguments (named: it is used 2 times). -/
def res_main_v66 (V0 : Valuation τ sig (Elt F)) : (Proc.devRef .tc main_v66 : DevRef τ sig).ty.Contents (Elt F) :=
  subf (addf (broadcastInDim S32760x1024 ![0, 1] bcast_S32760x1_S32760x1024_0_1 (broadcastInDim S32760x1 ![0] bcast_S32760_S32760x1_0 (Host.reduceAdd (mulf (res_main_v53 V0) (res_main_v53 V0)) (constant S_ .f32 0x00000000#32) reducesTo_S32760x64_S32760_d1 h_S_))) (broadcastInDim S32760x1024 ![0, 1] bcast_S1x1024_S32760x1024_0_1 (broadcastInDim S1x1024 ![1] bcast_S1024_S1x1024_1 (Host.reduceAdd (V0 (Proc.devRef .tc main_arg5)) (constant S_ .f32 0x00000000#32) reducesTo_S1024x64_S1024_d1 h_S_)))) (Host.dotGeneral dot_S32760x64_S64x1024_S32760x1024_1_0_0_1_n_n none (mulf (broadcastInDim S32760x64 ![] bcast_S_S32760x64 (constant S_ .f32 0x40000000#32)) (res_main_v53 V0)) (transpose S64x1024 [1, 0] (V0 (Proc.devRef .tc main_arg5)) transposes_S1024x64_S64x1024_1_0))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S32760x1024 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0x7F800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v68`'s composed term of the arguments (named: it is used 2 times). -/
def res_main_v68 (V0 : Valuation τ sig (Elt F)) : (Proc.devRef .tc main_v68 : DevRef τ sig).ty.Contents (Elt F) :=
  uitofp .f32 (cmpi .eq (broadcastInDim S32760x1024 ![0, 1] bcast_S32760x1_S32760x1024_0_1 (broadcastInDim S32760x1 ![0] bcast_S32760_S32760x1_0 (argIdx (res_main_v66 V0) (res_main_call0_v0 V0) (res_main_call0_cst V0) (res_main_call0_c V0)))) (broadcastInDim S32760x1024 ![0, 1] bcast_S1x1024_S32760x1024_0_1 (iotaInDim S1x1024 32 1)))

set_option maxRecDepth 8192 in
/-- `main_v70`'s composed term of the arguments (named: it is used 3 times). -/
def res_main_v70 (V0 : Valuation τ sig (Elt F)) : (Proc.devRef .tc main_v70 : DevRef τ sig).ty.Contents (Elt F) :=
  shapeCast _ (Host.dotGeneral dot_S32760x1024_S1024x64_S32760x64_1_0_0_1_n_n none (res_main_v68 V0) (V0 (Proc.devRef .tc main_arg5))) shapeCasts_S32760x64_S4x8190x64

set_option maxRecDepth 8192 in
/-- `main_v71`'s composed term of the arguments (named: it is used 2 times). -/
def res_main_v71 (V0 : Valuation τ sig (Elt F)) : (Proc.devRef .tc main_v71 : DevRef τ sig).ty.Contents (Elt F) :=
  subf (res_main_v52 V0) (res_main_v70 V0)

set_option maxRecDepth 8192 in
/-- `main_v75`'s composed term of the arguments (named: it is used 2 times). -/
def res_main_v75 (V0 : Valuation τ sig (Elt F)) : (Proc.devRef .tc main_v75 : DevRef τ sig).ty.Contents (Elt F) :=
  subf (res_main_v52 V0) (res_main_v70 V0)

set_option maxRecDepth 8192 in
/-- `main_v85`'s composed term of the arguments (named: it is used 2 times). -/
def res_main_v85 (V0 : Valuation τ sig (Elt F)) : (Proc.devRef .tc main_v85 : DevRef τ sig).ty.Contents (Elt F) :=
  Host.divf (Host.reduceAdd (res_main_v68 V0) (constant S_ .f32 0x00000000#32) reducesTo_S32760x1024_S1024_d0 h_S_) (broadcastInDim S1024 ![] bcast_S_S1024 (constant S_ .f32 0x46FFF000#32))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl

/-- The device's buffer contents after @main's first 1 window. -/
def val1 (V0 : Valuation τ sig (Elt F)) : Valuation τ sig (Elt F) := after ops_part0 (val0 V0)
/-- The buffers that window `main_part0`'s operations write. -/
abbrev ops_part0_W : List (Ref sig .tc) := [main_cst, main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_cst_0, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_cst_1, main_v55, main_v56]
set_option maxRecDepth 8192 in
theorem ops_part0_writes : (ops_part0 : List (HloOp τ sig (Elt F))).Forall fun op => op.writes ⊆ (ops_part0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  · simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `main_part0` does not write keeps its contents through it. -/
theorem val1_keep (V0 : Valuation τ sig (Elt F)) (r : Ref sig .tc) (h : r ∉ ops_part0_W) :
    val1 V0 (Proc.devRef .tc r) = val0 V0 (Proc.devRef .tc r) :=
  after_of_writes_sub ops_part0 _ ops_part0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
set_option maxRecDepth 8192 in
set_option maxHeartbeats 2000000 in
theorem val1_main_v52 (V0 : Valuation τ sig (Elt F)) : val1 V0 (no_index (Proc.devRef .tc main_v52)) = res_main_v52 V0 := by
  unfold val1
  simp only [ops_part0]
  after_results_simp
  simp only [val0_main_arg4, val0_main_arg3, val0_main_arg2, val0_main_arg1, val0_main_arg0] <;> rfl
set_option maxRecDepth 8192 in
set_option maxHeartbeats 2000000 in
theorem val1_main_v53 (V0 : Valuation τ sig (Elt F)) : val1 V0 (no_index (Proc.devRef .tc main_v53)) = res_main_v53 V0 := by
  unfold val1
  simp only [ops_part0]
  after_results_simp
  simp only [val0_main_arg4, val0_main_arg3, val0_main_arg2, val0_main_arg1, val0_main_arg0] <;> rfl
set_option maxRecDepth 8192 in
set_option maxHeartbeats 2000000 in
theorem val1_main_v56 (V0 : Valuation τ sig (Elt F)) : val1 V0 (no_index (Proc.devRef .tc main_v56)) = broadcastInDim S32760x1 ![0] bcast_S32760_S32760x1_0 (Host.reduceAdd (mulf (res_main_v53 V0) (res_main_v53 V0)) (constant S_ .f32 0x00000000#32) reducesTo_S32760x64_S32760_d1 h_S_) := by
  unfold val1
  simp only [ops_part0]
  after_results_simp
  simp only [val0_main_arg4, val0_main_arg3, val0_main_arg2, val0_main_arg1, val0_main_arg0] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_cst_2, main_v57, main_v58, main_v59, main_v60, main_v61, main_cst_3, main_v62, main_v63, main_v64, main_v65, main_v66, main_call0_v0, main_call0_cst, main_call0_c, main_call0_v1_0, main_v67, main_call1_v0, main_call1_v1, main_call1_v2, main_call1_v3, main_call1_v4, main_v68, main_v69, main_v70, main_v71, main_v72, main_cst_4, main_v73, main_cst_5, main_v74, main_v75, main_v76, main_cst_6, main_v77, main_cst_7, main_v78, main_cst_8, main_v79, main_v80, main_v81, main_v82, main_cst_9, main_v83, main_cst_10, main_v84, main_v85, main_cst_11, main_v86, main_v87, main_v88, main_v89, main_cst_12, main_v90, main_v91, main_v92, main_v93]
set_option maxRecDepth 8192 in
theorem ops_part1_writes : (ops_part1 : List (HloOp τ sig (Elt F))).Forall fun op => op.writes ⊆ (ops_part1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
  · simp only [nullary_writes, unary_writes, binary_writes, ternary_writes, quaternary_writes, reshape_writes, binaryIndexed_writes, nary_writes, unaryIndexed_writes, Finset.singleton_subset_iff, List.mem_toFinset]
    exact List.mem_map_of_mem (by decide)
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
set_option maxRecDepth 8192 in
set_option maxHeartbeats 2000000 in
theorem val2_main_v80 (V0 : Valuation τ sig (Elt F)) : val2 V0 (no_index (Proc.devRef .tc main_v80)) = addf (Host.divf (Host.reduceAdd (mulf (res_main_v71 V0) (res_main_v71 V0)) (constant S_ .f32 0x00000000#32) reducesTo_S4x8190x64_S_d0_1_2 h_S_) (constant S_ .f32 0x49FFF000#32)) (mulf (constant S_ .f32 0x3E800000#32) (Host.divf (Host.reduceAdd (mulf (res_main_v75 V0) (res_main_v75 V0)) (constant S_ .f32 0x00000000#32) reducesTo_S4x8190x64_S_d0_1_2 h_S_) (constant S_ .f32 0x49FFF000#32))) := by
  unfold val2
  simp only [ops_part1, TRef.binary, TRef.nullary, TRef.quaternary, TRef.unary, TRef.toBuf, TRef.ofBuf, cast_eq]
  after_results_simp
  simp only [val1_main_arg5, val1_main_v53, val1_main_v56, val1_main_v52] <;> rfl
set_option maxRecDepth 8192 in
set_option maxHeartbeats 2000000 in
theorem val2_main_v92 (V0 : Valuation τ sig (Elt F)) : val2 V0 (no_index (Proc.devRef .tc main_v92)) = Host.exp (Host.negf (Host.reduceAdd (mulf (res_main_v85 V0) (Host.log (addf (res_main_v85 V0) (broadcastInDim S1024 ![] bcast_S_S1024 (constant S_ .f32 0x2EDBE6FF#32))))) (constant S_ .f32 0x00000000#32) reducesTo_S1024_S_d0 h_S_)) := by
  unfold val2
  simp only [ops_part1, TRef.binary, TRef.nullary, TRef.quaternary, TRef.unary, TRef.toBuf, TRef.ofBuf, cast_eq]
  after_results_simp
  simp only [val1_main_arg5, val1_main_v53, val1_main_v56] <;> rfl
set_option maxRecDepth 8192 in
set_option maxHeartbeats 2000000 in
theorem val2_main_v93 (V0 : Valuation τ sig (Elt F)) : val2 V0 (no_index (Proc.devRef .tc main_v93)) = transpose S4x64x8190 [0, 2, 1] (addf (res_main_v52 V0) (subf (res_main_v70 V0) (res_main_v52 V0))) transposes_S4x8190x64_S4x64x8190_0_2_1 := by
  unfold val2
  simp only [ops_part1, TRef.binary, TRef.nullary, TRef.quaternary, TRef.unary, TRef.toBuf, TRef.ofBuf, cast_eq]
  after_results_simp
  simp only [val1_main_arg5, val1_main_v53, val1_main_v56, val1_main_v52] <;> rfl

theorem after_ops (V0 : Valuation τ sig (Elt F)) : after ops V0 = val2 V0 := by
  simp only [ops, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = addf (Host.divf (Host.reduceAdd (mulf (res_main_v71 (launchContents m c)) (res_main_v71 (launchContents m c))) (constant S_ .f32 0x00000000#32) reducesTo_S4x8190x64_S_d0_1_2 h_S_) (constant S_ .f32 0x49FFF000#32)) (mulf (constant S_ .f32 0x3E800000#32) (Host.divf (Host.reduceAdd (mulf (res_main_v75 (launchContents m c)) (res_main_v75 (launchContents m c))) (constant S_ .f32 0x00000000#32) reducesTo_S4x8190x64_S_d0_1_2 h_S_) (constant S_ .f32 0x49FFF000#32)))
      ∧ r.2.mem ((c.tc : Thread nD τ).loc main_v93) = transpose S4x64x8190 [0, 2, 1] (addf (res_main_v52 (launchContents m c)) (subf (res_main_v70 (launchContents m c)) (res_main_v52 (launchContents m c)))) transposes_S4x8190x64_S4x64x8190_0_2_1
      ∧ r.2.mem ((c.tc : Thread nD τ).loc main_v92) = Host.exp (Host.negf (Host.reduceAdd (mulf (res_main_v85 (launchContents m c)) (Host.log (addf (res_main_v85 (launchContents m c)) (broadcastInDim S1024 ![] bcast_S_S1024 (constant S_ .f32 0x2EDBE6FF#32))))) (constant S_ .f32 0x00000000#32) reducesTo_S1024_S_d0 h_S_))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v80).trans ((congrFun (after_ops (launchContents m c)) (Proc.devRef .tc main_v80)).trans (val2_main_v80 (launchContents m c))),
      (h c main_v93).trans ((congrFun (after_ops (launchContents m c)) (Proc.devRef .tc main_v93)).trans (val2_main_v93 (launchContents m c))),
      (h c main_v92).trans ((congrFun (after_ops (launchContents m c)) (Proc.devRef .tc main_v92)).trans (val2_main_v92 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c))),
      (h c main_arg3).trans ((congrFun (after_ops (launchContents m c)) (Proc.devRef .tc main_arg3)).trans (val2_main_arg3 (launchContents m c))),
      (h c main_arg4).trans ((congrFun (after_ops (launchContents m c)) (Proc.devRef .tc main_arg4)).trans (val2_main_arg4 (launchContents m c))),
      (h c main_arg5).trans ((congrFun (after_ops (launchContents m c)) (Proc.devRef .tc main_arg5)).trans (val2_main_arg5 (launchContents m c)))⟩)
    (run_seq scopedRefs_eq scopedSems_eq defs main (fun _ => ops) main_eq (fun _ => ops_sub) m ρ fun _ => ops_fresh)

end Cert.ReferenceIdeal.Value

end

end
-- ==== Proof.Chunk.lean ====
/-
  Hand-written: the four chunks of a step compute the same functions of four row blocks. The functions, and that each
  chunk's values are these.
-/
module

public import proofs.«01_k».proof.Proof.IValues

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- One tap's product of a row block with its quarter of the second weight. -/
def mm2 (a : Vec F S512x128 .f32) (b : Vec F S128x64 .f32) : FVec F S512x64 .f32 :=
  matmul dot_S512x128_S128x64_S512x64_1_0_0_1_n_n none a (shapeCast S128x64 b shapeCasts_S128x64_S128x64) (constant S512x64 .f32 0x00000000#32)

/-- A chunk's second layer. -/
def hC (w : Wts F) (a b c d : Vec F S512x128 .f32) : FVec F S512x64 .f32 :=
  tanh (addf (addf (addf (addf (addf (broadcast S512x64 (Scalar.ofBits .f32 0x00000000#32)) (mm2 a (wq0 w))) (mm2 b (wq1 w))) (mm2 c (wq2 w))) (mm2 d (wq3 w)))
    (broadcastTo S512x64 (shapeCast S1x64 w.B2 shapeCasts_S1x64_S1x64) broadcasts_S1x64_S512x64))

/-- A chunk's distances. -/
def dsC (w : Wts F) (h : FVec F S512x64 .f32) : FVec F S512x1024 .f32 :=
  subf (addf (broadcastTo S512x1024 (shapeCast S512x1 (multiReduction .add [1] S512 (mulf h h) 0x00000000#32 reduces_S512x64_S512 (.inl rfl) rfl) shapeCasts_S512_S512x1) broadcasts_S512x1_S512x1024)
      (broadcastTo S512x1024 (shapeCast S1x1024 w.CS shapeCasts_S1x1024_S1x1024) broadcasts_S1x1024_S512x1024))
    (matmul dot_S512x64_S1024x64_S512x1024_1_1_0_0_n_n none h (shapeCast S1024x64 w.CB2 shapeCasts_S1024x64_S1024x64) (constant S512x1024 .f32 0x00000000#32))

/-- The nearest lane's number, per row. -/
def ixC (D : FVec F S512x1024 .f32) : IVec S512 32 :=
  multiReductionI .minsi [1] S512
    (select (cmpf .oeq D (broadcastTo S512x1024 (shapeCast S512x1 (multiReduction .minimumf [1] S512 D 0x7F800000#32 reduces_S512x1024_S512 (.inl rfl) rfl) shapeCasts_S512_S512x1) broadcasts_S512x1_S512x1024))
      (iota .tc S512x1024 32 [1] iota_S512x1024_d1_w32) (broadcast S512x1024 1024#32)) 2147483647#32 reduces_S512x1024_S512 rfl

/-- One at the nearest lane, zero elsewhere. -/
def ohC (D : FVec F S512x1024 .f32) : FVec F S512x1024 .f32 :=
  sitofp .f32 (extui 32 (cmpi .eq (iota .tc S512x1024 32 [1] iota_S512x1024_d1_w32)
    (broadcastTo S512x1024 (shapeCast S512x1 (ixC D) shapeCasts_S512_S512x1) broadcasts_S512x1_S512x1024)) natLt_1_32)

/-- Which of the chunk's rows the problem has. -/
def mkC (s : BitVec 32) : IVec S512x1 1 :=
  shapeCast S512x1 (cmpi .slt (iota .tc S512x1 32 [0] iota_S512x1_d0_w32) (broadcast S512x1 s)) shapeCasts_S512x1_S512x1

/-- The counts after a chunk. -/
def ctC (s : BitVec 32) (O : FVec F S512x1024 .f32) (C : Vec F S1x1024 .f32) : FVec F S1x1024 .f32 :=
  shapeCast S1x1024 (addf C (shapeCast S1x1024 (multiReduction .add [0] S1024
    (select (broadcastTo S512x1024 (mkC s) broadcasts_S512x1_S512x1024) O (broadcast S512x1024 (Scalar.ofBits .f32 0x00000000#32))) 0x00000000#32 reduces_S512x1024_S1024 (.inl rfl) rfl) shapeCasts_S1024_S1x1024)) shapeCasts_S1x1024_S1x1024

/-- A chunk's quantized rows. -/
def qtC (w : Wts F) (O : FVec F S512x1024 .f32) : FVec F S512x64 .f32 :=
  matmul dot_S512x1024_S1024x64_S512x64_1_0_0_1_n_n none O w.CB (constant S512x64 .f32 0x00000000#32)

/-- The running squared error after a chunk. -/
def msC (s : BitVec 32) (h q : FVec F S512x64 .f32) (m : Elt F .f32) : F .f32 :=
  Scalar.addf m (extractAt ![0, 0, 0] (shapeCast S1x1x1 (multiReduction .add [1, 2] S1
    (shapeCast S1x512x64 (select (broadcastTo S512x64 (mkC s) broadcasts_S512x1_S512x64) (mulf (subf h q) (subf h q)) (broadcast S512x64 (Scalar.ofBits .f32 0x00000000#32))) shapeCasts_S512x64_S1x512x64)
    0x00000000#32 reduces_S1x512x64_S1 (.inl rfl) rfl) shapeCasts_S1_S1x1x1) inpos_S1x1x1_p0_0_0)

/-- A chunk's output rows. -/
def qoC (h q : FVec F S512x64 .f32) : FVec F S1x64x512 .f32 :=
  shapeCast S1x64x512 (transpose S64x512 [1, 0] (addf h (subf q h)) transposes_S512x64_p1_0_S64x512) shapeCasts_S64x512_S1x64x512

variable (w : Wts F) (T : Fin 16 → Vec F S512x128 .f32) (v5 : BitVec 32)

/-- Chunk 0's second layer, and with it its one-hot rows and quantized rows. -/
abbrev HC0 := hC w (T 0) (T 1) (T 2) (T 3)
/-- Chunk 1's. -/
abbrev HC1 := hC w (T 4) (T 5) (T 6) (T 7)
/-- Chunk 2's. -/
abbrev HC2 := hC w (T 8) (T 9) (T 10) (T 11)
/-- Chunk 3's. -/
abbrev HC3 := hC w (T 12) (T 13) (T 14) (T 15)

/-- One chunk's one-hot rows from its second layer. -/
abbrev oC (h : FVec F S512x64 .f32) := ohC (dsC w h)

/-- The first chunk's counts are the chunk's counts at its rows. -/
theorem ct0_eq (C : Vec F S1x1024 .f32) : ct0 w T v5 C = ctC (Scalar.subi v5 0#32) (oC w (HC0 w T)) C := rfl
/-- The second chunk's counts are the chunk's counts at its rows. -/
theorem ct1_eq (C : Vec F S1x1024 .f32) : ct1 w T v5 C = ctC (Scalar.subi v5 512#32) (oC w (HC1 w T)) C := rfl
/-- The third chunk's counts are the chunk's counts at its rows. -/
theorem ct2_eq (C : Vec F S1x1024 .f32) : ct2 w T v5 C = ctC (Scalar.subi v5 1024#32) (oC w (HC2 w T)) C := rfl
/-- The fourth chunk's counts are the chunk's counts at its rows. -/
theorem ct3_eq (C : Vec F S1x1024 .f32) : ct3 w T v5 C = ctC (Scalar.subi v5 1536#32) (oC w (HC3 w T)) C := rfl
/-- The first chunk's squared error is the chunk's squared error at its rows. -/
theorem ms0_eq (m : Elt F .f32) : ms0 w T v5 m = msC (Scalar.subi v5 0#32) (HC0 w T) (qtC w (oC w (HC0 w T))) m := rfl
/-- The second chunk's squared error is the chunk's squared error at its rows. -/
theorem ms1_eq (m : Elt F .f32) : ms1 w T v5 m = msC (Scalar.subi v5 512#32) (HC1 w T) (qtC w (oC w (HC1 w T))) m := rfl
/-- The third chunk's squared error is the chunk's squared error at its rows. -/
theorem ms2_eq (m : Elt F .f32) : ms2 w T v5 m = msC (Scalar.subi v5 1024#32) (HC2 w T) (qtC w (oC w (HC2 w T))) m := rfl
/-- The fourth chunk's squared error is the chunk's squared error at its rows. -/
theorem ms3_eq (m : Elt F .f32) : ms3 w T v5 m = msC (Scalar.subi v5 1536#32) (HC3 w T) (qtC w (oC w (HC3 w T))) m := rfl
/-- The first chunk's output is the chunk's output at its rows. -/
theorem qo0_eq : qo0 w T = qoC (HC0 w T) (qtC w (oC w (HC0 w T))) := rfl
/-- The second chunk's output is the chunk's output at its rows. -/
theorem qo1_eq : qo1 w T = qoC (HC1 w T) (qtC w (oC w (HC1 w T))) := rfl
/-- The third chunk's output is the chunk's output at its rows. -/
theorem qo2_eq : qo2 w T = qoC (HC2 w T) (qtC w (oC w (HC2 w T))) := rfl
/-- The fourth chunk's output is the chunk's output at its rows. -/
theorem qo3_eq : qo3 w T = qoC (HC3 w T) (qtC w (oC w (HC3 w T))) := rfl

end Cert.KernelIdeal.Hand

end
-- ==== Proof.Spec.lean ====
/-
  Hand-written: the problem's mathematics on plain functions of extended reals — the two convolutions, the distance to
  each codebook row, the nearest row —, and what finding the first smallest entry comes to.
-/
module

public import Idealize.ShloMosaic.PureOps.Ideal.Laws
public import Idealize.ShloMosaic.Lib.SortNet.Extract

@[expose] public section

noncomputable section

namespace Cert.Spec

open Idealize.ShloMosaic

/-- The problem's arguments, each as a function of its coordinates: the input, the first layer's weight and bias, the
    second layer's, and the codebook. -/
structure Args where
  x : ℕ → Fin 256 → ℕ → EReal
  w1 : Fin 128 → Fin 256 → Fin 4 → EReal
  b1 : Fin 128 → EReal
  w2 : Fin 64 → Fin 128 → Fin 4 → EReal
  b2 : Fin 64 → EReal
  cb : Fin 1024 → Fin 64 → EReal

/-- The first layer at batch `b` and column `n`: channel `c`. -/
def lay1 (A : Args) (b n : ℕ) (c : Fin 128) : EReal :=
  Ideal.tanh ((∑ k : Fin 4, ∑ e : Fin 256, A.x b e (2 * n + k.val) * A.w1 c e k) + A.b1 c)

/-- The second layer at batch `b` and column `n`: channel `d`. -/
def lay2 (A : Args) (b n : ℕ) (d : Fin 64) : EReal :=
  Ideal.tanh ((∑ k : Fin 4, ∑ c : Fin 128, lay1 A b (2 * n + k.val) c * A.w2 d c k) + A.b2 d)

/-- The score of codebook row `l` for the row `h`: the row's square, plus the codebook row's sum, minus twice their product. -/
def dst (cb : Fin 1024 → Fin 64 → EReal) (h : Fin 64 → EReal) (l : Fin 1024) : EReal :=
  ((∑ d, h d * h d) + ∑ d, cb l d) - ∑ d, 2 * (h d * cb l d)

/-- `l` is the first place at which `D` is smallest. -/
def First {n : ℕ} (D : Fin n → EReal) (l : Fin n) : Prop := (∀ k, D l ≤ D k) ∧ ∀ k, k < l → D l < D k

open Classical in
/-- One at the first place at which `D` is smallest, zero elsewhere. -/
def sel {n : ℕ} (D : Fin n → EReal) (l : Fin n) : EReal := if First D l then 1 else 0

/-- The codebook row nearest to `h`. -/
def near (cb : Fin 1024 → Fin 64 → EReal) (h : Fin 64 → EReal) (d : Fin 64) : EReal := ∑ l, sel (dst cb h) l * cb l d

/-- There is a first smallest place. -/
theorem exists_first {n : ℕ} (hn : 0 < n) (D : Fin n → EReal) : ∃ l, First D l := by
  classical
  haveI : Nonempty (Fin n) := ⟨⟨0, hn⟩⟩
  obtain ⟨a, ha⟩ := Finite.exists_min D
  have hne : (Finset.univ.filter fun k => D k ≤ D a).Nonempty := ⟨a, by simp⟩
  refine ⟨(Finset.univ.filter fun k => D k ≤ D a).min' hne, ?_, ?_⟩
  · intro k
    have := Finset.min'_mem _ hne
    exact (Finset.mem_filter.1 this).2.trans (ha k)
  · intro k hk
    by_contra hc
    have h1 := (Finset.mem_filter.1 (Finset.min'_mem _ hne)).2
    have := Finset.min'_le (Finset.univ.filter fun k => D k ≤ D a) k (by simpa using (not_lt.1 hc).trans h1)
    exact absurd hk (not_lt.2 this)

/-- There is only one. -/
theorem first_unique {n : ℕ} {D : Fin n → EReal} {a b : Fin n} (ha : First D a) (hb : First D b) : a = b := by
  rcases lt_trichotomy a b with h | h | h
  · exact absurd (hb.2 a h) (not_lt.2 (ha.1 b))
  · exact h
  · exact absurd (ha.2 b h) (not_lt.2 (hb.1 a))

/-- Among the places at which `D` takes its minimum, numbered, the smallest number is `l`'s exactly when `l` is first. -/
theorem first_iff_fold {n : ℕ} (hn : n ≤ 1024) (D : Fin n → EReal) (mn : EReal) (hm : mn = Finset.univ.fold min ⊤ D) (l : Fin n) :
    Finset.univ.fold min (2147483647 : ℤ) (fun k : Fin n => if D k = mn then (k.val : ℤ) else 1024) = (l.val : ℤ) ↔ First D l := by
  have hmle : ∀ k, mn ≤ D k := fun k => by
    rw [hm]; exact (Finset.fold_min_le _).2 (Or.inr ⟨k, Finset.mem_univ _, le_rfl⟩)
  have hiff : ∀ k, D k = mn ↔ ∀ j, D k ≤ D j := fun k => by
    constructor
    · intro h j; rw [h]; exact hmle j
    · intro h
      refine le_antisymm ?_ (hmle k)
      rw [hm]; exact (Finset.le_fold_min _).2 ⟨le_top, fun j _ => h j⟩
  have hl := l.isLt
  constructor
  · intro h
    have hge : ∀ k : Fin n, (l.val : ℤ) ≤ if D k = mn then (k.val : ℤ) else 1024 := fun k =>
      ((Finset.le_fold_min _).1 h.ge).2 k (Finset.mem_univ _)
    obtain hbig | ⟨k, -, hk⟩ := (Finset.fold_min_le _).1 h.le
    · omega
    · have hDk : D k = mn := by
        by_contra hc
        rw [if_neg hc] at hk; omega
      have h1 := hge k
      rw [if_pos hDk] at hk h1
      have hkl : k = l := Fin.ext (by omega)
      rw [hkl] at hDk
      refine ⟨(hiff l).1 hDk, fun j hj => ?_⟩
      rcases lt_or_eq_of_le ((hiff l).1 hDk j) with h2 | h2
      · exact h2
      · have h3 := hge j
        rw [if_pos (h2.symm.trans hDk)] at h3
        have : j.val < l.val := hj
        omega
  · rintro ⟨h1, h2⟩
    refine le_antisymm ((Finset.fold_min_le _).2 (Or.inr ⟨l, Finset.mem_univ _, by rw [if_pos ((hiff l).2 h1)]⟩))
      ((Finset.le_fold_min _).2 ⟨by omega, fun k _ => ?_⟩)
    split
    · next hk =>
      by_contra hc
      have : k < l := by show k.val < l.val; omega
      exact absurd (h2 k this) (not_lt.2 (((hiff k).1 hk) l))
    · omega

/-- The integer of a fold of signed minima is the fold of the integers' minima. -/
theorem toInt_fold_minsi {ι : Type} (s : Finset ι) (c : BitVec 32) (f : ι → BitVec 32) :
    (s.fold IntOp.minsi c f).toInt = s.fold min c.toInt (fun i => (f i).toInt) := by
  classical
  induction s using Finset.cons_induction with
  | empty => rfl
  | cons a S ha ih => rw [Finset.fold_cons, Finset.fold_cons, SortNet.toInt_minsi, ih]

/-- So the word that the lanes' minimum is equals lane `l`'s number exactly when `l` is first. -/
theorem first_iff_minsi (D : Fin 1024 → EReal) (mn : EReal) (hm : mn = Finset.univ.fold min ⊤ D) (l : Fin 1024) :
    BitVec.ofNat 32 l.val = Finset.univ.fold IntOp.minsi 2147483647#32 (fun k : Fin 1024 => if D k = mn then BitVec.ofNat 32 k.val else 1024#32)
      ↔ First D l := by
  have hv : ∀ k : Fin 1024, (BitVec.ofNat 32 k.val).toInt = (k.val : ℤ) := fun k => by
    have := k.isLt
    rw [BitVec.toInt_ofNat', Int.bmod_def]; omega
  rw [← first_iff_fold le_rfl D mn hm l, ← hv l, ← BitVec.toInt_inj, toInt_fold_minsi]
  have he : (fun i : Fin 1024 => (if D i = mn then BitVec.ofNat 32 i.val else 1024#32 : BitVec 32).toInt)
      = fun k : Fin 1024 => if D k = mn then (k.val : ℤ) else 1024 := by
    funext k; split
    · exact hv k
    · rfl
  rw [he]
  exact eq_comm

/-- Pairs of a value and a number, the smaller value first and, of equal values, the smaller number. -/
def lexLE (p q : EReal × BitVec 32) : Prop := p.1 < q.1 ∨ (p.1 = q.1 ∧ p.2.toInt ≤ q.2.toInt)

/-- The order on pairs of a value and an index is reflexive. -/
theorem lexLE_refl (p : EReal × BitVec 32) : lexLE p p := Or.inr ⟨rfl, le_rfl⟩

/-- The order on pairs of a value and an index is transitive. -/
theorem lexLE_trans {p q r : EReal × BitVec 32} (h : lexLE p q) (h' : lexLE q r) : lexLE p r := by
  rcases h with h | ⟨h, k⟩ <;> rcases h' with h' | ⟨h', k'⟩
  · exact Or.inl (h.trans h')
  · exact Or.inl (h' ▸ h)
  · exact Or.inl (h ▸ h')
  · exact Or.inr ⟨h.trans h', k.trans k'⟩

/-- A fold by a body that returns the smaller of its two pairs ends at the smallest of all. -/
theorem foldl_lex (f : EReal × BitVec 32 → EReal × BitVec 32 → EReal × BitVec 32)
    (hf : ∀ a b, (f a b = a ∧ lexLE a b) ∨ (f a b = b ∧ lexLE b a)) (L : List (EReal × BitVec 32)) (a : EReal × BitVec 32) :
    (L.foldl f a = a ∨ L.foldl f a ∈ L) ∧ lexLE (L.foldl f a) a ∧ ∀ q ∈ L, lexLE (L.foldl f a) q := by
  induction L generalizing a with
  | nil => exact ⟨Or.inl rfl, lexLE_refl _, fun q hq => absurd hq List.not_mem_nil⟩
  | cons b L ih =>
    obtain ⟨h1, h2, h3⟩ := ih (f a b)
    rw [List.foldl_cons]
    rcases hf a b with ⟨e, hab⟩ | ⟨e, hba⟩
    · rw [e] at h1 h2 h3 ⊢
      refine ⟨h1.imp id fun h => List.mem_cons_of_mem _ h, h2, fun q hq => ?_⟩
      rcases List.mem_cons.1 hq with rfl | hq
      · exact lexLE_trans h2 hab
      · exact h3 q hq
    · rw [e] at h1 h2 h3 ⊢
      refine ⟨Or.inr ?_, lexLE_trans h2 hba, fun q hq => ?_⟩
      · rcases h1 with h1 | h1
        · rw [h1]; exact List.mem_cons_self
        · exact List.mem_cons_of_mem _ h1
      · rcases List.mem_cons.1 hq with rfl | hq
        · exact h2
        · exact h3 q hq

/-- The number of a smallest pair, the search starting at the top with number zero, is the first smallest place. -/
theorem lex_first (D : Fin 1024 → EReal) (p : EReal × BitVec 32)
    (hp : p = (⊤, 0#32) ∨ ∃ k, p = (D k, BitVec.ofNat 32 k.val)) (hle : ∀ k, lexLE p (D k, BitVec.ofNat 32 k.val)) (l : Fin 1024) :
    p.2 = BitVec.ofNat 32 l.val ↔ First D l := by
  have hv : ∀ k : Fin 1024, (BitVec.ofNat 32 k.val).toInt = (k.val : ℤ) := fun k => by
    have := k.isLt
    rw [BitVec.toInt_ofNat', Int.bmod_def]; omega
  have hinj : ∀ k j : Fin 1024, BitVec.ofNat 32 k.val = BitVec.ofNat 32 j.val → k = j := fun k j h => by
    have := congrArg BitVec.toInt h
    rw [hv, hv] at this
    exact Fin.ext (by omega)
  obtain ⟨a, ha⟩ := exists_first (by norm_num : 0 < 1024) D
  have key : p.2 = BitVec.ofNat 32 a.val := by
    rcases hp with rfl | ⟨k, rfl⟩
    · have htop : ∀ k, D k = ⊤ := fun k => by
        rcases hle k with h | ⟨h, -⟩
        · exact absurd h (not_lt.2 le_top)
        · exact h.symm
      rcases Nat.eq_zero_or_pos a.val with h | h
      · rw [h]
      · have := ha.2 ⟨0, by norm_num⟩ h
        rw [htop, htop] at this
        exact absurd this (lt_irrefl _)
    · have : k = a := by
        refine first_unique ⟨fun j => ?_, fun j hj => ?_⟩ ha
        · rcases hle j with h | ⟨h, -⟩
          · exact le_of_lt h
          · exact le_of_eq h
        · rcases hle j with h | ⟨-, h⟩
          · exact h
          · rw [hv, hv] at h
            have : j.val < k.val := hj
            omega
      rw [this]
  rw [key]
  exact ⟨fun h => hinj _ _ h ▸ ha, fun h => by rw [first_unique ha h]⟩

end Cert.Spec

end
-- ==== Proof.ChunkRead.lean ====
/-
  Hand-written: what a chunk computes, read at an index over the extended reals.
-/
module

public import proofs.«01_k».proof.Proof.Chunk
public import proofs.«01_k».proof.Proof.Spec
public import Idealize.ShloMosaic.Lib.Pipeline.Value
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe
open Cert.Spec

/-- A matrix product into zeros, read at an index: the sum over the contracted coordinate. -/
theorem mm_read {sl sr so : Shape} (D : DotDims sl sr so) (n : ℕ) (hr : D.contr.rank = 1) (hs : D.contr.size ⟨0, by omega⟩ = n)
    (L : FVec Ideal sl .f32) (R : FVec Ideal sr .f32) (j : so.Idx) (li : Fin n → sl.Idx) (ri : Fin n → sr.Idx)
    (hl : ∀ q a, (D.lhsIdx j q a).val = (li (ValueIdx.contrEquiv1 D n hr hs q) a).val)
    (hR : ∀ q a, (D.rhsIdx j q a).val = (ri (ValueIdx.contrEquiv1 D n hr hs q) a).val) :
    matmul D none L R (constant so .f32 0x00000000#32) j = ∑ k : Fin n, L (li k) * R (ri k) := by
  simp only [matmul]
  rw [Ideal.matmul_constant_zero_apply, ← Equiv.sum_comp (ValueIdx.contrEquiv1 D n hr hs) fun k => L (li k) * R (ri k)]
  refine Finset.sum_congr rfl fun q _ => ?_
  rw [show D.lhsIdx j q = li _ from funext fun a => Fin.ext (hl q a), show D.rhsIdx j q = ri _ from funext fun a => Fin.ext (hR q a)]

/-- One tap's product. -/
theorem mm2_read (a : Vec Ideal S512x128 .f32) (b : Vec Ideal S128x64 .f32) (r : Fin 512) (d : Fin 64) :
    mm2 a b (ValueIdx.ix2 r d) = ∑ c : Fin 128, a (ValueIdx.ix2 r c) * b (ValueIdx.ix2 c d) := by
  unfold mm2
  rw [shapeCast_self]
  exact mm_read dot_S512x128_S128x64_S512x64_1_0_0_1_n_n 128 rfl rfl a b _ (fun k => ValueIdx.ix2 r k) (fun k => ValueIdx.ix2 k d)
    (fun q a => match a with | ⟨0, _⟩ => rfl | ⟨1, _⟩ => rfl) (fun q a => match a with | ⟨0, _⟩ => rfl | ⟨1, _⟩ => rfl)

/-- A row of a one-row array, spread over the rows. -/
theorem bc_row {m n : ℕ} (hn : n ≠ 1) (x : (⟨2, ![1, n]⟩ : Shape).Idx → EReal) (h : (⟨2, ![1, n]⟩ : Shape).Broadcasts ⟨2, ![m, n]⟩) (r : Fin m) (d : Fin n) :
    broadcastTo (⟨2, ![m, n]⟩ : Shape) x h (ValueIdx.ix2 r d) = x (ValueIdx.ix2 0 d) :=
  broadcastTo_apply x h _ _ fun a => match a with
    | ⟨0, _⟩ => rfl
    | ⟨1, _⟩ => by show d.val = if n = 1 then 0 else d.val; rw [if_neg hn]

/-- A column, spread over the columns. -/
theorem bc_col {α : Type} {m n : ℕ} (hm : m ≠ 1) (x : (⟨2, ![m, 1]⟩ : Shape).Idx → α) (h : (⟨2, ![m, 1]⟩ : Shape).Broadcasts ⟨2, ![m, n]⟩) (r : Fin m) (d : Fin n) :
    broadcastTo (⟨2, ![m, n]⟩ : Shape) x h (ValueIdx.ix2 r d) = x (ValueIdx.ix2 r 0) :=
  broadcastTo_apply x h _ _ fun a => match a with
    | ⟨0, _⟩ => by show r.val = if m = 1 then 0 else r.val; rw [if_neg hm]
    | ⟨1, _⟩ => rfl

/-- A vector as a column. -/
theorem col_read {α : Type} {m : ℕ} (x : (⟨1, ![m]⟩ : Shape).Idx → α) (h : (⟨1, ![m]⟩ : Shape).ShapeCasts ⟨2, ![m, 1]⟩) (r : Fin m) :
    shapeCast (⟨2, ![m, 1]⟩ : Shape) x h (ValueIdx.ix2 r 0) = x (ValueIdx.ix1 r) :=
  shapeCast_apply x h _ _ (by rw [Shape.rowMajor_val_one, Shape.rowMajor_val_two]; show r.val = r.val * 1 + 0; omega)

/-- A vector as a row. -/
theorem row_read {α : Type} {m : ℕ} (x : (⟨1, ![m]⟩ : Shape).Idx → α) (h : (⟨1, ![m]⟩ : Shape).ShapeCasts ⟨2, ![1, m]⟩) (r : Fin m) :
    shapeCast (⟨2, ![1, m]⟩ : Shape) x h (ValueIdx.ix2 0 r) = x (ValueIdx.ix1 r) :=
  shapeCast_apply x h _ _ (by rw [Shape.rowMajor_val_one, Shape.rowMajor_val_two]; show r.val = 0 * m + r.val; omega)

/-- The second layer at a row and a channel. -/
theorem hC_read (w : Wts Ideal) (a b c e : Vec Ideal S512x128 .f32) (r : Fin 512) (d : Fin 64) :
    hC w a b c e (ValueIdx.ix2 r d) = Ideal.tanh ((((∑ k : Fin 128, a (ValueIdx.ix2 r k) * wq0 w (ValueIdx.ix2 k d)) + ∑ k : Fin 128, b (ValueIdx.ix2 r k) * wq1 w (ValueIdx.ix2 k d))
      + (∑ k : Fin 128, c (ValueIdx.ix2 r k) * wq2 w (ValueIdx.ix2 k d)) + ∑ k : Fin 128, e (ValueIdx.ix2 r k) * wq3 w (ValueIdx.ix2 k d)) + w.B2 (ValueIdx.ix2 0 d)) := by
  unfold hC
  rw [shapeCast_self]
  show Ideal.tanh (Ideal.ofBits .f32 0x00000000#32 + mm2 a (wq0 w) (ValueIdx.ix2 r d) + mm2 b (wq1 w) (ValueIdx.ix2 r d) + mm2 c (wq2 w) (ValueIdx.ix2 r d)
    + mm2 e (wq3 w) (ValueIdx.ix2 r d) + broadcastTo S512x64 w.B2 broadcasts_S1x64_S512x64 (ValueIdx.ix2 r d)) = _
  rw [mm2_read, mm2_read, mm2_read, mm2_read, Ideal.ofBits_zero_f32, zero_add]
  congr 2
  exact bc_row (by norm_num) w.B2 broadcasts_S1x64_S512x64 r d

/-- The distances at a row and a lane. -/
theorem dsC_read (w : Wts Ideal) (h : FVec Ideal S512x64 .f32) (r : Fin 512) (l : Fin 1024) :
    dsC w h (ValueIdx.ix2 r l) = ((∑ d : Fin 64, h (ValueIdx.ix2 r d) * h (ValueIdx.ix2 r d)) + w.CS (ValueIdx.ix2 0 l))
      - ∑ d : Fin 64, h (ValueIdx.ix2 r d) * w.CB2 (ValueIdx.ix2 l d) := by
  unfold dsC
  rw [shapeCast_self, shapeCast_self]
  refine congrArg₂ (· - ·) (congrArg₂ (· + ·) ?_ ?_) ?_
  · refine (bc_col (by norm_num) _ broadcasts_S512x1_S512x1024 r l).trans ((col_read _ shapeCasts_S512_S512x1 r).trans ?_)
    refine (Ideal.multiReduction_add_single _ _ _ _ _ _).trans ?_
    refine Finset.sum_congr rfl fun d _ => ?_
    rw [show reduces_S512x64_S512.lift (ValueIdx.ix1 r) d = ValueIdx.ix2 r d from funext fun a => match a with | ⟨0, _⟩ => rfl | ⟨1, _⟩ => rfl]
    rfl
  · exact bc_row (by norm_num) w.CS broadcasts_S1x1024_S512x1024 r l
  · exact mm_read dot_S512x64_S1024x64_S512x1024_1_1_0_0_n_n 64 rfl rfl h w.CB2 _ (fun k => ValueIdx.ix2 r k) (fun k => ValueIdx.ix2 l k)
      (fun q a => match a with | ⟨0, _⟩ => rfl | ⟨1, _⟩ => rfl) (fun q a => match a with | ⟨0, _⟩ => rfl | ⟨1, _⟩ => rfl)

/-- A lane's candidate: its number where the distance is `M`'s. -/
theorem cand_read (D M : FVec Ideal S512x1024 .f32) (i : S512x1024.Idx) (r : Fin 512) (k : Fin 1024) (hi : i = ValueIdx.ix2 r k) :
    select (cmpf .oeq D M) (iota .tc S512x1024 32 [1] iota_S512x1024_d1_w32) (broadcast S512x1024 1024#32) i
      = if D (ValueIdx.ix2 r k) = M (ValueIdx.ix2 r k) then BitVec.ofNat 32 k.val else 1024#32 := by
  subst hi
  show Scalar.select (BitVec.ofBool (decide (D (ValueIdx.ix2 r k) = M (ValueIdx.ix2 r k)))) (BitVec.ofNat 32 (0 * 1024 + k.val)) 1024#32 = _
  by_cases hd : D (ValueIdx.ix2 r k) = M (ValueIdx.ix2 r k)
  · rw [if_pos hd, decide_eq_true hd, Nat.zero_mul, Nat.zero_add]; rfl
  · rw [if_neg hd, decide_eq_false hd]; rfl

/-- The nearest lane's number. -/
theorem ixC_read (D : FVec Ideal S512x1024 .f32) (r : Fin 512) (l : Fin 1024) :
    BitVec.ofNat 32 l.val = ixC D (ValueIdx.ix1 r) ↔ First (fun k : Fin 1024 => D (ValueIdx.ix2 r k)) l := by
  have hl : ∀ k : Fin 1024, reduces_S512x1024_S512.lift (ValueIdx.ix1 r) k = ValueIdx.ix2 r k := fun k =>
    funext fun a => match a with | ⟨0, _⟩ => rfl | ⟨1, _⟩ => rfl
  rw [← first_iff_minsi (fun k : Fin 1024 => D (ValueIdx.ix2 r k)) _ rfl l]
  unfold ixC
  refine iff_of_eq (congrArg (BitVec.ofNat 32 l.val = ·) ?_)
  refine ((multiReductionI_eq_fold _ _ _ _ _ _).trans (reduces_S512x1024_S512.fold_filter_drop_single _ _ _ _)).trans ?_
  refine congrArg (fun f => Finset.fold IntOp.minsi 2147483647#32 f Finset.univ) (funext fun k : Fin 1024 => ?_)
  have hmin : broadcastTo S512x1024 (shapeCast S512x1 (multiReduction .minimumf [1] S512 D 0x7F800000#32 reduces_S512x1024_S512 (.inl rfl) rfl) shapeCasts_S512_S512x1) broadcasts_S512x1_S512x1024 (ValueIdx.ix2 r k)
      = Finset.univ.fold min ⊤ fun k : Fin 1024 => D (ValueIdx.ix2 r k) := by
    refine (bc_col (by norm_num) _ broadcasts_S512x1_S512x1024 r k).trans ((col_read _ shapeCasts_S512_S512x1 r).trans ?_)
    refine ((multiReduction_minimumf_eq_fold _ _ _ _ _ _).trans (reduces_S512x1024_S512.fold_filter_drop_single _ _ _ _)).trans ?_
    have ht : (FloatOps.ofBits .f32 0x7F800000#32 : Ideal .f32) = (⊤ : EReal) := by
      show Ideal.ofBits .f32 0x7F800000#32 = ⊤
      simp [Ideal.ofBits, Ideal.ieee]
    rw [ht]
    exact congrArg (fun f => Finset.fold min ⊤ f Finset.univ) (funext fun j : Fin 1024 => congrArg D (hl j))
  refine (cand_read D _ _ r k (hl k)).trans ?_
  exact congrArg (fun z : EReal => if D (ValueIdx.ix2 r k) = z then BitVec.ofNat 32 k.val else 1024#32) hmin

/-- The one-hot rows. -/
theorem ohC_read (D : FVec Ideal S512x1024 .f32) (r : Fin 512) (l : Fin 1024) :
    ohC D (ValueIdx.ix2 r l) = sel (fun k : Fin 1024 => D (ValueIdx.ix2 r k)) l := by
  unfold ohC
  have hix : broadcastTo S512x1024 (shapeCast S512x1 (ixC D) shapeCasts_S512_S512x1) broadcasts_S512x1_S512x1024 (ValueIdx.ix2 r l) = ixC D (ValueIdx.ix1 r) :=
    (bc_col (by norm_num) _ broadcasts_S512x1_S512x1024 r l).trans (col_read _ shapeCasts_S512_S512x1 r)
  show (((((BitVec.ofBool (decide (BitVec.ofNat 32 (0 * 1024 + l.val) = broadcastTo S512x1024 (shapeCast S512x1 (ixC D) shapeCasts_S512_S512x1) broadcasts_S512x1_S512x1024 (ValueIdx.ix2 r l)))).setWidth 32).toInt : ℤ) : ℝ) : EReal) = _
  rw [hix, Nat.zero_mul, Nat.zero_add]
  unfold sel
  by_cases h : First (fun k : Fin 1024 => D (ValueIdx.ix2 r k)) l
  · rw [if_pos h, decide_eq_true ((ixC_read D r l).2 h)]
    simp
  · rw [if_neg h, decide_eq_false fun e => h ((ixC_read D r l).1 e)]
    simp

/-- The mask at a row. -/
theorem mkC_read (s : BitVec 32) (r : Fin 512) : mkC s (ValueIdx.ix2 r 0) = BitVec.ofBool ((BitVec.ofNat 32 r.val).slt s) := by
  unfold mkC
  rw [shapeCast_self]
  show BitVec.ofBool ((BitVec.ofNat 32 (0 * 512 + r.val)).slt s) = _
  rw [Nat.zero_mul, Nat.zero_add]

/-- A selection by the mask. -/
theorem mask_read {n : ℕ} (s : BitVec 32) (X : (⟨2, ![512, n]⟩ : Shape).Idx → EReal) (h : S512x1.Broadcasts ⟨2, ![512, n]⟩) (r : Fin 512) (d : Fin n) :
    select (broadcastTo (⟨2, ![512, n]⟩ : Shape) (mkC s) h) X (broadcast (⟨2, ![512, n]⟩ : Shape) (Scalar.ofBits (F := Ideal) .f32 0x00000000#32)) (ValueIdx.ix2 r d)
      = if (BitVec.ofNat 32 r.val).slt s then X (ValueIdx.ix2 r d) else 0 := by
  rw [ValueIdx.select_apply, bc_col (by norm_num) (mkC s) h r d, mkC_read]
  split
  · next h1 => rw [h1]; rfl
  · next h1 =>
    rw [Bool.not_eq_true] at h1
    rw [h1]
    exact Ideal.ofBits_zero_f32

/-- The counts after a chunk. -/
theorem ctC_read (s : BitVec 32) (O : FVec Ideal S512x1024 .f32) (C : Vec Ideal S1x1024 .f32) (l : Fin 1024) :
    ctC s O C (ValueIdx.ix2 0 l) = C (ValueIdx.ix2 0 l) + ∑ r : Fin 512, if (BitVec.ofNat 32 r.val).slt s then O (ValueIdx.ix2 r l) else 0 := by
  unfold ctC
  rw [shapeCast_self]
  refine congrArg (C (ValueIdx.ix2 0 l) + ·) ((row_read _ shapeCasts_S1024_S1x1024 l).trans ?_)
  refine (Ideal.multiReduction_add_single _ _ _ _ _ _).trans ?_
  refine Finset.sum_congr rfl fun r _ => ?_
  rw [show reduces_S512x1024_S1024.lift (ValueIdx.ix1 l) r = ValueIdx.ix2 r l from funext fun a => match a with | ⟨0, _⟩ => rfl | ⟨1, _⟩ => rfl]
  exact mask_read s O broadcasts_S512x1_S512x1024 r l

/-- The quantized rows. -/
theorem qtC_read (w : Wts Ideal) (O : FVec Ideal S512x1024 .f32) (r : Fin 512) (d : Fin 64) :
    qtC w O (ValueIdx.ix2 r d) = ∑ l : Fin 1024, O (ValueIdx.ix2 r l) * w.CB (ValueIdx.ix2 l d) :=
  mm_read dot_S512x1024_S1024x64_S512x64_1_0_0_1_n_n 1024 rfl rfl O w.CB _ (fun k => ValueIdx.ix2 r k) (fun k => ValueIdx.ix2 k d)
    (fun q a => match a with | ⟨0, _⟩ => rfl | ⟨1, _⟩ => rfl) (fun q a => match a with | ⟨0, _⟩ => rfl | ⟨1, _⟩ => rfl)

/-- A reshaped array has the same sum. -/
theorem sum_shapeCast {s t : Shape} (v : s.Idx → EReal) (h : s.ShapeCasts t) : ∑ i, shapeCast t v h i = ∑ j, v j :=
  Equiv.sum_comp (Shape.reshapeEquiv h) v

/-- The running squared error after a chunk. -/
theorem msC_read (s : BitVec 32) (h q : FVec Ideal S512x64 .f32) (m : Elt Ideal .f32) :
    msC s h q m = m + ∑ r : Fin 512, ∑ d : Fin 64, if (BitVec.ofNat 32 r.val).slt s
      then (h (ValueIdx.ix2 r d) - q (ValueIdx.ix2 r d)) * (h (ValueIdx.ix2 r d) - q (ValueIdx.ix2 r d)) else 0 := by
  unfold msC
  refine congrArg (m + ·) ?_
  unfold extractAt
  refine (shapeCast_apply _ shapeCasts_S1_S1x1x1 _ (ValueIdx.ix1 0) (by rw [Shape.rowMajor_val_one, Shape.rowMajor_val_three]; rfl)).trans ?_
  refine (Ideal.multiReduction_add_total _ _ _ (by decide) _ _ _).trans ((sum_shapeCast _ _).trans ((ValueIdx.sum_idx2 _).trans ?_))
  refine Finset.sum_congr rfl fun r _ => Finset.sum_congr rfl fun d _ => ?_
  exact mask_read s (mulf (subf h q) (subf h q)) broadcasts_S512x1_S512x64 r d

/-- The output rows. -/
theorem qoC_read (h q : FVec Ideal S512x64 .f32) (i : S1x64x512.Idx) (r : Fin 512) (d : Fin 64) (hr : r.val = (i 2).val) (hd : d.val = (i 1).val) :
    qoC h q i = h (ValueIdx.ix2 r d) + (q (ValueIdx.ix2 r d) - h (ValueIdx.ix2 r d)) := by
  unfold qoC
  have h0 : (i 0).val = 0 := by have : (i 0).val < 1 := (i 0).isLt; omega
  refine (shapeCast_apply _ shapeCasts_S64x512_S1x64x512 i (ValueIdx.ix2 d r) (by
    rw [Shape.rowMajor_val_two, Shape.rowMajor_val_three]
    show d.val * 512 + r.val = ((i 0).val * 64 + (i 1).val) * 512 + (i 2).val
    rw [h0, hr, hd]; omega)).trans ?_
  exact transpose_apply [1, 0] _ transposes_S512x64_p1_0_S64x512 (ValueIdx.ix2 d r) (ValueIdx.ix2 r d) (fun b => match b with | ⟨0, _⟩ => rfl | ⟨1, _⟩ => rfl)

end Cert.KernelIdeal.Hand

end
-- ==== Proof.SpecArgs.lean ====
/-
  Hand-written: the problem's arguments read off the six argument arrays, the two totals that the scalar results are
  computed from, and the scalar results.
-/
module

public import proofs.«01_k».proof.Proof.Spec
public import Idealize.ShloMosaic.Lib.ValueIdx

@[expose] public section

noncomputable section

namespace Cert.Spec

open Idealize.ShloMosaic

/-- An index of the input array. -/
abbrev xat (b : ℕ) (e : Fin 256) (j : ℕ) : (⟨3, ![4, 256, 32768]⟩ : Shape).Idx :=
  ValueIdx.ix3 ⟨b % 4, Nat.mod_lt _ (by norm_num)⟩ e ⟨j % 32768, Nat.mod_lt _ (by norm_num)⟩

/-- The arguments as functions of their coordinates. -/
def argsOf (x0 : (⟨3, ![4, 256, 32768]⟩ : Shape).Idx → EReal) (x1 : (⟨3, ![128, 256, 4]⟩ : Shape).Idx → EReal) (x2 : (⟨1, ![128]⟩ : Shape).Idx → EReal)
    (x3 : (⟨3, ![64, 128, 4]⟩ : Shape).Idx → EReal) (x4 : (⟨1, ![64]⟩ : Shape).Idx → EReal) (x5 : (⟨2, ![1024, 64]⟩ : Shape).Idx → EReal) : Args where
  x b e j := x0 (xat b e j)
  w1 c e k := x1 (ValueIdx.ix3 c e k)
  b1 c := x2 (ValueIdx.ix1 c)
  w2 d c k := x3 (ValueIdx.ix3 d c k)
  b2 d := x4 (ValueIdx.ix1 d)
  cb l d := x5 (ValueIdx.ix2 l d)

/-- One row's squared error: its squared distance to the codebook row nearest to it. -/
def rowErr (A : Args) (b n : ℕ) : EReal := ∑ d, (lay2 A b n d - near A.cb (lay2 A b n) d) * (lay2 A b n d - near A.cb (lay2 A b n) d)

/-- The total squared error. -/
def err (A : Args) : EReal := ∑ b : Fin 4, ∑ n : Fin 8190, rowErr A b.val n.val

/-- How many rows are nearest to codebook row `l`. -/
def cnt (A : Args) (l : Fin 1024) : EReal := ∑ b : Fin 4, ∑ n : Fin 8190, sel (dst A.cb (lay2 A b.val n.val)) l

/-- The first result. -/
def loss (A : Args) : EReal :=
  Ideal.div (err A) (Ideal.ofBits .f32 0x49FFF000#32) + Ideal.ofBits .f32 0x3E800000#32 * Ideal.div (err A) (Ideal.ofBits .f32 0x49FFF000#32)

/-- The share of the rows nearest to codebook row `l`. -/
def share (A : Args) (l : Fin 1024) : EReal := Ideal.div (cnt A l) (Ideal.ofBits .f32 0x46FFF000#32)

/-- The third result. -/
def perp (A : Args) : EReal := Ideal.exp (-(∑ l, share A l * Ideal.log (share A l + Ideal.ofBits .f32 0x2EDBE6FF#32)))

/-- The second result at batch `b`, channel `d`, column `n`. -/
def quant (A : Args) (b n : ℕ) (d : Fin 64) : EReal := lay2 A b n d + (near A.cb (lay2 A b n) d - lay2 A b n d)

/-- The word for two is the extended real two. -/
theorem ofBits_two : Ideal.ofBits .f32 0x40000000#32 = (2 : EReal) := by
  simp [Ideal.ofBits, Ideal.ieee]
  rw [← EReal.coe_mul]
  norm_num
  rfl

/-- A sum over the flattened rows is the sum over batches of the sums over columns. -/
theorem sum_rows (f : ℕ → ℕ → EReal) : ∑ R : Fin 32760, f (R.val / 8190) (R.val % 8190) = ∑ b : Fin 4, ∑ n : Fin 8190, f b.val n.val := by
  rw [← Finset.sum_product', Finset.univ_product_univ]
  refine (Equiv.sum_comp (finProdFinEquiv (m := 4) (n := 8190)) fun R : Fin (4 * 8190) => f (R.val / 8190) (R.val % 8190)).symm.trans ?_
  refine Finset.sum_congr rfl fun p _ => ?_
  have h := p.2.isLt
  have e : (finProdFinEquiv (m := 4) (n := 8190) p).val = p.2.val + 8190 * p.1.val := rfl
  rw [e, show (p.2.val + 8190 * p.1.val) / 8190 = p.1.val by omega, show (p.2.val + 8190 * p.1.val) % 8190 = p.2.val by omega]

end Cert.Spec

end
-- ==== Proof.LayerRead.lean ====
/-
  Hand-written: the first layer the kernel computes of a window is the problem's first layer, and the rows its chunks
  read of it are the rows the second layer needs.
-/
module

public import proofs.«01_k».proof.Proof.ChunkRead
public import proofs.«01_k».proof.Proof.SpecArgs
public import proofs.«01_k».proof.Proof.IHeld

@[expose] public section

set_option maxRecDepth 16384

noncomputable section

namespace Cert.KernelIdeal.Hand

open Cert.KernelIdeal Cert.KernelIdeal.Gen
open Idealize.ShloMosaic Idealize.ShloMosaic.TcCoe
open Cert.Spec

/-- The weights a step reads are the problem's, in the kernel's layout. -/
structure Reads (w : Wts Ideal) (A : Args) : Prop where
  W1 : ∀ (k : Fin 4) (e : Fin 256) (c : Fin 128) (n : Fin 1024), n.val = 256 * k.val + e.val → w.W1 (ValueIdx.ix2 n c) = A.w1 c e k
  B1 : ∀ c, w.B1 (ValueIdx.ix2 0 c) = A.b1 c
  W2 : ∀ (k : Fin 4) (c : Fin 128) (d : Fin 64) (n : Fin 512), n.val = 128 * k.val + c.val → w.W2 (ValueIdx.ix2 n d) = A.w2 d c k
  B2 : ∀ d, w.B2 (ValueIdx.ix2 0 d) = A.b2 d
  CB : ∀ l d, w.CB (ValueIdx.ix2 l d) = A.cb l d
  CB2 : ∀ l d, w.CB2 (ValueIdx.ix2 l d) = A.cb l d * 2
  CS : ∀ l, w.CS (ValueIdx.ix2 0 l) = ∑ d, A.cb l d

/-- The input a step reads is the problem's. -/
def ReadsX (X : Vec Ideal S4x256x32768 .f32) (A : Args) : Prop := ∀ b (e : Fin 256) j, X (xIdx b e.val j) = A.x b e j

/-- One half tap's product. -/
def mm1 (a : Vec Ideal S4098x128 .f32) (b : Vec Ideal S128x128 .f32) : FVec Ideal S4098x128 .f32 :=
  matmul (φ₁ := .f32) (φ₂ := .f32) dot_S4098x128_S128x128_S4098x128_1_0_0_1_n_n none a (shapeCast S128x128 b shapeCasts_S128x128_S128x128) (constant S4098x128 .f32 0x00000000#32)

/-- A product of the first layer's tap, at a row and a channel. -/
theorem mm1_read (a : Vec Ideal S4098x128 .f32) (b : Vec Ideal S128x128 .f32) (r : Fin 4098) (c : Fin 128) :
    mm1 a b (ValueIdx.ix2 r c) = ∑ e : Fin 128, a (ValueIdx.ix2 r e) * b (ValueIdx.ix2 e c) := by
  unfold mm1
  rw [shapeCast_self]
  exact mm_read dot_S4098x128_S128x128_S4098x128_1_0_0_1_n_n 128 rfl rfl a b _ (fun k => ValueIdx.ix2 r k) (fun k => ValueIdx.ix2 k c)
    (fun q a => match a with | ⟨0, _⟩ => rfl | ⟨1, _⟩ => rfl) (fun q a => match a with | ⟨0, _⟩ => rfl | ⟨1, _⟩ => rfl)

/-- The first layer as its eight half taps. -/
theorem h1Of_eq (w : Wts Ideal) (xw : Vec Ideal S1x256x8320 .f32) (r : Fin 4098) (c : Fin 128) :
    h1Of w xw (ValueIdx.ix2 r c) = Ideal.tanh (Ideal.ofBits .f32 0x00000000#32
      + mm1 (ev (k0_pay6 xw) 0 inb_S8320x128_S4098x128_0_0_s_2_1) (w1r w.W1 0 inb_S1024x128_S128x128_0_0) (ValueIdx.ix2 r c)
      + mm1 (ev (k0_pay7 xw) 0 inb_S8320x128_S4098x128_0_0_s_2_1) (w1r w.W1 128 inb_S1024x128_S128x128_128_0) (ValueIdx.ix2 r c)
      + mm1 (ev (k0_pay6 xw) 1 inb_S8320x128_S4098x128_1_0_s_2_1) (w1r w.W1 256 inb_S1024x128_S128x128_256_0) (ValueIdx.ix2 r c)
      + mm1 (ev (k0_pay7 xw) 1 inb_S8320x128_S4098x128_1_0_s_2_1) (w1r w.W1 384 inb_S1024x128_S128x128_384_0) (ValueIdx.ix2 r c)
      + mm1 (ev (k0_pay6 xw) 2 inb_S8320x128_S4098x128_2_0_s_2_1) (w1r w.W1 512 inb_S1024x128_S128x128_512_0) (ValueIdx.ix2 r c)
      + mm1 (ev (k0_pay7 xw) 2 inb_S8320x128_S4098x128_2_0_s_2_1) (w1r w.W1 640 inb_S1024x128_S128x128_640_0) (ValueIdx.ix2 r c)
      + mm1 (ev (k0_pay6 xw) 3 inb_S8320x128_S4098x128_3_0_s_2_1) (w1r w.W1 768 inb_S1024x128_S128x128_768_0) (ValueIdx.ix2 r c)
      + mm1 (ev (k0_pay7 xw) 3 inb_S8320x128_S4098x128_3_0_s_2_1) (w1r w.W1 896 inb_S1024x128_S128x128_896_0) (ValueIdx.ix2 r c)
      + w.B1 (ValueIdx.ix2 0 c)) := by
  unfold h1Of layer1 k0_pay9
  refine (congrFun (shapeCast_self _ _) _).trans (congrArg Ideal.tanh (congrArg₂ (· + ·) rfl ?_))
  refine (bc_row (by norm_num) _ broadcasts_S1x128_S4098x128 r c).trans ?_
  rw [shapeCast_self]

/-- The transposed window. -/
theorem pay5_read (xw : Vec Ideal S1x256x8320 .f32) (n : Fin 8320) (e : Fin 256) : k0_pay5 xw (ValueIdx.ix2 n e) = xw (ValueIdx.ix3 0 e n) := by
  unfold k0_pay5
  refine (transpose_apply [1, 0] _ transposes_S256x8320_p1_0_S8320x256 (ValueIdx.ix2 n e) (ValueIdx.ix2 e n) (fun b => match b with | ⟨0, _⟩ => rfl | ⟨1, _⟩ => rfl)).trans ?_
  exact shapeCast_apply xw shapeCasts_S1x256x8320_S256x8320 (ValueIdx.ix2 e n) (ValueIdx.ix3 0 e n) (by
    rw [Shape.rowMajor_val_two, Shape.rowMajor_val_three]
    show (0 * 256 + e.val) * 8320 + n.val = e.val * 8320 + n.val
    omega)

/-- The window's first 128 input channels, transposed, at a column and a channel. -/
theorem pay6_read (xw : Vec Ideal S1x256x8320 .f32) (n : Fin 8320) (e : Fin 128) :
    k0_pay6 xw (ValueIdx.ix2 n e) = xw (ValueIdx.ix3 0 (Fin.castAdd 128 e) n) := by
  unfold k0_pay6
  refine (congrFun (shapeCast_self _ _) _).trans ?_
  refine (congrArg (k0_pay5 xw) (funext fun a => Fin.ext ?_)).trans (pay5_read xw n (Fin.castAdd 128 e))
  match a with
  | ⟨0, _⟩ => exact Nat.zero_add _
  | ⟨1, _⟩ => exact Nat.zero_add _

/-- The window's last 128 input channels, transposed, at a column and a channel. -/
theorem pay7_read (xw : Vec Ideal S1x256x8320 .f32) (n : Fin 8320) (e : Fin 128) :
    k0_pay7 xw (ValueIdx.ix2 n e) = xw (ValueIdx.ix3 0 (Fin.natAdd 128 e) n) := by
  unfold k0_pay7
  refine (congrFun (shapeCast_self _ _) _).trans ?_
  refine (congrArg (k0_pay5 xw) (funext fun a => Fin.ext ?_)).trans (pay5_read xw n (Fin.natAdd 128 e))
  match a with
  | ⟨0, _⟩ => exact Nat.zero_add _
  | ⟨1, _⟩ => rfl

/-- Every second row of a half window from row `k`. -/
theorem ev_read (a : Vec Ideal S8320x128 .f32) (k : ℕ) (h) (r : Fin 4098) (e : Fin 128) (n : Fin 8320) (hn : n.val = 2 * r.val + k) :
    ev a k h (ValueIdx.ix2 r e) = a (ValueIdx.ix2 n e) := by
  refine congrArg a (funext fun b => Fin.ext ?_)
  match b with
  | ⟨0, _⟩ => rw [LoadRect.idx_apply]; show k + 2 * r.val = n.val; omega
  | ⟨1, _⟩ => rw [LoadRect.idx_apply]; show 0 + 1 * e.val = e.val; omega

/-- 128 rows of the first weight. -/
theorem w1r_read (W : Vec Ideal S1024x128 .f32) (k : ℕ) (h) (e c : Fin 128) (n : Fin 1024) (hn : n.val = k + e.val) :
    w1r W k h (ValueIdx.ix2 e c) = W (ValueIdx.ix2 n c) := by
  refine congrArg W (funext fun b => Fin.ext ?_)
  match b with
  | ⟨0, _⟩ => rw [LoadRect.idx_apply]; show k + 1 * e.val = n.val; omega
  | ⟨1, _⟩ => rw [LoadRect.idx_apply]; show 0 + 1 * c.val = c.val; omega

/-- 128 rows of the second weight. -/
theorem w2r_read (W : Vec Ideal S512x64 .f32) (k : ℕ) (h) (e : Fin 128) (c : Fin 64) (n : Fin 512) (hn : n.val = k + e.val) :
    w2r W k h (ValueIdx.ix2 e c) = W (ValueIdx.ix2 n c) := by
  refine congrArg W (funext fun b => Fin.ext ?_)
  match b with
  | ⟨0, _⟩ => rw [LoadRect.idx_apply]; show k + 1 * e.val = n.val; omega
  | ⟨1, _⟩ => rw [LoadRect.idx_apply]; show 0 + 1 * c.val = c.val; omega

/-- Every second row of the first layer from row `k`. -/
theorem hr_read (H : Vec Ideal S4104x128 .f32) (k : ℕ) (h) (r : Fin 512) (c : Fin 128) (n : Fin 4104) (hn : n.val = k + 2 * r.val) :
    hr H k h (ValueIdx.ix2 r c) = H (ValueIdx.ix2 n c) := by
  refine congrArg H (funext fun b => Fin.ext ?_)
  match b with
  | ⟨0, _⟩ => rw [LoadRect.idx_apply]; show k + 2 * r.val = n.val; omega
  | ⟨1, _⟩ => rw [LoadRect.idx_apply]; show 0 + 1 * c.val = c.val; omega

variable {w : Wts Ideal} {A : Args} {X : Vec Ideal S4x256x32768 .f32}

/-- One whole tap: its two half products add up to the sum over all 256 channels. -/
theorem tap_read (hw : Reads w A) (hX : ReadsX X A) (t : ℕ) (k : Fin 4) (r : Fin 4098) (c : Fin 128) (hr : 4096 * (t % 4) + r.val < 16383)
    (h h' h1 h2) :
    mm1 (ev (k0_pay6 (XV X t)) k.val h) (w1r w.W1 (256 * k.val) h1) (ValueIdx.ix2 r c) + mm1 (ev (k0_pay7 (XV X t)) k.val h') (w1r w.W1 (256 * k.val + 128) h2) (ValueIdx.ix2 r c)
      = ∑ e : Fin 256, A.x (t / 4) e (2 * (4096 * (t % 4) + r.val) + k.val) * A.w1 c e k := by
  have hk := k.isLt
  have hr' := r.isLt
  have hcol : xcol t (2 * r.val + k.val) = 2 * (4096 * (t % 4) + r.val) + k.val := by
    unfold xcol
    split
    · omega
    · have h3 : t % 4 < 4 := Nat.mod_lt _ (by norm_num)
      rw [Nat.min_eq_left (by omega)]
      omega
  have hx : ∀ e : Fin 256, XV X t (ValueIdx.ix3 0 e ⟨2 * r.val + k.val, by omega⟩) = A.x (t / 4) e (2 * (4096 * (t % 4) + r.val) + k.val) := fun e => by
    rw [← hcol]; exact hX (t / 4) e (xcol t (2 * r.val + k.val))
  rw [mm1_read, mm1_read]
  refine Eq.trans ?_ (Fin.sum_univ_add (a := 128) (b := 128) fun e : Fin 256 => A.x (t / 4) e (2 * (4096 * (t % 4) + r.val) + k.val) * A.w1 c e k).symm
  refine congrArg₂ (· + ·) (Finset.sum_congr rfl fun e _ => congrArg₂ (· * ·) ?_ ?_) (Finset.sum_congr rfl fun e _ => congrArg₂ (· * ·) ?_ ?_)
  · rw [ev_read _ _ _ r e ⟨2 * r.val + k.val, by omega⟩ rfl, pay6_read]
    exact hx _
  · have he := e.isLt
    rw [w1r_read _ _ _ e c ⟨256 * k.val + e.val, by omega⟩ rfl]
    exact hw.W1 k (Fin.castAdd 128 e) c _ rfl
  · rw [ev_read _ _ _ r e ⟨2 * r.val + k.val, by omega⟩ rfl, pay7_read]
    exact hx _
  · have he := e.isLt
    rw [w1r_read _ _ _ e c ⟨256 * k.val + 128 + e.val, by omega⟩ rfl]
    exact hw.W1 k (Fin.natAdd 128 e) c _ (by show 256 * k.val + 128 + e.val = 256 * k.val + (128 + e.val); omega)

/-- The first layer of step `t`'s window, at the rows the problem has. -/
theorem h1Of_read (hw : Reads w A) (hX : ReadsX X A) (t : ℕ) (r : Fin 4098) (c : Fin 128) (hr : 4096 * (t % 4) + r.val < 16383) :
    h1Of w (XV X t) (ValueIdx.ix2 r c) = lay1 A (t / 4) (4096 * (t % 4) + r.val) c := by
  rw [h1Of_eq]
  unfold lay1
  refine congrArg Ideal.tanh (congrArg₂ (· + ·) ?_ (hw.B1 c))
  rw [Fin.sum_univ_four, ← tap_read hw hX t 0 r c hr inb_S8320x128_S4098x128_0_0_s_2_1 inb_S8320x128_S4098x128_0_0_s_2_1 inb_S1024x128_S128x128_0_0 inb_S1024x128_S128x128_128_0,
    ← tap_read hw hX t 1 r c hr inb_S8320x128_S4098x128_1_0_s_2_1 inb_S8320x128_S4098x128_1_0_s_2_1 inb_S1024x128_S128x128_256_0 inb_S1024x128_S128x128_384_0,
    ← tap_read hw hX t 2 r c hr inb_S8320x128_S4098x128_2_0_s_2_1 inb_S8320x128_S4098x128_2_0_s_2_1 inb_S1024x128_S128x128_512_0 inb_S1024x128_S128x128_640_0,
    ← tap_read hw hX t 3 r c hr inb_S8320x128_S4098x128_3_0_s_2_1 inb_S8320x128_S4098x128_3_0_s_2_1 inb_S1024x128_S128x128_768_0 inb_S1024x128_S128x128_896_0,
    Ideal.ofBits_zero_f32, zero_add]
  simp only [← add_assoc]
  rfl

/-- What a chunk's strided read of the first layer holds. -/
theorem row1_read (hw : Reads w A) (hX : ReadsX X A) (t k : ℕ) (h) (r : Fin 512) (c : Fin 128) (hk : k + 2 * r.val < 4098) (hr' : 4096 * (t % 4) + (k + 2 * r.val) < 16383) :
    hr (padH (h1Of w (XV X t))) k h (ValueIdx.ix2 r c) = lay1 A (t / 4) (4096 * (t % 4) + (k + 2 * r.val)) c := by
  rw [hr_read _ _ _ r c ⟨k + 2 * r.val, by omega⟩ rfl, ← h1Of_read hw hX t ⟨k + 2 * r.val, hk⟩ c hr']
  unfold padH
  rw [dif_pos (show ((ValueIdx.ix2 (⟨k + 2 * r.val, by omega⟩ : Fin 4104) c : S4104x128.Idx) 0).val < 4098 from hk)]
  exact congrArg _ (funext fun a => match a with | ⟨0, _⟩ => rfl | ⟨1, _⟩ => rfl)

/-- A second-layer row from four first-layer rows. -/
theorem hC_lay (hw : Reads w A) (a b c e : Vec Ideal S512x128 .f32) (r : Fin 512) (bt n : ℕ)
    (ha : ∀ k, a (ValueIdx.ix2 r k) = lay1 A bt (2 * n + 0) k) (hb : ∀ k, b (ValueIdx.ix2 r k) = lay1 A bt (2 * n + 1) k)
    (hc : ∀ k, c (ValueIdx.ix2 r k) = lay1 A bt (2 * n + 2) k) (he : ∀ k, e (ValueIdx.ix2 r k) = lay1 A bt (2 * n + 3) k) (d : Fin 64) :
    hC w a b c e (ValueIdx.ix2 r d) = lay2 A bt n d := by
  rw [hC_read]
  unfold lay2
  rw [Fin.sum_univ_four]
  refine congrArg Ideal.tanh (congrArg₂ (· + ·) (congrArg₂ (· + ·) (congrArg₂ (· + ·) (congrArg₂ (· + ·) ?_ ?_) ?_) ?_) (hw.B2 d))
  · refine Finset.sum_congr rfl fun k _ => congrArg₂ (· * ·) (ha k) ?_
    have hk := k.isLt
    exact (w2r_read _ _ _ k d ⟨0 + k.val, by omega⟩ rfl).trans (hw.W2 0 k d _ rfl)
  · refine Finset.sum_congr rfl fun k _ => congrArg₂ (· * ·) (hb k) ?_
    have hk := k.isLt
    exact (w2r_read _ _ _ k d ⟨128 + k.val, by omega⟩ rfl).trans (hw.W2 1 k d _ rfl)
  · refine Finset.sum_congr rfl fun k _ => congrArg₂ (· * ·) (hc k) ?_
    have hk := k.isLt
    exact (w2r_read _ _ _ k d ⟨256 + k.val, by omega⟩ rfl).trans (hw.W2 2 k d _ rfl)
  · refine Finset.sum_congr rfl fun k _ => congrArg₂ (· * ·) (he k) ?_
    have hk := k.isLt
    exact (w2r_read _ _ _ k d ⟨384 + k.val, by omega⟩ rfl).trans (hw.W2 3 k d _ rfl)

/-- The distances of a row holding the second layer. -/
theorem dsC_lay (hw : Reads w A) (h : FVec Ideal S512x64 .f32) (r : Fin 512) (v : Fin 64 → EReal) (hv : ∀ d, h (ValueIdx.ix2 r d) = v d) (l : Fin 1024) :
    dsC w h (ValueIdx.ix2 r l) = dst A.cb v l := by
  rw [dsC_read, hw.CS]
  unfold dst
  simp only [hv, hw.CB2]
  refine congrArg (((∑ d, v d * v d) + ∑ d, A.cb l d) - ·) (Finset.sum_congr rfl fun d _ => ?_)
  rw [← mul_assoc, mul_comm]

/-- The one-hot row. -/
theorem oC_lay (hw : Reads w A) (h : FVec Ideal S512x64 .f32) (r : Fin 512) (v : Fin 64 → EReal) (hv : ∀ d, h (ValueIdx.ix2 r d) = v d) (l : Fin 1024) :
    oC w h (ValueIdx.ix2 r l) = sel (dst A.cb v) l := by
  refine (ohC_read _ r l).trans ?_
  exact congrArg (sel · l) (funext fun k => dsC_lay hw h r v hv k)

/-- The nearest codebook row. -/
theorem qtC_lay (hw : Reads w A) (h : FVec Ideal S512x64 .f32) (r : Fin 512) (v : Fin 64 → EReal) (hv : ∀ d, h (ValueIdx.ix2 r d) = v d) (d : Fin 64) :
    qtC w (oC w h) (ValueIdx.ix2 r d) = near A.cb v d := by
  rw [qtC_read]
  exact Finset.sum_congr rfl fun l _ => congrArg₂ (· * ·) (oC_lay hw h r v hv l) (hw.CB l d)

end Cert.KernelIdeal.Hand

end
-- ==== Proof.Totals.lean ====
/-
  Hand-written: a total accumulated over sixteen steps of 2048 columns is the total over the four batches' 8190 columns,
  the columns past 8190 contributing nothing.
-/
module

public import proofs.«01_k».proof.Proof.SpecArgs

@[expose] public section

noncomputable section

namespace Cert.Spec

/-- Four chunks of 512 columns are one step's 2048. -/
theorem sum_chunks (f : ℕ → EReal) (a : EReal) :
    a + (∑ r : Fin 512, f (0 + r.val)) + (∑ r : Fin 512, f (512 + r.val)) + (∑ r : Fin 512, f (1024 + r.val)) + (∑ r : Fin 512, f (1536 + r.val))
      = a + ∑ j ∈ Finset.range 2048, f j := by
  simp only [Fin.sum_univ_eq_sum_range fun r => f (0 + r), Fin.sum_univ_eq_sum_range fun r => f (512 + r),
    Fin.sum_univ_eq_sum_range fun r => f (1024 + r), Fin.sum_univ_eq_sum_range fun r => f (1536 + r)]
  rw [show 2048 = 512 + 512 + 512 + 512 from rfl, Finset.sum_range_add, Finset.sum_range_add, Finset.sum_range_add]
  simp only [Nat.zero_add, ← add_assoc, Nat.reduceAdd]

/-- Four steps of 2048 columns are one batch's 8192. -/
theorem sum_steps (f : ℕ → EReal) (a : EReal) :
    a + (∑ j ∈ Finset.range 2048, f (2048 * 0 + j)) + (∑ j ∈ Finset.range 2048, f (2048 * 1 + j)) + (∑ j ∈ Finset.range 2048, f (2048 * 2 + j))
      + (∑ j ∈ Finset.range 2048, f (2048 * 3 + j)) = a + ∑ j ∈ Finset.range 8192, f j := by
  rw [show 8192 = 2048 + 2048 + 2048 + 2048 from rfl, Finset.sum_range_add, Finset.sum_range_add, Finset.sum_range_add]
  simp only [Nat.mul_zero, Nat.zero_add, ← add_assoc, Nat.reduceAdd, Nat.reduceMul]

/-- One batch's total: the columns past 8190 contribute nothing. -/
theorem sum_valid (f : ℕ → EReal) (hf : ∀ n, 8190 ≤ n → f n = 0) : ∑ j ∈ Finset.range 8192, f j = ∑ n : Fin 8190, f n.val := by
  rw [Fin.sum_univ_eq_sum_range, Finset.sum_range_succ, Finset.sum_range_succ, hf 8190 le_rfl, hf 8191 (by norm_num), add_zero, add_zero]

/-- The total after the last step. -/
theorem total (g : ℕ → ℕ → EReal) (hg : ∀ b n, 8190 ≤ n → g b n = 0) (u : ℕ → EReal) (h0 : u 0 = 0)
    (hs : ∀ t, t < 16 → u (t + 1) = u t + ∑ j ∈ Finset.range 2048, g (t / 4) (2048 * (t % 4) + j)) :
    u 16 = ∑ b : Fin 4, ∑ n : Fin 8190, g b.val n.val := by
  have hb : ∀ b, b < 4 → u (4 * b + 4) = u (4 * b) + ∑ n : Fin 8190, g b n.val := fun b hb => by
    rw [← sum_valid (g b) (hg b), ← sum_steps (g b) (u (4 * b)), hs (4 * b + 3) (by omega), hs (4 * b + 2) (by omega), hs (4 * b + 1) (by omega), hs (4 * b) (by omega)]
    rw [show (4 * b) / 4 = b by omega, show (4 * b + 1) / 4 = b by omega, show (4 * b + 2) / 4 = b by omega, show (4 * b + 3) / 4 = b by omega,
      show (4 * b) % 4 = 0 by omega, show (4 * b + 1) % 4 = 1 by omega, show (4 * b + 2) % 4 = 2 by omega, show (4 * b + 3) % 4 = 3 by omega]
  have e0 := hb 0 (by norm_num)
  have e1 := hb 1 (by norm_num)
  have e2 := hb 2 (by norm_num)
  have e3 := hb 3 (by norm_num)
  simp only [Nat.mul_zero, Nat.mul_one, Nat.zero_add, Nat.reduceMul, Nat.reduceAdd] at e0 e1 e2 e3
  rw [e3, e2, e1, e0, h0, zero_add, Fin.sum_univ_four]
  rfl

end Cert.Spec

end
-- ==== Proof.StepRead.lean ====
/-
  Hand-written: what a step adds to the counts and to the squared error, and what it puts out, in the problem's terms.
-/
module

public import proofs.«01_k».proof.Proof.LayerRead
public import proofs.«01_k».proof.Proof.Totals

@[expose] public section

set_option maxRecDepth 16384

noncomputable section

namespace Cert.KernelIdeal.Hand

open Cert.KernelIdeal Cert.KernelIdeal.Gen
open Idealize.ShloMosaic Idealize.ShloMosaic.TcCoe
open Cert.Spec

variable {w : Wts Ideal} {A : Args} {X : Vec Ideal S4x256x32768 .f32}

/-- The rows of the second layer that the first chunk holds, where the problem has them. -/
theorem HC0_lay (hw : Reads w A) (hX : ReadsX X A) (t : ℕ) (r : Fin 512) (hn : 2048 * (t % 4) + (0 + r.val) < 8190) (d : Fin 64) :
    HC0 w (TT w X t) (ValueIdx.ix2 r d) = lay2 A (t / 4) (2048 * (t % 4) + (0 + r.val)) d := by
  have hr := r.isLt
  refine hC_lay hw _ _ _ _ r _ _ (fun k => ?_) (fun k => ?_) (fun k => ?_) (fun k => ?_) d <;>
  · refine (row1_read hw hX t _ _ r k (by omega) (by omega)).trans (congrArg (lay1 A (t / 4) · k) (by omega))
/-- The rows of the second layer that the second chunk holds. -/
theorem HC1_lay (hw : Reads w A) (hX : ReadsX X A) (t : ℕ) (r : Fin 512) (hn : 2048 * (t % 4) + (512 + r.val) < 8190) (d : Fin 64) :
    HC1 w (TT w X t) (ValueIdx.ix2 r d) = lay2 A (t / 4) (2048 * (t % 4) + (512 + r.val)) d := by
  have hr := r.isLt
  refine hC_lay hw _ _ _ _ r _ _ (fun k => ?_) (fun k => ?_) (fun k => ?_) (fun k => ?_) d <;>
  · refine (row1_read hw hX t _ _ r k (by omega) (by omega)).trans (congrArg (lay1 A (t / 4) · k) (by omega))
/-- The rows of the second layer that the third chunk holds. -/
theorem HC2_lay (hw : Reads w A) (hX : ReadsX X A) (t : ℕ) (r : Fin 512) (hn : 2048 * (t % 4) + (1024 + r.val) < 8190) (d : Fin 64) :
    HC2 w (TT w X t) (ValueIdx.ix2 r d) = lay2 A (t / 4) (2048 * (t % 4) + (1024 + r.val)) d := by
  have hr := r.isLt
  refine hC_lay hw _ _ _ _ r _ _ (fun k => ?_) (fun k => ?_) (fun k => ?_) (fun k => ?_) d <;>
  · refine (row1_read hw hX t _ _ r k (by omega) (by omega)).trans (congrArg (lay1 A (t / 4) · k) (by omega))
/-- The rows of the second layer that the fourth chunk holds. -/
theorem HC3_lay (hw : Reads w A) (hX : ReadsX X A) (t : ℕ) (r : Fin 512) (hn : 2048 * (t % 4) + (1536 + r.val) < 8190) (d : Fin 64) :
    HC3 w (TT w X t) (ValueIdx.ix2 r d) = lay2 A (t / 4) (2048 * (t % 4) + (1536 + r.val)) d := by
  have hr := r.isLt
  refine hC_lay hw _ _ _ _ r _ _ (fun k => ?_) (fun k => ?_) (fun k => ?_) (fun k => ?_) d <;>
  · refine (row1_read hw hX t _ _ r k (by omega) (by omega)).trans (congrArg (lay1 A (t / 4) · k) (by omega))

/-- The mask at a row: the row is one the problem has. -/
theorem mask_iff (t : ℕ) (q : BitVec 32) (o : ℕ) (ho : (Scalar.subi 2046#32 q).toInt = 2046 - (o : ℤ)) (ho' : (Scalar.subi 2048#32 q).toInt = 2048 - (o : ℤ))
    (hq : o ≤ 1536) (r : Fin 512) : ((BitVec.ofNat 32 r.val).slt (Scalar.subi (vld t) q) = true) ↔ 2048 * (t % 4) + (o + r.val) < 8190 := by
  have hr := r.isLt
  have hv : (BitVec.ofNat 32 r.val).toInt = (r.val : ℤ) := by rw [BitVec.toInt_ofNat', Int.bmod_def]; omega
  have h4 : t % 4 < 4 := Nat.mod_lt _ (by norm_num)
  unfold vld BitVec.slt
  rw [decide_eq_true_iff, hv]
  split
  · rw [ho]; omega
  · rw [ho']; omega

/-- What a row adds to codebook row `l`'s count. -/
def cg (A : Args) (l : Fin 1024) (b n : ℕ) : EReal := if n < 8190 then sel (dst A.cb (lay2 A b n)) l else 0
/-- What a row adds to the squared error. -/
def eg (A : Args) (b n : ℕ) : EReal := if n < 8190 then rowErr A b n else 0

/-- One chunk's counts, given its rows. -/
theorem ct_lay (hw : Reads w A) (t o : ℕ) (q : BitVec 32) (ho : (Scalar.subi 2046#32 q).toInt = 2046 - (o : ℤ)) (ho' : (Scalar.subi 2048#32 q).toInt = 2048 - (o : ℤ))
    (hq : o ≤ 1536) (h : FVec Ideal S512x64 .f32)
    (hl : ∀ (r : Fin 512), 2048 * (t % 4) + (o + r.val) < 8190 → ∀ d, h (ValueIdx.ix2 r d) = lay2 A (t / 4) (2048 * (t % 4) + (o + r.val)) d)
    (C : Vec Ideal S1x1024 .f32) (l : Fin 1024) :
    ctC (Scalar.subi (vld t) q) (oC w h) C (ValueIdx.ix2 0 l) = C (ValueIdx.ix2 0 l) + ∑ r : Fin 512, cg A l (t / 4) (2048 * (t % 4) + (o + r.val)) := by
  rw [ctC_read]
  refine congrArg (C (ValueIdx.ix2 0 l) + ·) (Finset.sum_congr rfl fun r _ => ?_)
  unfold cg
  by_cases hn : 2048 * (t % 4) + (o + r.val) < 8190
  · rw [if_pos hn, if_pos ((mask_iff t q o ho ho' hq r).2 hn)]
    exact oC_lay hw h r _ (hl r hn) l
  · rw [if_neg hn, if_neg fun e => hn ((mask_iff t q o ho ho' hq r).1 e)]

/-- One chunk's squared error, given its rows. -/
theorem ms_lay (hw : Reads w A) (t o : ℕ) (q : BitVec 32) (ho : (Scalar.subi 2046#32 q).toInt = 2046 - (o : ℤ)) (ho' : (Scalar.subi 2048#32 q).toInt = 2048 - (o : ℤ))
    (hq : o ≤ 1536) (h : FVec Ideal S512x64 .f32)
    (hl : ∀ (r : Fin 512), 2048 * (t % 4) + (o + r.val) < 8190 → ∀ d, h (ValueIdx.ix2 r d) = lay2 A (t / 4) (2048 * (t % 4) + (o + r.val)) d)
    (m : Elt Ideal .f32) :
    msC (Scalar.subi (vld t) q) h (qtC w (oC w h)) m = m + ∑ r : Fin 512, eg A (t / 4) (2048 * (t % 4) + (o + r.val)) := by
  rw [msC_read]
  refine congrArg (m + ·) (Finset.sum_congr rfl fun r _ => ?_)
  unfold eg
  by_cases hn : 2048 * (t % 4) + (o + r.val) < 8190
  · rw [if_pos hn]
    unfold rowErr
    refine Finset.sum_congr rfl fun d _ => ?_
    rw [if_pos ((mask_iff t q o ho ho' hq r).2 hn), qtC_lay hw h r _ (hl r hn) d, hl r hn d]
  · rw [if_neg hn]
    refine Finset.sum_eq_zero fun d _ => ?_
    rw [if_neg fun e => hn ((mask_iff t q o ho ho' hq r).1 e)]

/-- One chunk's output rows, given its rows. -/
theorem qo_lay (hw : Reads w A) (b n : ℕ) (h : FVec Ideal S512x64 .f32) (ch : Fin 64) (r : Fin 512)
    (hl : ∀ d, h (ValueIdx.ix2 r d) = lay2 A b n d) : qAt (qoC h (qtC w (oC w h))) ch.val r.val = quant A b n ch := by
  unfold qAt
  have hr := r.isLt
  have hc := ch.isLt
  rw [qoC_read h _ _ r ch (Nat.mod_eq_of_lt hr).symm (Nat.mod_eq_of_lt hc).symm, qtC_lay hw h r _ hl ch, hl ch]
  rfl

/-- One step's counts. -/
theorem CNT_step (hw : Reads w A) (hX : ReadsX X A) (t : ℕ) (l : Fin 1024) : CNT w X (t + 1) (ValueIdx.ix2 0 l)
    = CNT w X t (ValueIdx.ix2 0 l) + ∑ j ∈ Finset.range 2048, cg A l (t / 4) (2048 * (t % 4) + j) := by
  rw [← sum_chunks fun j => cg A l (t / 4) (2048 * (t % 4) + j)]
  show stepCt w (TT w X t) (vld t) (CNT w X t) (ValueIdx.ix2 0 l) = _
  unfold stepCt
  rw [ct3_eq, ct_lay hw t 1536 1536#32 (by decide) (by decide) (by norm_num) _ (fun r hn d => HC3_lay hw hX t r hn d),
    ct2_eq, ct_lay hw t 1024 1024#32 (by decide) (by decide) (by norm_num) _ (fun r hn d => HC2_lay hw hX t r hn d),
    ct1_eq, ct_lay hw t 512 512#32 (by decide) (by decide) (by norm_num) _ (fun r hn d => HC1_lay hw hX t r hn d),
    ct0_eq, ct_lay hw t 0 0#32 (by decide) (by decide) (by norm_num) _ (fun r hn d => HC0_lay hw hX t r hn d)]

/-- One step's squared error. -/
theorem MS_step (hw : Reads w A) (hX : ReadsX X A) (t : ℕ) :
    MS w X (t + 1) = MS w X t + ∑ j ∈ Finset.range 2048, eg A (t / 4) (2048 * (t % 4) + j) := by
  refine Eq.trans ?_ (sum_chunks (fun j => eg A (t / 4) (2048 * (t % 4) + j)) (MS w X t))
  show stepMs w (TT w X t) (vld t) (MS w X t) = _
  unfold stepMs
  rw [ms3_eq, ms_lay hw t 1536 1536#32 (by decide) (by decide) (by norm_num) _ (fun r hn d => HC3_lay hw hX t r hn d),
    ms2_eq, ms_lay hw t 1024 1024#32 (by decide) (by decide) (by norm_num) _ (fun r hn d => HC2_lay hw hX t r hn d),
    ms1_eq, ms_lay hw t 512 512#32 (by decide) (by decide) (by norm_num) _ (fun r hn d => HC1_lay hw hX t r hn d),
    ms0_eq, ms_lay hw t 0 0#32 (by decide) (by decide) (by norm_num) _ (fun r hn d => HC0_lay hw hX t r hn d)]

/-- The counts after the last step. -/
theorem CNT_total (hw : Reads w A) (hX : ReadsX X A) (l : Fin 1024) : CNT w X 16 (ValueIdx.ix2 0 l) = cnt A l := by
  refine (total (cg A l) (fun b n hn => if_neg (by omega)) (fun t => CNT w X t (ValueIdx.ix2 0 l)) ?_ (fun t _ => CNT_step hw hX t l)).trans ?_
  · show k0_pay4 (F := Ideal) (ValueIdx.ix2 0 l) = 0
    unfold k0_pay4
    exact (congrFun (shapeCast_self _ _) _).trans Ideal.ofBits_zero_f32
  · unfold cnt
    exact Finset.sum_congr rfl fun b _ => Finset.sum_congr rfl fun n _ => if_pos n.isLt

/-- The squared error after the last step. -/
theorem MS_total (hw : Reads w A) (hX : ReadsX X A) : MS w X 16 = err A := by
  refine (total (eg A) (fun b n hn => if_neg (by omega)) (fun t => MS w X t) Ideal.ofBits_zero_f32 (fun t _ => MS_step hw hX t)).trans ?_
  unfold err
  exact Finset.sum_congr rfl fun b _ => Finset.sum_congr rfl fun n _ => if_pos n.isLt

/-- The output block at a column the problem has. -/
theorem GOUT_read (hw : Reads w A) (hX : ReadsX X A) (i : S4x64x8192.Idx) (hi : (i 2).val < 8190) : GOUT w X i = quant A (i 0).val (i 2).val (i 1) := by
  have h0 : (i 0).val < 4 := (i 0).isLt
  unfold GOUT
  generalize (i 2).val = n at hi ⊢
  generalize (i 0).val = b at h0 ⊢
  generalize hch : i 1 = ch
  replace hch : Fin 64 := ch
  have hd : (4 * b + n / 2048) / 4 = b := by omega
  have hm : (4 * b + n / 2048) % 4 = n / 2048 := by omega
  unfold QV
  split
  · next h =>
    rw [qo0_eq]
    refine qo_lay hw b n _ ch ⟨n % 2048, h⟩ fun d => ?_
    refine (HC0_lay hw hX _ ⟨n % 2048, h⟩ (by rw [hm]; show 2048 * (n / 2048) + (0 + n % 2048) < 8190; omega) d).trans ?_
    rw [hd, hm]
    exact congrArg (lay2 A b · d) (by show 2048 * (n / 2048) + (0 + n % 2048) = n; omega)
  split
  · next h0 h =>
    rw [qo1_eq]
    refine qo_lay hw b n _ ch ⟨n % 2048 - 512, by omega⟩ fun d => ?_
    refine (HC1_lay hw hX _ ⟨n % 2048 - 512, by omega⟩ (by rw [hm]; show 2048 * (n / 2048) + (512 + (n % 2048 - 512)) < 8190; omega) d).trans ?_
    rw [hd, hm]
    exact congrArg (lay2 A b · d) (by show 2048 * (n / 2048) + (512 + (n % 2048 - 512)) = n; omega)
  split
  · next h0 h1 h =>
    rw [qo2_eq]
    refine qo_lay hw b n _ ch ⟨n % 2048 - 1024, by omega⟩ fun d => ?_
    refine (HC2_lay hw hX _ ⟨n % 2048 - 1024, by omega⟩ (by rw [hm]; show 2048 * (n / 2048) + (1024 + (n % 2048 - 1024)) < 8190; omega) d).trans ?_
    rw [hd, hm]
    exact congrArg (lay2 A b · d) (by show 2048 * (n / 2048) + (1024 + (n % 2048 - 1024)) = n; omega)
  · next h0 h1 h2 =>
    rw [qo3_eq]
    refine qo_lay hw b n _ ch ⟨n % 2048 - 1536, by omega⟩ fun d => ?_
    refine (HC3_lay hw hX _ ⟨n % 2048 - 1536, by omega⟩ (by rw [hm]; show 2048 * (n / 2048) + (1536 + (n % 2048 - 1536)) < 8190; omega) d).trans ?_
    rw [hd, hm]
    exact congrArg (lay2 A b · d) (by show 2048 * (n / 2048) + (1536 + (n % 2048 - 1536)) = n; omega)

/-- The loss cell. -/
theorem pay2_read (e : EReal) : k0_pay2 (F := Ideal) e
    = Ideal.div e (Ideal.ofBits .f32 0x49FFF000#32) + Ideal.ofBits .f32 0x3E800000#32 * Ideal.div e (Ideal.ofBits .f32 0x49FFF000#32) := rfl

/-- The perplexity cell. -/
theorem pay3_read (C : Vec Ideal S1x1024 .f32) : k0_pay3 (F := Ideal) C
    = Ideal.exp (-(∑ l : Fin 1024, Ideal.div (C (ValueIdx.ix2 0 l)) (Ideal.ofBits .f32 0x46FFF000#32)
        * Ideal.log (Ideal.div (C (ValueIdx.ix2 0 l)) (Ideal.ofBits .f32 0x46FFF000#32) + Ideal.ofBits .f32 0x2EDBE6FF#32))) := by
  unfold k0_pay3
  refine congrArg Ideal.exp ?_
  refine (congrArg (Ideal.ofBits .f32 0x00000000#32 - ·) (?_ : _ = ∑ l : Fin 1024, Ideal.div (C (ValueIdx.ix2 0 l)) (Ideal.ofBits .f32 0x46FFF000#32)
        * Ideal.log (Ideal.div (C (ValueIdx.ix2 0 l)) (Ideal.ofBits .f32 0x46FFF000#32) + Ideal.ofBits .f32 0x2EDBE6FF#32))).trans ?_
  · unfold extractAt
    refine (shapeCast_apply _ shapeCasts_S1_S1x1x1 _ (ValueIdx.ix1 0) (by rw [Shape.rowMajor_val_one, Shape.rowMajor_val_three]; rfl)).trans ?_
    refine (Ideal.multiReduction_add_total _ _ _ (by decide) _ _ _).trans ((sum_shapeCast _ _).trans ((ValueIdx.sum_idx2 _).trans ?_))
    exact (Fin.sum_univ_one _)
  · rw [Ideal.ofBits_zero_f32, sub_eq_add_neg, zero_add]

/-- The loss cell after the last step. -/
theorem loss_read (hw : Reads w A) (hX : ReadsX X A) : k0_pay2 (MS w X 16) = loss A := by
  rw [MS_total hw hX, pay2_read]
  rfl

/-- The perplexity cell after the last step. -/
theorem perp_read (hw : Reads w A) (hX : ReadsX X A) : k0_pay3 (CNT w X 16) = perp A := by
  rw [pay3_read]
  simp only [CNT_total hw hX]
  rfl

end Cert.KernelIdeal.Hand

end
-- ==== Proof.Prep.lean ====
/-
  Hand-written: the arrays the host lines before the region leave, read at an index: the transposed and reshaped
  weights, the doubled codebook and the codebook rows' sums.
-/
module

public import proofs.«01_k».proof.Proof.StepRead
public import proofs.«01_k».proof.Proof.IRun

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo
open Cert.Spec

variable (m : (ℓ : Loc nD τ sig) → Buf (Elt Ideal) ℓ)

/-- The arguments as functions of their coordinates. -/
def AK (c : Dev nD) : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The first weight, transposed and flattened. -/
theorem V_w1 (c : Dev nD) : V m c main_call0_v1 = (shapeCast S1024x128 (transpose S4x256x128 [2, 1, 0] (m ((c.tc : Thread nD τ).loc main_arg1) : Vec Ideal S128x256x4 .f32)
    transposes_S128x256x4_S4x256x128_2_1_0) shapeCasts_S4x256x128_S1024x128 : Vec Ideal S1024x128 .f32) := by
  unfold V V0
  simp only [List.flatten_cons, List.flatten_nil, List.append_nil, hostOps0]
  after_results_simp
  try rfl
/-- The second weight, transposed and flattened. -/
theorem V_w2 (c : Dev nD) : V m c main_call0_v3 = (shapeCast S512x64 (transpose S4x128x64 [2, 1, 0] (m ((c.tc : Thread nD τ).loc main_arg3) : Vec Ideal S64x128x4 .f32)
    transposes_S64x128x4_S4x128x64_2_1_0) shapeCasts_S4x128x64_S512x64 : Vec Ideal S512x64 .f32) := by
  unfold V V0
  simp only [List.flatten_cons, List.flatten_nil, List.append_nil, hostOps0]
  after_results_simp
  try rfl
/-- The first bias, a row. -/
theorem V_b1 (c : Dev nD) : V m c main_call0_v4 = (shapeCast S1x128 (m ((c.tc : Thread nD τ).loc main_arg2) : Vec Ideal S128 .f32) shapeCasts_S128_S1x128 : Vec Ideal S1x128 .f32) := by
  unfold V V0
  simp only [List.flatten_cons, List.flatten_nil, List.append_nil, hostOps0]
  after_results_simp
  try rfl
/-- The second bias, a row. -/
theorem V_b2 (c : Dev nD) : V m c main_call0_v5 = (shapeCast S1x64 (m ((c.tc : Thread nD τ).loc main_arg4) : Vec Ideal S64 .f32) shapeCasts_S64_S1x64 : Vec Ideal S1x64 .f32) := by
  unfold V V0
  simp only [List.flatten_cons, List.flatten_nil, List.append_nil, hostOps0]
  after_results_simp
  try rfl
/-- The codebook doubled. -/
theorem V_cb2 (c : Dev nD) : V m c main_call0_v7 = (mulf (F := Ideal) (φ := .f32) (m ((c.tc : Thread nD τ).loc main_arg5) : Vec Ideal S1024x64 .f32)
    (broadcastInDim S1024x64 ![] bcast_S_S1024x64 (constant S_ .f32 0x40000000#32)) : Vec Ideal S1024x64 .f32) := by
  unfold V V0
  simp only [List.flatten_cons, List.flatten_nil, List.append_nil, hostOps0]
  after_results_simp
  try rfl
/-- The codebook rows' sums, a row. -/
theorem V_cs (c : Dev nD) : V m c main_call0_v9 = (shapeCast S1x1024 (Host.reduceAdd (F := Ideal) (φ := .f32) (m ((c.tc : Thread nD τ).loc main_arg5) : Vec Ideal S1024x64 .f32)
    (constant S_ .f32 0x00000000#32) reducesTo_S1024x64_S1024_d1 h_S_) shapeCasts_S1024_S1x1024 : Vec Ideal S1x1024 .f32) := by
  unfold V V0
  simp only [List.flatten_cons, List.flatten_nil, List.append_nil, hostOps0]
  after_results_simp
  try rfl

/-- The weights a step reads are the arguments. -/
theorem wts_reads (c : Dev nD) : Reads (wts m c) (AK m c) where
  W1 k e c' n hn := by
    show V m c main_call0_v1 (ValueIdx.ix2 n c') = _
    rw [V_w1]
    refine (shapeCast_apply _ shapeCasts_S4x256x128_S1024x128 (ValueIdx.ix2 n c') (ValueIdx.ix3 k e c') ?_).trans ?_
    · rw [Shape.rowMajor_val_two, Shape.rowMajor_val_three]
      show (k.val * 256 + e.val) * 128 + c'.val = n.val * 128 + c'.val
      omega
    · exact transpose_apply [2, 1, 0] _ transposes_S128x256x4_S4x256x128_2_1_0 (ValueIdx.ix3 k e c') (ValueIdx.ix3 c' e k)
        (fun b => match b with | ⟨0, _⟩ => rfl | ⟨1, _⟩ => rfl | ⟨2, _⟩ => rfl)
  B1 c' := by
    show V m c main_call0_v4 (ValueIdx.ix2 0 c') = _
    rw [V_b1]
    exact row_read _ shapeCasts_S128_S1x128 c'
  W2 k e c' n hn := by
    show V m c main_call0_v3 (ValueIdx.ix2 n c') = _
    rw [V_w2]
    refine (shapeCast_apply _ shapeCasts_S4x128x64_S512x64 (ValueIdx.ix2 n c') (ValueIdx.ix3 k e c') ?_).trans ?_
    · rw [Shape.rowMajor_val_two, Shape.rowMajor_val_three]
      show (k.val * 128 + e.val) * 64 + c'.val = n.val * 64 + c'.val
      omega
    · exact transpose_apply [2, 1, 0] _ transposes_S64x128x4_S4x128x64_2_1_0 (ValueIdx.ix3 k e c') (ValueIdx.ix3 c' e k)
        (fun b => match b with | ⟨0, _⟩ => rfl | ⟨1, _⟩ => rfl | ⟨2, _⟩ => rfl)
  B2 c' := by
    show V m c main_call0_v5 (ValueIdx.ix2 0 c') = _
    rw [V_b2]
    exact row_read _ shapeCasts_S64_S1x64 c'
  CB l d := by
    show V m c main_arg5 (ValueIdx.ix2 l d) = _
    rw [V_main_arg5]
    rfl
  CB2 l d := by
    show V m c main_call0_v7 (ValueIdx.ix2 l d) = _
    rw [V_cb2]
    exact congrArg (fun z : EReal => (AK m c).cb l d * z) ofBits_two
  CS l := by
    show V m c main_call0_v9 (ValueIdx.ix2 0 l) = _
    rw [V_cs]
    refine (row_read _ shapeCasts_S1024_S1x1024 l).trans ?_
    refine (Ideal.hostReduceAdd_single reducesTo_S1024x64_S1024_d1 (by decide : S1024x64.Reduces [1] S1024) _ _ _).trans ?_
    refine (congrArg (· + _) Ideal.ofBits_zero_f32).trans ((zero_add _).trans (Finset.sum_congr rfl fun d _ => ?_))
    exact congrArg (m ((c.tc : Thread nD τ).loc main_arg5) : Vec Ideal S1024x64 .f32) (funext fun a => match a with | ⟨0, _⟩ => rfl | ⟨1, _⟩ => rfl)

/-- The input a step reads is the argument. -/
theorem xin_reads (c : Dev nD) : ReadsX (xin m c) (AK m c) := fun b e j => by
  unfold xin
  rw [V_main_arg0]
  refine congrArg (m ((c.tc : Thread nD τ).loc main_arg0) : Vec Ideal S4x256x32768 .f32) (funext fun a => Fin.ext ?_)
  have he := e.isLt
  match a with
  | ⟨0, _⟩ => rfl
  | ⟨1, _⟩ => exact Nat.mod_eq_of_lt he
  | ⟨2, _⟩ => rfl

end Cert.KernelIdeal.Hand

end
-- ==== Proof.Results.lean ====
/-
  Hand-written: what the three results end as.
-/
module

public import proofs.«01_k».proof.Proof.IRun
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo

variable {F : FTy → Type} [FloatOps F]
variable (m : (ℓ : Loc nD τ sig) → Buf (Elt F) ℓ)

/-- The loss array after the region: the loss cell of the last step. -/
theorem arr_7 (c : Dev nD) : (dats m 0 c).arrAt 7 cfg0.N = (fun _ => k0_pay2 (MS (wts m c) (xin m c) 16) : Vec F S1 .f32) :=
  Pipeline.Dat.arrAt_eq_of_after_last _ 7 (⟨15, by decide⟩ : Fin cfg0.N) (by decide +kernel) _ (fun j => by rw [after_7]; rfl)
/-- The perplexity array after the region: the perplexity cell of the last step. -/
theorem arr_8 (c : Dev nD) : (dats m 0 c).arrAt 8 cfg0.N = (fun _ => k0_pay3 (CNT (wts m c) (xin m c) 16) : Vec F S1 .f32) :=
  Pipeline.Dat.arrAt_eq_of_after_last _ 8 (⟨15, by decide⟩ : Fin cfg0.N) (by decide +kernel) _ (fun j => by rw [after_8]; rfl)

/-- The buffers the last host lines start from. -/
abbrev VE (c : Dev nD) : Valuation τ sig (Elt F) :=
  Pipeline.withArrays spec0 c (Pipeline.withR (V0 m c) R0 c (G m c)) fun w => (dats m 0 c).arrAt w cfg0.N

/-- The loss array as the last host lines find it. -/
theorem VE_1 (c : Dev nD) : VE m c (Proc.devRef .tc main_call0_v10_1) = (fun _ => k0_pay2 (MS (wts m c) (xin m c) 16) : Vec F S1 .f32) :=
  (Pipeline.withArrays_arr spec0 (by decide) c _ _ 7).trans (arr_7 m c)
/-- The perplexity array as the last host lines find it. -/
theorem VE_2 (c : Dev nD) : VE m c (Proc.devRef .tc main_call0_v10_2) = (fun _ => k0_pay3 (CNT (wts m c) (xin m c) 16) : Vec F S1 .f32) :=
  (Pipeline.withArrays_arr spec0 (by decide) c _ _ 8).trans (arr_8 m c)
/-- The output array as the last host lines find it. -/
theorem VE_0 (c : Dev nD) : VE m c (Proc.devRef .tc main_call0_v10_0) = (GOUT (wts m c) (xin m c) : Vec F S4x64x8192 .f32) :=
  (Pipeline.withArrays_of_ne spec0 c _ _ main_call0_v10_0 (by decide)).trans
    ((Pipeline.withR_of_mem _ R0 c (G m c) main_call0_v10_0 (by decide)).trans (G_out m c))

/-- The loss. -/
theorem end_0 (c : Dev nD) : endAt m c main_v0_0 = (fun _ => k0_pay2 (MS (wts m c) (xin m c) 16) : Vec F S_ .f32) := by
  have h : endAt m c main_v0_0 = (shapeCast S_ (VE m c (Proc.devRef .tc main_call0_v10_1) : Vec F S1 .f32) shapeCasts_S1_S_ : Vec F S_ .f32) := by
    unfold endAt
    simp only [List.flatten_cons, List.flatten_nil, List.append_nil, hostOps1]
    after_results_simp
    try rfl
  rw [h, VE_1]
  rfl
/-- The perplexity. -/
theorem end_2 (c : Dev nD) : endAt m c main_v0_2 = (fun _ => k0_pay3 (CNT (wts m c) (xin m c) 16) : Vec F S_ .f32) := by
  have h : endAt m c main_v0_2 = (shapeCast S_ (VE m c (Proc.devRef .tc main_call0_v10_2) : Vec F S1 .f32) shapeCasts_S1_S_ : Vec F S_ .f32) := by
    unfold endAt
    simp only [List.flatten_cons, List.flatten_nil, List.append_nil, hostOps1]
    after_results_simp
    try rfl
  rw [h, VE_2]
  rfl
/-- The quantized output: the block's first 8190 columns. -/
theorem end_1 (c : Dev nD) : endAt m c main_v0_1
    = (extractStridedSlice S4x64x8190 ![0, 0, 0] (GOUT (wts m c) (xin m c) : Vec F S4x64x8192 .f32) slices_S4x64x8192_S4x64x8190_0_0_0 : Vec F S4x64x8190 .f32) := by
  have h : endAt m c main_v0_1 = (extractStridedSlice S4x64x8190 ![0, 0, 0] (VE m c (Proc.devRef .tc main_call0_v10_0) : Vec F S4x64x8192 .f32)
      slices_S4x64x8192_S4x64x8190_0_0_0 : Vec F S4x64x8190 .f32) := by
    unfold endAt
    simp only [List.flatten_cons, List.flatten_nil, List.append_nil, hostOps1]
    after_results_simp
    try rfl
  rw [h, VE_0]

end Cert.KernelIdeal.Hand

end
-- ==== Proof.RefRead.lean ====
/- The reference one operation at a time: `val_<buffer>` is the value that the operation writes, as a function of
   the arguments that it depends on, and `val_<buffer>_apply` reads it at an index. -/
module

public import proofs.«01_k».proof.Proof.RefRun
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal.Value (argVal argIdx)
open Cert.ReferenceIdeal Cert.ReferenceIdeal.Gen Idealize.ShloMosaic Idealize.ShloMosaic.TcCoe Idealize.SL.Sem Idealize.ShloMosaic.StableHlo

variable {F : FTy → Type} [FloatOps F]

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %0 = stablehlo.broadcast_in_dim %cst, dims = [] : (tensor<f32>) -> tensor<4x16383x128xf32>
def val_main_v0 : (⟨S4x16383x128, .f32⟩ : BufTy).Contents (Elt F) :=
  broadcastInDim S4x16383x128 ![] bcast_S_S4x16383x128 (val_main_cst (F := F))
abbrev idx_main_v0 (i : S4x16383x128.Idx) : S_.Idx := fun a => a.elim0
theorem val_main_v0_apply (i : S4x16383x128.Idx) :
    val_main_v0 (F := F) i = val_main_cst (F := F) (idx_main_v0 i) := by
  unfold val_main_v0
  generalize val_main_cst (F := F) = y
  exact broadcastInDim_apply _ bcast_S_S4x16383x128 y i (idx_main_v0 i) (fun a => a.elim0)

-- %1 = stablehlo.slice %arg0 [0:4, 0:256, 0:32765:2] : (tensor<4x256x32768xf32>) -> tensor<4x256x16383xf32>
def val_main_v1 (x0 : (⟨S4x256x32768, .f32⟩ : BufTy).Contents (Elt F)) : (⟨S4x256x16383, .f32⟩ : BufTy).Contents (Elt F) :=
  Host.slice S4x256x16383 ![0, 0, 0] ![1, 1, 2] (x0) slicesBy_S4x256x32768_S4x256x16383_0s1_0s1_0s2

-- %2 = stablehlo.slice %arg1 [0:128, 0:256, 0:1] : (tensor<128x256x4xf32>) -> tensor<128x256x1xf32>
def val_main_v2 (x1 : (⟨S128x256x4, .f32⟩ : BufTy).Contents (Elt F)) : (⟨S128x256x1, .f32⟩ : BufTy).Contents (Elt F) :=
  extractStridedSlice S128x256x1 ![0, 0, 0] (x1) slices_S128x256x4_S128x256x1_0_0_0
abbrev idx_main_v2 (i : S128x256x1.Idx) : S128x256x4.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 4; omega⟩
theorem val_main_v2_apply (x1 : (⟨S128x256x4, .f32⟩ : BufTy).Contents (Elt F)) (i : S128x256x1.Idx) :
    val_main_v2 (F := F) x1 i = x1 (idx_main_v2 i) := by
  unfold val_main_v2
  exact extractStridedSlice_apply ![0, 0, 0] x1 slices_S128x256x4_S128x256x1_0_0_0 i (idx_main_v2 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %3 = stablehlo.reshape %2 : (tensor<128x256x1xf32>) -> tensor<128x256xf32>
def val_main_v3 (x1 : (⟨S128x256x4, .f32⟩ : BufTy).Contents (Elt F)) : (⟨S128x256, .f32⟩ : BufTy).Contents (Elt F) :=
  shapeCast _ (val_main_v2 (F := F) x1) shapeCasts_S128x256x1_S128x256
abbrev idx_main_v3 (i : S128x256.Idx) : S128x256x1.Idx := fun a => match a with
  | ⟨0, _⟩ => ⟨((i 0).val * 256 + (i 1).val) / 256, by have h0 : (i 0).val < 128 := (i 0).isLt; have h1 : (i 1).val < 256 := (i 1).isLt; show ((i 0).val * 256 + (i 1).val) / 256 < 128; omega⟩
  | ⟨1, _⟩ => ⟨((i 0).val * 256 + (i 1).val) / 1 % 256, by have h0 : (i 0).val < 128 := (i 0).isLt; have h1 : (i 1).val < 256 := (i 1).isLt; show ((i 0).val * 256 + (i 1).val) / 1 % 256 < 256; omega⟩
  | ⟨2, _⟩ => ⟨0, Nat.one_pos⟩
theorem val_main_v3_apply (x1 : (⟨S128x256x4, .f32⟩ : BufTy).Contents (Elt F)) (i : S128x256.Idx) :
    val_main_v3 (F := F) x1 i = val_main_v2 (F := F) x1 (idx_main_v3 i) := by
  unfold val_main_v3
  generalize val_main_v2 (F := F) x1 = y
  exact shapeCast_apply y shapeCasts_S128x256x1_S128x256 i (idx_main_v3 i)
    (by rewrite [Shape.rowMajor_val_three, Shape.rowMajor_val_two]; have h0 : (i 0).val < 128 := (i 0).isLt; have h1 : (i 1).val < 256 := (i 1).isLt; show (((i 0).val * 256 + (i 1).val) / 256 * 256 + ((i 0).val * 256 + (i 1).val) / 1 % 256) * 1 + 0 = (i 0).val * 256 + (i 1).val; omega)

-- %4 = stablehlo.dot_general %1, %3, contracting_dims = [1] x [1], precision = [DEFAULT, DEFAULT] : (tensor<4x256x16383xf32>, tensor<128x256xf32>) -> tensor<4x16383x128xf32>
def val_main_v4 (x0 : (⟨S4x256x32768, .f32⟩ : BufTy).Contents (Elt F)) (x1 : (⟨S128x256x4, .f32⟩ : BufTy).Contents (Elt F)) : (⟨S4x16383x128, .f32⟩ : BufTy).Contents (Elt F) :=
  Host.dotGeneral dot_S4x256x16383_S128x256_S4x16383x128_1_1_02_0_n_n none (val_main_v1 (F := F) x0) (val_main_v3 (F := F) x1)
theorem lhs_main_v4_0 (i : S4x16383x128.Idx) (q : dot_S4x256x16383_S128x256_S4x16383x128_1_1_02_0_n_n.contr.Idx) :
    (dot_S4x256x16383_S128x256_S4x16383x128_1_1_02_0_n_n.lhsIdx i q 0).val = (i 0).val := by
  unfold DotDims.lhsIdx
  rw [dif_neg (show ¬(0 : Fin S4x256x16383.rank) ∈ dot_S4x256x16383_S128x256_S4x16383x128_1_1_02_0_n_n.lhsBatch by decide), dif_pos (show (0 : Fin S4x256x16383.rank) ∈ dot_S4x256x16383_S128x256_S4x16383x128_1_1_02_0_n_n.lhsNonContracting by decide)]
  rfl
theorem lhs_main_v4_1 (i : S4x16383x128.Idx) (q : dot_S4x256x16383_S128x256_S4x16383x128_1_1_02_0_n_n.contr.Idx) :
    (dot_S4x256x16383_S128x256_S4x16383x128_1_1_02_0_n_n.lhsIdx i q 1).val = (q ⟨0, by decide⟩).val :=
  dot_S4x256x16383_S128x256_S4x16383x128_1_1_02_0_n_n.lhsIdx_val_of_single rfl i q
theorem lhs_main_v4_2 (i : S4x16383x128.Idx) (q : dot_S4x256x16383_S128x256_S4x16383x128_1_1_02_0_n_n.contr.Idx) :
    (dot_S4x256x16383_S128x256_S4x16383x128_1_1_02_0_n_n.lhsIdx i q 2).val = (i 1).val := by
  unfold DotDims.lhsIdx
  rw [dif_neg (show ¬(2 : Fin S4x256x16383.rank) ∈ dot_S4x256x16383_S128x256_S4x16383x128_1_1_02_0_n_n.lhsBatch by decide), dif_pos (show (2 : Fin S4x256x16383.rank) ∈ dot_S4x256x16383_S128x256_S4x16383x128_1_1_02_0_n_n.lhsNonContracting by decide)]
  rfl
theorem rhs_main_v4_0 (i : S4x16383x128.Idx) (q : dot_S4x256x16383_S128x256_S4x16383x128_1_1_02_0_n_n.contr.Idx) :
    (dot_S4x256x16383_S128x256_S4x16383x128_1_1_02_0_n_n.rhsIdx i q 0).val = (i 2).val := by
  unfold DotDims.rhsIdx
  rw [dif_neg (show ¬(0 : Fin S128x256.rank) ∈ dot_S4x256x16383_S128x256_S4x16383x128_1_1_02_0_n_n.rhsBatch by decide), dif_pos (show (0 : Fin S128x256.rank) ∈ dot_S4x256x16383_S128x256_S4x16383x128_1_1_02_0_n_n.rhsNonContracting by decide)]
  rfl
theorem rhs_main_v4_1 (i : S4x16383x128.Idx) (q : dot_S4x256x16383_S128x256_S4x16383x128_1_1_02_0_n_n.contr.Idx) :
    (dot_S4x256x16383_S128x256_S4x16383x128_1_1_02_0_n_n.rhsIdx i q 1).val = (q ⟨0, by decide⟩).val :=
  dot_S4x256x16383_S128x256_S4x16383x128_1_1_02_0_n_n.rhsIdx_val_of_single rfl i q
abbrev lidx_main_v4 (i : S4x16383x128.Idx) (k : Fin 256) : S4x256x16383.Idx := fun a => match a with
  | ⟨0, _⟩ => ⟨(i 0).val, (i 0).isLt⟩
  | ⟨1, _⟩ => ⟨k.val, k.isLt⟩
  | ⟨2, _⟩ => ⟨(i 1).val, (i 1).isLt⟩
abbrev ridx_main_v4 (i : S4x16383x128.Idx) (k : Fin 256) : S128x256.Idx := fun a => match a with
  | ⟨0, _⟩ => ⟨(i 2).val, (i 2).isLt⟩
  | ⟨1, _⟩ => ⟨k.val, k.isLt⟩
/-- The product of a slice of the input with a tap of the first weight, at an index. Stated at `F := Ideal`, where the host's `dot_general` is this sum; at a bit-exact instance it is an opaque function of its operands. -/
theorem tapDot1_apply (y0 : FVec Ideal S4x256x16383 .f32) (y1 : FVec Ideal S128x256 .f32) (i : S4x16383x128.Idx) :
    (Host.dotGeneral dot_S4x256x16383_S128x256_S4x16383x128_1_1_02_0_n_n none y0 y1 : FVec Ideal S4x16383x128 .f32) i = ∑ k : Fin 256, y0 (lidx_main_v4 i k) * y1 (ridx_main_v4 i k) := by
  simp only [Host.dotGeneral]
  rw [Ideal.dotGeneral_apply, ← Equiv.sum_comp (ValueIdx.contrEquiv1 dot_S4x256x16383_S128x256_S4x16383x128_1_1_02_0_n_n 256 rfl rfl).symm]
  refine Finset.sum_congr rfl fun k _ => ?_
  have hk := ValueIdx.contrEquiv1_symm_val dot_S4x256x16383_S128x256_S4x16383x128_1_1_02_0_n_n 256 rfl rfl k
  have el : dot_S4x256x16383_S128x256_S4x16383x128_1_1_02_0_n_n.lhsIdx i ((ValueIdx.contrEquiv1 dot_S4x256x16383_S128x256_S4x16383x128_1_1_02_0_n_n 256 rfl rfl).symm k) = lidx_main_v4 i k := funext fun a => Fin.ext (by
    match a with
    | ⟨0, _⟩ => exact lhs_main_v4_0 _ _
    | ⟨1, _⟩ => exact (lhs_main_v4_1 _ _).trans hk
    | ⟨2, _⟩ => exact lhs_main_v4_2 _ _)
  have er : dot_S4x256x16383_S128x256_S4x16383x128_1_1_02_0_n_n.rhsIdx i ((ValueIdx.contrEquiv1 dot_S4x256x16383_S128x256_S4x16383x128_1_1_02_0_n_n 256 rfl rfl).symm k) = ridx_main_v4 i k := funext fun a => Fin.ext (by
    match a with
    | ⟨0, _⟩ => exact rhs_main_v4_0 _ _
    | ⟨1, _⟩ => exact (rhs_main_v4_1 _ _).trans hk)
  rw [el, er]
theorem val_main_v4_apply (x0 : (⟨S4x256x32768, .f32⟩ : BufTy).Contents (Elt Ideal)) (x1 : (⟨S128x256x4, .f32⟩ : BufTy).Contents (Elt Ideal)) (i : S4x16383x128.Idx) :
    val_main_v4 (F := Ideal) x0 x1 i = ∑ k : Fin 256, (val_main_v1 (F := Ideal) x0) (lidx_main_v4 i k) * (val_main_v3 (F := Ideal) x1) (ridx_main_v4 i k) :=
  tapDot1_apply _ _ i

-- %5 = stablehlo.add %0, %4 : tensor<4x16383x128xf32>
def val_main_v5 (x0 : (⟨S4x256x32768, .f32⟩ : BufTy).Contents (Elt F)) (x1 : (⟨S128x256x4, .f32⟩ : BufTy).Contents (Elt F)) : (⟨S4x16383x128, .f32⟩ : BufTy).Contents (Elt F) :=
  addf (val_main_v0 (F := F)) (val_main_v4 (F := F) x0 x1)
theorem val_main_v5_apply (x0 : (⟨S4x256x32768, .f32⟩ : BufTy).Contents (Elt F)) (x1 : (⟨S128x256x4, .f32⟩ : BufTy).Contents (Elt F)) (i : S4x16383x128.Idx) :
    val_main_v5 (F := F) x0 x1 i = FloatOps.addf (val_main_v0 (F := F) i) (val_main_v4 (F := F) x0 x1 i) := rfl

-- %6 = stablehlo.slice %arg0 [0:4, 0:256, 1:32766:2] : (tensor<4x256x32768xf32>) -> tensor<4x256x16383xf32>
def val_main_v6 (x0 : (⟨S4x256x32768, .f32⟩ : BufTy).Contents (Elt F)) : (⟨S4x256x16383, .f32⟩ : BufTy).Contents (Elt F) :=
  Host.slice S4x256x16383 ![0, 0, 1] ![1, 1, 2] (x0) slicesBy_S4x256x32768_S4x256x16383_0s1_0s1_1s2

-- %7 = stablehlo.slice %arg1 [0:128, 0:256, 1:2] : (tensor<128x256x4xf32>) -> tensor<128x256x1xf32>
def val_main_v7 (x1 : (⟨S128x256x4, .f32⟩ : BufTy).Contents (Elt F)) : (⟨S128x256x1, .f32⟩ : BufTy).Contents (Elt F) :=
  extractStridedSlice S128x256x1 ![0, 0, 1] (x1) slices_S128x256x4_S128x256x1_0_0_1
abbrev idx_main_v7 (i : S128x256x1.Idx) : S128x256x4.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 4; omega⟩
theorem val_main_v7_apply (x1 : (⟨S128x256x4, .f32⟩ : BufTy).Contents (Elt F)) (i : S128x256x1.Idx) :
    val_main_v7 (F := F) x1 i = x1 (idx_main_v7 i) := by
  unfold val_main_v7
  exact extractStridedSlice_apply ![0, 0, 1] x1 slices_S128x256x4_S128x256x1_0_0_1 i (idx_main_v7 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

-- %8 = stablehlo.reshape %7 : (tensor<128x256x1xf32>) -> tensor<128x256xf32>
def val_main_v8 (x1 : (⟨S128x256x4, .f32⟩ : BufTy).Contents (Elt F)) : (⟨S128x256, .f32⟩ : BufTy).Contents (Elt F) :=
  shapeCast _ (val_main_v7 (F := F) x1) shapeCasts_S128x256x1_S128x256
abbrev idx_main_v8 (i : S128x256.Idx) : S128x256x1.Idx := fun a => match a with
  | ⟨0, _⟩ => ⟨((i 0).val * 256 + (i 1).val) / 256, by have h0 : (i 0).val < 128 := (i 0).isLt; have h1 : (i 1).val < 256 := (i 1).isLt; show ((i 0).val * 256 + (i 1).val) / 256 < 128; omega⟩
  | ⟨1, _⟩ => ⟨((i 0).val * 256 + (i 1).val) / 1 % 256, by have h0 : (i 0).val < 128 := (i 0).isLt; have h1 : (i 1).val < 256 := (i 1).isLt; show ((i 0).val * 256 + (i 1).val) / 1 % 256 < 256; omega⟩
  | ⟨2, _⟩ => ⟨0, Nat.one_pos⟩
theorem val_main_v8_apply (x1 : (⟨S128x256x4, .f32⟩ : BufTy).Contents (Elt F)) (i : S128x256.Idx) :
    val_main_v8 (F := F) x1 i = val_main_v7 (F := F) x1 (idx_main_v8 i) := by
  unfold val_main_v8
  generalize val_main_v7 (F := F) x1 = y
  exact shapeCast_apply y shapeCasts_S128x256x1_S128x256 i (idx_main_v8 i)
    (by rewrite [Shape.rowMajor_val_three, Shape.rowMajor_val_two]; have h0 : (i 0).val < 128 := (i 0).isLt; have h1 : (i 1).val < 256 := (i 1).isLt; show (((i 0).val * 256 + (i 1).val) / 256 * 256 + ((i 0).val * 256 + (i 1).val) / 1 % 256) * 1 + 0 = (i 0).val * 256 + (i 1).val; omega)

-- %9 = stablehlo.dot_general %6, %8, contracting_dims = [1] x [1], precision = [DEFAULT, DEFAULT] : (tensor<4x256x16383xf32>, tensor<128x256xf32>) -> tensor<4x16383x128xf32>
def val_main_v9 (x0 : (⟨S4x256x32768, .f32⟩ : BufTy).Contents (Elt F)) (x1 : (⟨S128x256x4, .f32⟩ : BufTy).Contents (Elt F)) : (⟨S4x16383x128, .f32⟩ : BufTy).Contents (Elt F) :=
  Host.dotGeneral dot_S4x256x16383_S128x256_S4x16383x128_1_1_02_0_n_n none (val_main_v6 (F := F) x0) (val_main_v8 (F := F) x1)
theorem val_main_v9_apply (x0 : (⟨S4x256x32768, .f32⟩ : BufTy).Contents (Elt Ideal)) (x1 : (⟨S128x256x4, .f32⟩ : BufTy).Contents (Elt Ideal)) (i : S4x16383x128.Idx) :
    val_main_v9 (F := Ideal) x0 x1 i = ∑ k : Fin 256, (val_main_v6 (F := Ideal) x0) (lidx_main_v4 i k) * (val_main_v8 (F := Ideal) x1) (ridx_main_v4 i k) :=
  tapDot1_apply _ _ i

-- %10 = stablehlo.add %5, %9 : tensor<4x16383x128xf32>
def val_main_v10 (x0 : (⟨S4x256x32768, .f32⟩ : BufTy).Contents (Elt F)) (x1 : (⟨S128x256x4, .f32⟩ : BufTy).Contents (Elt F)) : (⟨S4x16383x128, .f32⟩ : BufTy).Contents (Elt F) :=
  addf (val_main_v5 (F := F) x0 x1) (val_main_v9 (F := F) x0 x1)
theorem val_main_v10_apply (x0 : (⟨S4x256x32768, .f32⟩ : BufTy).Contents (Elt F)) (x1 : (⟨S128x256x4, .f32⟩ : BufTy).Contents (Elt F)) (i : S4x16383x128.Idx) :
    val_main_v10 (F := F) x0 x1 i = FloatOps.addf (val_main_v5 (F := F) x0 x1 i) (val_main_v9 (F := F) x0 x1 i) := rfl

-- %11 = stablehlo.slice %arg0 [0:4, 0:256, 2:32767:2] : (tensor<4x256x32768xf32>) -> tensor<4x256x16383xf32>
def val_main_v11 (x0 : (⟨S4x256x32768, .f32⟩ : BufTy).Contents (Elt F)) : (⟨S4x256x16383, .f32⟩ : BufTy).Contents (Elt F) :=
  Host.slice S4x256x16383 ![0, 0, 2] ![1, 1, 2] (x0) slicesBy_S4x256x32768_S4x256x16383_0s1_0s1_2s2

-- %12 = stablehlo.slice %arg1 [0:128, 0:256, 2:3] : (tensor<128x256x4xf32>) -> tensor<128x256x1xf32>
def val_main_v12 (x1 : (⟨S128x256x4, .f32⟩ : BufTy).Contents (Elt F)) : (⟨S128x256x1, .f32⟩ : BufTy).Contents (Elt F) :=
  extractStridedSlice S128x256x1 ![0, 0, 2] (x1) slices_S128x256x4_S128x256x1_0_0_2
abbrev idx_main_v12 (i : S128x256x1.Idx) : S128x256x4.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 1 := (i 2).isLt; show 2 + (i 2).val < 4; omega⟩
theorem val_main_v12_apply (x1 : (⟨S128x256x4, .f32⟩ : BufTy).Contents (Elt F)) (i : S128x256x1.Idx) :
    val_main_v12 (F := F) x1 i = x1 (idx_main_v12 i) := by
  unfold val_main_v12
  exact extractStridedSlice_apply ![0, 0, 2] x1 slices_S128x256x4_S128x256x1_0_0_2 i (idx_main_v12 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

-- %13 = stablehlo.reshape %12 : (tensor<128x256x1xf32>) -> tensor<128x256xf32>
def val_main_v13 (x1 : (⟨S128x256x4, .f32⟩ : BufTy).Contents (Elt F)) : (⟨S128x256, .f32⟩ : BufTy).Contents (Elt F) :=
  shapeCast _ (val_main_v12 (F := F) x1) shapeCasts_S128x256x1_S128x256
abbrev idx_main_v13 (i : S128x256.Idx) : S128x256x1.Idx := fun a => match a with
  | ⟨0, _⟩ => ⟨((i 0).val * 256 + (i 1).val) / 256, by have h0 : (i 0).val < 128 := (i 0).isLt; have h1 : (i 1).val < 256 := (i 1).isLt; show ((i 0).val * 256 + (i 1).val) / 256 < 128; omega⟩
  | ⟨1, _⟩ => ⟨((i 0).val * 256 + (i 1).val) / 1 % 256, by have h0 : (i 0).val < 128 := (i 0).isLt; have h1 : (i 1).val < 256 := (i 1).isLt; show ((i 0).val * 256 + (i 1).val) / 1 % 256 < 256; omega⟩
  | ⟨2, _⟩ => ⟨0, Nat.one_pos⟩
theorem val_main_v13_apply (x1 : (⟨S128x256x4, .f32⟩ : BufTy).Contents (Elt F)) (i : S128x256.Idx) :
    val_main_v13 (F := F) x1 i = val_main_v12 (F := F) x1 (idx_main_v13 i) := by
  unfold val_main_v13
  generalize val_main_v12 (F := F) x1 = y
  exact shapeCast_apply y shapeCasts_S128x256x1_S128x256 i (idx_main_v13 i)
    (by rewrite [Shape.rowMajor_val_three, Shape.rowMajor_val_two]; have h0 : (i 0).val < 128 := (i 0).isLt; have h1 : (i 1).val < 256 := (i 1).isLt; show (((i 0).val * 256 + (i 1).val) / 256 * 256 + ((i 0).val * 256 + (i 1).val) / 1 % 256) * 1 + 0 = (i 0).val * 256 + (i 1).val; omega)

-- %14 = stablehlo.dot_general %11, %13, contracting_dims = [1] x [1], precision = [DEFAULT, DEFAULT] : (tensor<4x256x16383xf32>, tensor<128x256xf32>) -> tensor<4x16383x128xf32>
def val_main_v14 (x0 : (⟨S4x256x32768, .f32⟩ : BufTy).Contents (Elt F)) (x1 : (⟨S128x256x4, .f32⟩ : BufTy).Contents (Elt F)) : (⟨S4x16383x128, .f32⟩ : BufTy).Contents (Elt F) :=
  Host.dotGeneral dot_S4x256x16383_S128x256_S4x16383x128_1_1_02_0_n_n none (val_main_v11 (F := F) x0) (val_main_v13 (F := F) x1)
theorem val_main_v14_apply (x0 : (⟨S4x256x32768, .f32⟩ : BufTy).Contents (Elt Ideal)) (x1 : (⟨S128x256x4, .f32⟩ : BufTy).Contents (Elt Ideal)) (i : S4x16383x128.Idx) :
    val_main_v14 (F := Ideal) x0 x1 i = ∑ k : Fin 256, (val_main_v11 (F := Ideal) x0) (lidx_main_v4 i k) * (val_main_v13 (F := Ideal) x1) (ridx_main_v4 i k) :=
  tapDot1_apply _ _ i

-- %15 = stablehlo.add %10, %14 : tensor<4x16383x128xf32>
def val_main_v15 (x0 : (⟨S4x256x32768, .f32⟩ : BufTy).Contents (Elt F)) (x1 : (⟨S128x256x4, .f32⟩ : BufTy).Contents (Elt F)) : (⟨S4x16383x128, .f32⟩ : BufTy).Contents (Elt F) :=
  addf (val_main_v10 (F := F) x0 x1) (val_main_v14 (F := F) x0 x1)
theorem val_main_v15_apply (x0 : (⟨S4x256x32768, .f32⟩ : BufTy).Contents (Elt F)) (x1 : (⟨S128x256x4, .f32⟩ : BufTy).Contents (Elt F)) (i : S4x16383x128.Idx) :
    val_main_v15 (F := F) x0 x1 i = FloatOps.addf (val_main_v10 (F := F) x0 x1 i) (val_main_v14 (F := F) x0 x1 i) := rfl

-- %16 = stablehlo.slice %arg0 [0:4, 0:256, 3:32768:2] : (tensor<4x256x32768xf32>) -> tensor<4x256x16383xf32>
def val_main_v16 (x0 : (⟨S4x256x32768, .f32⟩ : BufTy).Contents (Elt F)) : (⟨S4x256x16383, .f32⟩ : BufTy).Contents (Elt F) :=
  Host.slice S4x256x16383 ![0, 0, 3] ![1, 1, 2] (x0) slicesBy_S4x256x32768_S4x256x16383_0s1_0s1_3s2

-- %17 = stablehlo.slice %arg1 [0:128, 0:256, 3:4] : (tensor<128x256x4xf32>) -> tensor<128x256x1xf32>
def val_main_v17 (x1 : (⟨S128x256x4, .f32⟩ : BufTy).Contents (Elt F)) : (⟨S128x256x1, .f32⟩ : BufTy).Contents (Elt F) :=
  extractStridedSlice S128x256x1 ![0, 0, 3] (x1) slices_S128x256x4_S128x256x1_0_0_3
abbrev idx_main_v17 (i : S128x256x1.Idx) : S128x256x4.Idx := fun a => match a with
  | ⟨0, _⟩ => ⟨(i 0).val, (i 0).isLt⟩
  | ⟨1, _⟩ => ⟨(i 1).val, (i 1).isLt⟩
  | ⟨2, _⟩ => ⟨3 + (i 2).val, by have h2 : (i 2).val < 1 := (i 2).isLt; show 3 + (i 2).val < 4; omega⟩
theorem val_main_v17_apply (x1 : (⟨S128x256x4, .f32⟩ : BufTy).Contents (Elt F)) (i : S128x256x1.Idx) :
    val_main_v17 (F := F) x1 i = x1 (idx_main_v17 i) := by
  unfold val_main_v17
  exact extractStridedSlice_apply ![0, 0, 3] x1 slices_S128x256x4_S128x256x1_0_0_3 i (idx_main_v17 i) (fun a => match a with
    | ⟨0, _⟩ => by show (i 0).val = 0 + (i 0).val; omega
    | ⟨1, _⟩ => by show (i 1).val = 0 + (i 1).val; omega
    | ⟨2, _⟩ => by show 3 + (i 2).val = 3 + (i 2).val; omega)

-- %18 = stablehlo.reshape %17 : (tensor<128x256x1xf32>) -> tensor<128x256xf32>
def val_main_v18 (x1 : (⟨S128x256x4, .f32⟩ : BufTy).Contents (Elt F)) : (⟨S128x256, .f32⟩ : BufTy).Contents (Elt F) :=
  shapeCast _ (val_main_v17 (F := F) x1) shapeCasts_S128x256x1_S128x256
abbrev idx_main_v18 (i : S128x256.Idx) : S128x256x1.Idx := fun a => match a with
  | ⟨0, _⟩ => ⟨((i 0).val * 256 + (i 1).val) / 256, by have h0 : (i 0).val < 128 := (i 0).isLt; have h1 : (i 1).val < 256 := (i 1).isLt; show ((i 0).val * 256 + (i 1).val) / 256 < 128; omega⟩
  | ⟨1, _⟩ => ⟨((i 0).val * 256 + (i 1).val) / 1 % 256, by have h0 : (i 0).val < 128 := (i 0).isLt; have h1 : (i 1).val < 256 := (i 1).isLt; show ((i 0).val * 256 + (i 1).val) / 1 % 256 < 256; omega⟩
  | ⟨2, _⟩ => ⟨0, Nat.one_pos⟩
theorem val_main_v18_apply (x1 : (⟨S128x256x4, .f32⟩ : BufTy).Contents (Elt F)) (i : S128x256.Idx) :
    val_main_v18 (F := F) x1 i = val_main_v17 (F := F) x1 (idx_main_v18 i) := by
  unfold val_main_v18
  generalize val_main_v17 (F := F) x1 = y
  exact shapeCast_apply y shapeCasts_S128x256x1_S128x256 i (idx_main_v18 i)
    (by rewrite [Shape.rowMajor_val_three, Shape.rowMajor_val_two]; have h0 : (i 0).val < 128 := (i 0).isLt; have h1 : (i 1).val < 256 := (i 1).isLt; show (((i 0).val * 256 + (i 1).val) / 256 * 256 + ((i 0).val * 256 + (i 1).val) / 1 % 256) * 1 + 0 = (i 0).val * 256 + (i 1).val; omega)

-- %19 = stablehlo.dot_general %16, %18, contracting_dims = [1] x [1], precision = [DEFAULT, DEFAULT] : (tensor<4x256x16383xf32>, tensor<128x256xf32>) -> tensor<4x16383x128xf32>
def val_main_v19 (x0 : (⟨S4x256x32768, .f32⟩ : BufTy).Contents (Elt F)) (x1 : (⟨S128x256x4, .f32⟩ : BufTy).Contents (Elt F)) : (⟨S4x16383x128, .f32⟩ : BufTy).Contents (Elt F) :=
  Host.dotGeneral dot_S4x256x16383_S128x256_S4x16383x128_1_1_02_0_n_n none (val_main_v16 (F := F) x0) (val_main_v18 (F := F) x1)
theorem val_main_v19_apply (x0 : (⟨S4x256x32768, .f32⟩ : BufTy).Contents (Elt Ideal)) (x1 : (⟨S128x256x4, .f32⟩ : BufTy).Contents (Elt Ideal)) (i : S4x16383x128.Idx) :
    val_main_v19 (F := Ideal) x0 x1 i = ∑ k : Fin 256, (val_main_v16 (F := Ideal) x0) (lidx_main_v4 i k) * (val_main_v18 (F := Ideal) x1) (ridx_main_v4 i k) :=
  tapDot1_apply _ _ i

-- %20 = stablehlo.add %15, %19 : tensor<4x16383x128xf32>
def val_main_v20 (x0 : (⟨S4x256x32768, .f32⟩ : BufTy).Contents (Elt F)) (x1 : (⟨S128x256x4, .f32⟩ : BufTy).Contents (Elt F)) : (⟨S4x16383x128, .f32⟩ : BufTy).Contents (Elt F) :=
  addf (val_main_v15 (F := F) x0 x1) (val_main_v19 (F := F) x0 x1)
theorem val_main_v20_apply (x0 : (⟨S4x256x32768, .f32⟩ : BufTy).Contents (Elt F)) (x1 : (⟨S128x256x4, .f32⟩ : BufTy).Contents (Elt F)) (i : S4x16383x128.Idx) :
    val_main_v20 (F := F) x0 x1 i = FloatOps.addf (val_main_v15 (F := F) x0 x1 i) (val_main_v19 (F := F) x0 x1 i) := rfl

-- %21 = stablehlo.transpose %20, dims = [0, 2, 1] : (tensor<4x16383x128xf32>) -> tensor<4x128x16383xf32>
def val_main_v21 (x0 : (⟨S4x256x32768, .f32⟩ : BufTy).Contents (Elt F)) (x1 : (⟨S128x256x4, .f32⟩ : BufTy).Contents (Elt F)) : (⟨S4x128x16383, .f32⟩ : BufTy).Contents (Elt F) :=
  transpose S4x128x16383 [0, 2, 1] (val_main_v20 (F := F) x0 x1) transposes_S4x16383x128_S4x128x16383_0_2_1
abbrev idx_main_v21 (i : S4x128x16383.Idx) : S4x16383x128.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v21_apply (x0 : (⟨S4x256x32768, .f32⟩ : BufTy).Contents (Elt F)) (x1 : (⟨S128x256x4, .f32⟩ : BufTy).Contents (Elt F)) (i : S4x128x16383.Idx) :
    val_main_v21 (F := F) x0 x1 i = val_main_v20 (F := F) x0 x1 (idx_main_v21 i) := by
  unfold val_main_v21
  generalize val_main_v20 (F := F) x0 x1 = y
  exact transpose_apply [0, 2, 1] y transposes_S4x16383x128_S4x128x16383_0_2_1 i (idx_main_v21 i) (fun b => match b with
    | ⟨0, _⟩ => rfl
    | ⟨1, _⟩ => rfl
    | ⟨2, _⟩ => rfl)

-- %22 = stablehlo.broadcast_in_dim %arg2, dims = [1] : (tensor<128xf32>) -> tensor<1x128x1xf32>
def val_main_v22 (x2 : (⟨S128, .f32⟩ : BufTy).Contents (Elt F)) : (⟨S1x128x1, .f32⟩ : BufTy).Contents (Elt F) :=
  broadcastInDim S1x128x1 ![1] bcast_S128_S1x128x1_1 (x2)
abbrev idx_main_v22 (i : S1x128x1.Idx) : S128.Idx := fun a => match a with
  | ⟨0, _⟩ => ⟨(i 1).val, (i 1).isLt⟩
theorem val_main_v22_apply (x2 : (⟨S128, .f32⟩ : BufTy).Contents (Elt F)) (i : S1x128x1.Idx) :
    val_main_v22 (F := F) x2 i = x2 (idx_main_v22 i) := by
  unfold val_main_v22
  exact broadcastInDim_apply _ bcast_S128_S1x128x1_1 x2 i (idx_main_v22 i) (fun a => match a with
    | ⟨0, _⟩ => by show (i 1).val = if (128 : Nat) = 1 then 0 else (i 1).val; rw [if_neg (by decide)])

-- %23 = stablehlo.broadcast_in_dim %22, dims = [0, 1, 2] : (tensor<1x128x1xf32>) -> tensor<4x128x16383xf32>
def val_main_v23 (x2 : (⟨S128, .f32⟩ : BufTy).Contents (Elt F)) : (⟨S4x128x16383, .f32⟩ : BufTy).Contents (Elt F) :=
  broadcastInDim S4x128x16383 ![0, 1, 2] bcast_S1x128x1_S4x128x16383_0_1_2 (val_main_v22 (F := F) x2)
abbrev idx_main_v23 (i : S4x128x16383.Idx) : S1x128x1.Idx := fun a => match a with
  | ⟨0, _⟩ => ⟨0, Nat.one_pos⟩
  | ⟨1, _⟩ => ⟨(i 1).val, (i 1).isLt⟩
  | ⟨2, _⟩ => ⟨0, Nat.one_pos⟩
theorem val_main_v23_apply (x2 : (⟨S128, .f32⟩ : BufTy).Contents (Elt F)) (i : S4x128x16383.Idx) :
    val_main_v23 (F := F) x2 i = val_main_v22 (F := F) x2 (idx_main_v23 i) := by
  unfold val_main_v23
  generalize val_main_v22 (F := F) x2 = y
  exact broadcastInDim_apply _ bcast_S1x128x1_S4x128x16383_0_1_2 y i (idx_main_v23 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)]
    | ⟨2, _⟩ => by show 0 = if (1 : Nat) = 1 then 0 else (i 2).val; rw [if_pos rfl])

-- %24 = stablehlo.add %21, %23 : tensor<4x128x16383xf32>
def val_main_v24 (x0 : (⟨S4x256x32768, .f32⟩ : BufTy).Contents (Elt F)) (x1 : (⟨S128x256x4, .f32⟩ : BufTy).Contents (Elt F)) (x2 : (⟨S128, .f32⟩ : BufTy).Contents (Elt F)) : (⟨S4x128x16383, .f32⟩ : BufTy).Contents (Elt F) :=
  addf (val_main_v21 (F := F) x0 x1) (val_main_v23 (F := F) x2)
theorem val_main_v24_apply (x0 : (⟨S4x256x32768, .f32⟩ : BufTy).Contents (Elt F)) (x1 : (⟨S128x256x4, .f32⟩ : BufTy).Contents (Elt F)) (x2 : (⟨S128, .f32⟩ : BufTy).Contents (Elt F)) (i : S4x128x16383.Idx) :
    val_main_v24 (F := F) x0 x1 x2 i = FloatOps.addf (val_main_v21 (F := F) x0 x1 i) (val_main_v23 (F := F) x2 i) := rfl

-- %25 = stablehlo.tanh %24 : tensor<4x128x16383xf32>
def val_main_v25 (x0 : (⟨S4x256x32768, .f32⟩ : BufTy).Contents (Elt F)) (x1 : (⟨S128x256x4, .f32⟩ : BufTy).Contents (Elt F)) (x2 : (⟨S128, .f32⟩ : BufTy).Contents (Elt F)) : (⟨S4x128x16383, .f32⟩ : BufTy).Contents (Elt F) :=
  Host.tanh (val_main_v24 (F := F) x0 x1 x2)
theorem val_main_v25_apply (x0 : (⟨S4x256x32768, .f32⟩ : BufTy).Contents (Elt F)) (x1 : (⟨S128x256x4, .f32⟩ : BufTy).Contents (Elt F)) (x2 : (⟨S128, .f32⟩ : BufTy).Contents (Elt F)) (i : S4x128x16383.Idx) :
    val_main_v25 (F := F) x0 x1 x2 i = FloatOps.hostUnary .tanh (val_main_v24 (F := F) x0 x1 x2 i) := rfl

-- %cst_0 = stablehlo.constant dense<0.000000e+00> : tensor<f32>
def val_main_cst_0 : (⟨S_, .f32⟩ : BufTy).Contents (Elt F) :=
  constant S_ .f32 0x00000000#32
theorem val_main_cst_0_apply (i : S_.Idx) :
    val_main_cst_0 (F := F) i = FloatOps.ofBits .f32 0x00000000#32 := rfl

-- %26 = stablehlo.broadcast_in_dim %cst_0, dims = [] : (tensor<f32>) -> tensor<4x8190x64xf32>
def val_main_v26 : (⟨S4x8190x64, .f32⟩ : BufTy).Contents (Elt F) :=
  broadcastInDim S4x8190x64 ![] bcast_S_S4x8190x64 (val_main_cst_0 (F := F))
abbrev idx_main_v26 (i : S4x8190x64.Idx) : S_.Idx := fun a => a.elim0
theorem val_main_v26_apply (i : S4x8190x64.Idx) :
    val_main_v26 (F := F) i = val_main_cst_0 (F := F) (idx_main_v26 i) := by
  unfold val_main_v26
  generalize val_main_cst_0 (F := F) = y
  exact broadcastInDim_apply _ bcast_S_S4x8190x64 y i (idx_main_v26 i) (fun a => a.elim0)

-- %27 = stablehlo.slice %25 [0:4, 0:128, 0:16379:2] : (tensor<4x128x16383xf32>) -> tensor<4x128x8190xf32>
def val_main_v27 (x0 : (⟨S4x256x32768, .f32⟩ : BufTy).Contents (Elt F)) (x1 : (⟨S128x256x4, .f32⟩ : BufTy).Contents (Elt F)) (x2 : (⟨S128, .f32⟩ : BufTy).Contents (Elt F)) : (⟨S4x128x8190, .f32⟩ : BufTy).Contents (Elt F) :=
  Host.slice S4x128x8190 ![0, 0, 0] ![1, 1, 2] (val_main_v25 (F := F) x0 x1 x2) slicesBy_S4x128x16383_S4x128x8190_0s1_0s1_0s2

-- %28 = stablehlo.slice %arg3 [0:64, 0:128, 0:1] : (tensor<64x128x4xf32>) -> tensor<64x128x1xf32>
def val_main_v28 (x3 : (⟨S64x128x4, .f32⟩ : BufTy).Contents (Elt F)) : (⟨S64x128x1, .f32⟩ : BufTy).Contents (Elt F) :=
  extractStridedSlice S64x128x1 ![0, 0, 0] (x3) slices_S64x128x4_S64x128x1_0_0_0
abbrev idx_main_v28 (i : S64x128x1.Idx) : S64x128x4.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 4; omega⟩
theorem val_main_v28_apply (x3 : (⟨S64x128x4, .f32⟩ : BufTy).Contents (Elt F)) (i : S64x128x1.Idx) :
    val_main_v28 (F := F) x3 i = x3 (idx_main_v28 i) := by
  unfold val_main_v28
  exact extractStridedSlice_apply ![0, 0, 0] x3 slices_S64x128x4_S64x128x1_0_0_0 i (idx_main_v28 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %29 = stablehlo.reshape %28 : (tensor<64x128x1xf32>) -> tensor<64x128xf32>
def val_main_v29 (x3 : (⟨S64x128x4, .f32⟩ : BufTy).Contents (Elt F)) : (⟨S64x128, .f32⟩ : BufTy).Contents (Elt F) :=
  shapeCast _ (val_main_v28 (F := F) x3) shapeCasts_S64x128x1_S64x128
abbrev idx_main_v29 (i : S64x128.Idx) : S64x128x1.Idx := fun a => match a with
  | ⟨0, _⟩ => ⟨((i 0).val * 128 + (i 1).val) / 128, by have h0 : (i 0).val < 64 := (i 0).isLt; have h1 : (i 1).val < 128 := (i 1).isLt; show ((i 0).val * 128 + (i 1).val) / 128 < 64; omega⟩
  | ⟨1, _⟩ => ⟨((i 0).val * 128 + (i 1).val) / 1 % 128, by have h0 : (i 0).val < 64 := (i 0).isLt; have h1 : (i 1).val < 128 := (i 1).isLt; show ((i 0).val * 128 + (i 1).val) / 1 % 128 < 128; omega⟩
  | ⟨2, _⟩ => ⟨0, Nat.one_pos⟩
theorem val_main_v29_apply (x3 : (⟨S64x128x4, .f32⟩ : BufTy).Contents (Elt F)) (i : S64x128.Idx) :
    val_main_v29 (F := F) x3 i = val_main_v28 (F := F) x3 (idx_main_v29 i) := by
  unfold val_main_v29
  generalize val_main_v28 (F := F) x3 = y
  exact shapeCast_apply y shapeCasts_S64x128x1_S64x128 i (idx_main_v29 i)
    (by rewrite [Shape.rowMajor_val_three, Shape.rowMajor_val_two]; have h0 : (i 0).val < 64 := (i 0).isLt; have h1 : (i 1).val < 128 := (i 1).isLt; show (((i 0).val * 128 + (i 1).val) / 128 * 128 + ((i 0).val * 128 + (i 1).val) / 1 % 128) * 1 + 0 = (i 0).val * 128 + (i 1).val; omega)

-- %30 = stablehlo.dot_general %27, %29, contracting_dims = [1] x [1], precision = [DEFAULT, DEFAULT] : (tensor<4x128x8190xf32>, tensor<64x128xf32>) -> tensor<4x8190x64xf32>
def val_main_v30 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) : (⟨S4x8190x64, .f32⟩ : BufTy).Contents (Elt F) :=
  Host.dotGeneral dot_S4x128x8190_S64x128_S4x8190x64_1_1_02_0_n_n none (val_main_v27 (F := F) x0 x1 x2) (val_main_v29 (F := F) x3)
theorem lhs_main_v30_0 (i : S4x8190x64.Idx) (q : dot_S4x128x8190_S64x128_S4x8190x64_1_1_02_0_n_n.contr.Idx) :
    (dot_S4x128x8190_S64x128_S4x8190x64_1_1_02_0_n_n.lhsIdx i q 0).val = (i 0).val := by
  unfold DotDims.lhsIdx
  rw [dif_neg (show ¬(0 : Fin S4x128x8190.rank) ∈ dot_S4x128x8190_S64x128_S4x8190x64_1_1_02_0_n_n.lhsBatch by decide), dif_pos (show (0 : Fin S4x128x8190.rank) ∈ dot_S4x128x8190_S64x128_S4x8190x64_1_1_02_0_n_n.lhsNonContracting by decide)]
  rfl
theorem lhs_main_v30_1 (i : S4x8190x64.Idx) (q : dot_S4x128x8190_S64x128_S4x8190x64_1_1_02_0_n_n.contr.Idx) :
    (dot_S4x128x8190_S64x128_S4x8190x64_1_1_02_0_n_n.lhsIdx i q 1).val = (q ⟨0, by decide⟩).val :=
  dot_S4x128x8190_S64x128_S4x8190x64_1_1_02_0_n_n.lhsIdx_val_of_single rfl i q
theorem lhs_main_v30_2 (i : S4x8190x64.Idx) (q : dot_S4x128x8190_S64x128_S4x8190x64_1_1_02_0_n_n.contr.Idx) :
    (dot_S4x128x8190_S64x128_S4x8190x64_1_1_02_0_n_n.lhsIdx i q 2).val = (i 1).val := by
  unfold DotDims.lhsIdx
  rw [dif_neg (show ¬(2 : Fin S4x128x8190.rank) ∈ dot_S4x128x8190_S64x128_S4x8190x64_1_1_02_0_n_n.lhsBatch by decide), dif_pos (show (2 : Fin S4x128x8190.rank) ∈ dot_S4x128x8190_S64x128_S4x8190x64_1_1_02_0_n_n.lhsNonContracting by decide)]
  rfl
theorem rhs_main_v30_0 (i : S4x8190x64.Idx) (q : dot_S4x128x8190_S64x128_S4x8190x64_1_1_02_0_n_n.contr.Idx) :
    (dot_S4x128x8190_S64x128_S4x8190x64_1_1_02_0_n_n.rhsIdx i q 0).val = (i 2).val := by
  unfold DotDims.rhsIdx
  rw [dif_neg (show ¬(0 : Fin S64x128.rank) ∈ dot_S4x128x8190_S64x128_S4x8190x64_1_1_02_0_n_n.rhsBatch by decide), dif_pos (show (0 : Fin S64x128.rank) ∈ dot_S4x128x8190_S64x128_S4x8190x64_1_1_02_0_n_n.rhsNonContracting by decide)]
  rfl
theorem rhs_main_v30_1 (i : S4x8190x64.Idx) (q : dot_S4x128x8190_S64x128_S4x8190x64_1_1_02_0_n_n.contr.Idx) :
    (dot_S4x128x8190_S64x128_S4x8190x64_1_1_02_0_n_n.rhsIdx i q 1).val = (q ⟨0, by decide⟩).val :=
  dot_S4x128x8190_S64x128_S4x8190x64_1_1_02_0_n_n.rhsIdx_val_of_single rfl i q
abbrev lidx_main_v30 (i : S4x8190x64.Idx) (k : Fin 128) : S4x128x8190.Idx := fun a => match a with
  | ⟨0, _⟩ => ⟨(i 0).val, (i 0).isLt⟩
  | ⟨1, _⟩ => ⟨k.val, k.isLt⟩
  | ⟨2, _⟩ => ⟨(i 1).val, (i 1).isLt⟩
abbrev ridx_main_v30 (i : S4x8190x64.Idx) (k : Fin 128) : S64x128.Idx := fun a => match a with
  | ⟨0, _⟩ => ⟨(i 2).val, (i 2).isLt⟩
  | ⟨1, _⟩ => ⟨k.val, k.isLt⟩
/-- The product of a slice of the first layer with a tap of the second weight, at an index. Stated at `F := Ideal`, where the host's `dot_general` is this sum; at a bit-exact instance it is an opaque function of its operands. -/
theorem tapDot2_apply (y0 : FVec Ideal S4x128x8190 .f32) (y1 : FVec Ideal S64x128 .f32) (i : S4x8190x64.Idx) :
    (Host.dotGeneral dot_S4x128x8190_S64x128_S4x8190x64_1_1_02_0_n_n none y0 y1 : FVec Ideal S4x8190x64 .f32) i = ∑ k : Fin 128, y0 (lidx_main_v30 i k) * y1 (ridx_main_v30 i k) := by
  simp only [Host.dotGeneral]
  rw [Ideal.dotGeneral_apply, ← Equiv.sum_comp (ValueIdx.contrEquiv1 dot_S4x128x8190_S64x128_S4x8190x64_1_1_02_0_n_n 128 rfl rfl).symm]
  refine Finset.sum_congr rfl fun k _ => ?_
  have hk := ValueIdx.contrEquiv1_symm_val dot_S4x128x8190_S64x128_S4x8190x64_1_1_02_0_n_n 128 rfl rfl k
  have el : dot_S4x128x8190_S64x128_S4x8190x64_1_1_02_0_n_n.lhsIdx i ((ValueIdx.contrEquiv1 dot_S4x128x8190_S64x128_S4x8190x64_1_1_02_0_n_n 128 rfl rfl).symm k) = lidx_main_v30 i k := funext fun a => Fin.ext (by
    match a with
    | ⟨0, _⟩ => exact lhs_main_v30_0 _ _
    | ⟨1, _⟩ => exact (lhs_main_v30_1 _ _).trans hk
    | ⟨2, _⟩ => exact lhs_main_v30_2 _ _)
  have er : dot_S4x128x8190_S64x128_S4x8190x64_1_1_02_0_n_n.rhsIdx i ((ValueIdx.contrEquiv1 dot_S4x128x8190_S64x128_S4x8190x64_1_1_02_0_n_n 128 rfl rfl).symm k) = ridx_main_v30 i k := funext fun a => Fin.ext (by
    match a with
    | ⟨0, _⟩ => exact rhs_main_v30_0 _ _
    | ⟨1, _⟩ => exact (rhs_main_v30_1 _ _).trans hk)
  rw [el, er]
theorem val_main_v30_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (i : S4x8190x64.Idx) :
    val_main_v30 (F := Ideal) x0 x1 x2 x3 i = ∑ k : Fin 128, (val_main_v27 (F := Ideal) x0 x1 x2) (lidx_main_v30 i k) * (val_main_v29 (F := Ideal) x3) (ridx_main_v30 i k) :=
  tapDot2_apply _ _ i

-- %31 = stablehlo.add %26, %30 : tensor<4x8190x64xf32>
def val_main_v31 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) : (⟨S4x8190x64, .f32⟩ : BufTy).Contents (Elt F) :=
  addf (val_main_v26 (F := F)) (val_main_v30 (F := F) x0 x1 x2 x3)
theorem val_main_v31_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (i : S4x8190x64.Idx) :
    val_main_v31 (F := F) x0 x1 x2 x3 i = FloatOps.addf (val_main_v26 (F := F) i) (val_main_v30 (F := F) x0 x1 x2 x3 i) := rfl

-- %32 = stablehlo.slice %25 [0:4, 0:128, 1:16380:2] : (tensor<4x128x16383xf32>) -> tensor<4x128x8190xf32>
def val_main_v32 (x0 : (⟨S4x256x32768, .f32⟩ : BufTy).Contents (Elt F)) (x1 : (⟨S128x256x4, .f32⟩ : BufTy).Contents (Elt F)) (x2 : (⟨S128, .f32⟩ : BufTy).Contents (Elt F)) : (⟨S4x128x8190, .f32⟩ : BufTy).Contents (Elt F) :=
  Host.slice S4x128x8190 ![0, 0, 1] ![1, 1, 2] (val_main_v25 (F := F) x0 x1 x2) slicesBy_S4x128x16383_S4x128x8190_0s1_0s1_1s2

-- %33 = stablehlo.slice %arg3 [0:64, 0:128, 1:2] : (tensor<64x128x4xf32>) -> tensor<64x128x1xf32>
def val_main_v33 (x3 : (⟨S64x128x4, .f32⟩ : BufTy).Contents (Elt F)) : (⟨S64x128x1, .f32⟩ : BufTy).Contents (Elt F) :=
  extractStridedSlice S64x128x1 ![0, 0, 1] (x3) slices_S64x128x4_S64x128x1_0_0_1
abbrev idx_main_v33 (i : S64x128x1.Idx) : S64x128x4.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 4; omega⟩
theorem val_main_v33_apply (x3 : (⟨S64x128x4, .f32⟩ : BufTy).Contents (Elt F)) (i : S64x128x1.Idx) :
    val_main_v33 (F := F) x3 i = x3 (idx_main_v33 i) := by
  unfold val_main_v33
  exact extractStridedSlice_apply ![0, 0, 1] x3 slices_S64x128x4_S64x128x1_0_0_1 i (idx_main_v33 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

-- %34 = stablehlo.reshape %33 : (tensor<64x128x1xf32>) -> tensor<64x128xf32>
def val_main_v34 (x3 : (⟨S64x128x4, .f32⟩ : BufTy).Contents (Elt F)) : (⟨S64x128, .f32⟩ : BufTy).Contents (Elt F) :=
  shapeCast _ (val_main_v33 (F := F) x3) shapeCasts_S64x128x1_S64x128
abbrev idx_main_v34 (i : S64x128.Idx) : S64x128x1.Idx := fun a => match a with
  | ⟨0, _⟩ => ⟨((i 0).val * 128 + (i 1).val) / 128, by have h0 : (i 0).val < 64 := (i 0).isLt; have h1 : (i 1).val < 128 := (i 1).isLt; show ((i 0).val * 128 + (i 1).val) / 128 < 64; omega⟩
  | ⟨1, _⟩ => ⟨((i 0).val * 128 + (i 1).val) / 1 % 128, by have h0 : (i 0).val < 64 := (i 0).isLt; have h1 : (i 1).val < 128 := (i 1).isLt; show ((i 0).val * 128 + (i 1).val) / 1 % 128 < 128; omega⟩
  | ⟨2, _⟩ => ⟨0, Nat.one_pos⟩
theorem val_main_v34_apply (x3 : (⟨S64x128x4, .f32⟩ : BufTy).Contents (Elt F)) (i : S64x128.Idx) :
    val_main_v34 (F := F) x3 i = val_main_v33 (F := F) x3 (idx_main_v34 i) := by
  unfold val_main_v34
  generalize val_main_v33 (F := F) x3 = y
  exact shapeCast_apply y shapeCasts_S64x128x1_S64x128 i (idx_main_v34 i)
    (by rewrite [Shape.rowMajor_val_three, Shape.rowMajor_val_two]; have h0 : (i 0).val < 64 := (i 0).isLt; have h1 : (i 1).val < 128 := (i 1).isLt; show (((i 0).val * 128 + (i 1).val) / 128 * 128 + ((i 0).val * 128 + (i 1).val) / 1 % 128) * 1 + 0 = (i 0).val * 128 + (i 1).val; omega)

-- %35 = stablehlo.dot_general %32, %34, contracting_dims = [1] x [1], precision = [DEFAULT, DEFAULT] : (tensor<4x128x8190xf32>, tensor<64x128xf32>) -> tensor<4x8190x64xf32>
def val_main_v35 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) : (⟨S4x8190x64, .f32⟩ : BufTy).Contents (Elt F) :=
  Host.dotGeneral dot_S4x128x8190_S64x128_S4x8190x64_1_1_02_0_n_n none (val_main_v32 (F := F) x0 x1 x2) (val_main_v34 (F := F) x3)
theorem val_main_v35_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (i : S4x8190x64.Idx) :
    val_main_v35 (F := Ideal) x0 x1 x2 x3 i = ∑ k : Fin 128, (val_main_v32 (F := Ideal) x0 x1 x2) (lidx_main_v30 i k) * (val_main_v34 (F := Ideal) x3) (ridx_main_v30 i k) :=
  tapDot2_apply _ _ i

-- %36 = stablehlo.add %31, %35 : tensor<4x8190x64xf32>
def val_main_v36 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) : (⟨S4x8190x64, .f32⟩ : BufTy).Contents (Elt F) :=
  addf (val_main_v31 (F := F) x0 x1 x2 x3) (val_main_v35 (F := F) x0 x1 x2 x3)
theorem val_main_v36_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (i : S4x8190x64.Idx) :
    val_main_v36 (F := F) x0 x1 x2 x3 i = FloatOps.addf (val_main_v31 (F := F) x0 x1 x2 x3 i) (val_main_v35 (F := F) x0 x1 x2 x3 i) := rfl

-- %37 = stablehlo.slice %25 [0:4, 0:128, 2:16381:2] : (tensor<4x128x16383xf32>) -> tensor<4x128x8190xf32>
def val_main_v37 (x0 : (⟨S4x256x32768, .f32⟩ : BufTy).Contents (Elt F)) (x1 : (⟨S128x256x4, .f32⟩ : BufTy).Contents (Elt F)) (x2 : (⟨S128, .f32⟩ : BufTy).Contents (Elt F)) : (⟨S4x128x8190, .f32⟩ : BufTy).Contents (Elt F) :=
  Host.slice S4x128x8190 ![0, 0, 2] ![1, 1, 2] (val_main_v25 (F := F) x0 x1 x2) slicesBy_S4x128x16383_S4x128x8190_0s1_0s1_2s2

-- %38 = stablehlo.slice %arg3 [0:64, 0:128, 2:3] : (tensor<64x128x4xf32>) -> tensor<64x128x1xf32>
def val_main_v38 (x3 : (⟨S64x128x4, .f32⟩ : BufTy).Contents (Elt F)) : (⟨S64x128x1, .f32⟩ : BufTy).Contents (Elt F) :=
  extractStridedSlice S64x128x1 ![0, 0, 2] (x3) slices_S64x128x4_S64x128x1_0_0_2
abbrev idx_main_v38 (i : S64x128x1.Idx) : S64x128x4.Idx := fun a => match a with
  | ⟨0, _⟩ => ⟨(i 0).val, (i 0).isLt⟩
  | ⟨1, _⟩ => ⟨(i 1).val, (i 1).isLt⟩
  | ⟨2, _⟩ => ⟨2 + (i 2).val, by have h2 : (i 2).val < 1 := (i 2).isLt; show 2 + (i 2).val < 4; omega⟩
theorem val_main_v38_apply (x3 : (⟨S64x128x4, .f32⟩ : BufTy).Contents (Elt F)) (i : S64x128x1.Idx) :
    val_main_v38 (F := F) x3 i = x3 (idx_main_v38 i) := by
  unfold val_main_v38
  exact extractStridedSlice_apply ![0, 0, 2] x3 slices_S64x128x4_S64x128x1_0_0_2 i (idx_main_v38 i) (fun a => match a with
    | ⟨0, _⟩ => by show (i 0).val = 0 + (i 0).val; omega
    | ⟨1, _⟩ => by show (i 1).val = 0 + (i 1).val; omega
    | ⟨2, _⟩ => by show 2 + (i 2).val = 2 + (i 2).val; omega)

-- %39 = stablehlo.reshape %38 : (tensor<64x128x1xf32>) -> tensor<64x128xf32>
def val_main_v39 (x3 : (⟨S64x128x4, .f32⟩ : BufTy).Contents (Elt F)) : (⟨S64x128, .f32⟩ : BufTy).Contents (Elt F) :=
  shapeCast _ (val_main_v38 (F := F) x3) shapeCasts_S64x128x1_S64x128
abbrev idx_main_v39 (i : S64x128.Idx) : S64x128x1.Idx := fun a => match a with
  | ⟨0, _⟩ => ⟨((i 0).val * 128 + (i 1).val) / 128, by have h0 : (i 0).val < 64 := (i 0).isLt; have h1 : (i 1).val < 128 := (i 1).isLt; show ((i 0).val * 128 + (i 1).val) / 128 < 64; omega⟩
  | ⟨1, _⟩ => ⟨((i 0).val * 128 + (i 1).val) / 1 % 128, by have h0 : (i 0).val < 64 := (i 0).isLt; have h1 : (i 1).val < 128 := (i 1).isLt; show ((i 0).val * 128 + (i 1).val) / 1 % 128 < 128; omega⟩
  | ⟨2, _⟩ => ⟨0, Nat.one_pos⟩
theorem val_main_v39_apply (x3 : (⟨S64x128x4, .f32⟩ : BufTy).Contents (Elt F)) (i : S64x128.Idx) :
    val_main_v39 (F := F) x3 i = val_main_v38 (F := F) x3 (idx_main_v39 i) := by
  unfold val_main_v39
  generalize val_main_v38 (F := F) x3 = y
  exact shapeCast_apply y shapeCasts_S64x128x1_S64x128 i (idx_main_v39 i)
    (by rewrite [Shape.rowMajor_val_three, Shape.rowMajor_val_two]; have h0 : (i 0).val < 64 := (i 0).isLt; have h1 : (i 1).val < 128 := (i 1).isLt; show (((i 0).val * 128 + (i 1).val) / 128 * 128 + ((i 0).val * 128 + (i 1).val) / 1 % 128) * 1 + 0 = (i 0).val * 128 + (i 1).val; omega)

-- %40 = stablehlo.dot_general %37, %39, contracting_dims = [1] x [1], precision = [DEFAULT, DEFAULT] : (tensor<4x128x8190xf32>, tensor<64x128xf32>) -> tensor<4x8190x64xf32>
def val_main_v40 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) : (⟨S4x8190x64, .f32⟩ : BufTy).Contents (Elt F) :=
  Host.dotGeneral dot_S4x128x8190_S64x128_S4x8190x64_1_1_02_0_n_n none (val_main_v37 (F := F) x0 x1 x2) (val_main_v39 (F := F) x3)
theorem val_main_v40_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (i : S4x8190x64.Idx) :
    val_main_v40 (F := Ideal) x0 x1 x2 x3 i = ∑ k : Fin 128, (val_main_v37 (F := Ideal) x0 x1 x2) (lidx_main_v30 i k) * (val_main_v39 (F := Ideal) x3) (ridx_main_v30 i k) :=
  tapDot2_apply _ _ i

-- %41 = stablehlo.add %36, %40 : tensor<4x8190x64xf32>
def val_main_v41 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) : (⟨S4x8190x64, .f32⟩ : BufTy).Contents (Elt F) :=
  addf (val_main_v36 (F := F) x0 x1 x2 x3) (val_main_v40 (F := F) x0 x1 x2 x3)
theorem val_main_v41_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (i : S4x8190x64.Idx) :
    val_main_v41 (F := F) x0 x1 x2 x3 i = FloatOps.addf (val_main_v36 (F := F) x0 x1 x2 x3 i) (val_main_v40 (F := F) x0 x1 x2 x3 i) := rfl

-- %42 = stablehlo.slice %25 [0:4, 0:128, 3:16382:2] : (tensor<4x128x16383xf32>) -> tensor<4x128x8190xf32>
def val_main_v42 (x0 : (⟨S4x256x32768, .f32⟩ : BufTy).Contents (Elt F)) (x1 : (⟨S128x256x4, .f32⟩ : BufTy).Contents (Elt F)) (x2 : (⟨S128, .f32⟩ : BufTy).Contents (Elt F)) : (⟨S4x128x8190, .f32⟩ : BufTy).Contents (Elt F) :=
  Host.slice S4x128x8190 ![0, 0, 3] ![1, 1, 2] (val_main_v25 (F := F) x0 x1 x2) slicesBy_S4x128x16383_S4x128x8190_0s1_0s1_3s2

-- %43 = stablehlo.slice %arg3 [0:64, 0:128, 3:4] : (tensor<64x128x4xf32>) -> tensor<64x128x1xf32>
def val_main_v43 (x3 : (⟨S64x128x4, .f32⟩ : BufTy).Contents (Elt F)) : (⟨S64x128x1, .f32⟩ : BufTy).Contents (Elt F) :=
  extractStridedSlice S64x128x1 ![0, 0, 3] (x3) slices_S64x128x4_S64x128x1_0_0_3
abbrev idx_main_v43 (i : S64x128x1.Idx) : S64x128x4.Idx := fun a => match a with
  | ⟨0, _⟩ => ⟨(i 0).val, (i 0).isLt⟩
  | ⟨1, _⟩ => ⟨(i 1).val, (i 1).isLt⟩
  | ⟨2, _⟩ => ⟨3 + (i 2).val, by have h2 : (i 2).val < 1 := (i 2).isLt; show 3 + (i 2).val < 4; omega⟩
theorem val_main_v43_apply (x3 : (⟨S64x128x4, .f32⟩ : BufTy).Contents (Elt F)) (i : S64x128x1.Idx) :
    val_main_v43 (F := F) x3 i = x3 (idx_main_v43 i) := by
  unfold val_main_v43
  exact extractStridedSlice_apply ![0, 0, 3] x3 slices_S64x128x4_S64x128x1_0_0_3 i (idx_main_v43 i) (fun a => match a with
    | ⟨0, _⟩ => by show (i 0).val = 0 + (i 0).val; omega
    | ⟨1, _⟩ => by show (i 1).val = 0 + (i 1).val; omega
    | ⟨2, _⟩ => by show 3 + (i 2).val = 3 + (i 2).val; omega)

-- %44 = stablehlo.reshape %43 : (tensor<64x128x1xf32>) -> tensor<64x128xf32>
def val_main_v44 (x3 : (⟨S64x128x4, .f32⟩ : BufTy).Contents (Elt F)) : (⟨S64x128, .f32⟩ : BufTy).Contents (Elt F) :=
  shapeCast _ (val_main_v43 (F := F) x3) shapeCasts_S64x128x1_S64x128
abbrev idx_main_v44 (i : S64x128.Idx) : S64x128x1.Idx := fun a => match a with
  | ⟨0, _⟩ => ⟨((i 0).val * 128 + (i 1).val) / 128, by have h0 : (i 0).val < 64 := (i 0).isLt; have h1 : (i 1).val < 128 := (i 1).isLt; show ((i 0).val * 128 + (i 1).val) / 128 < 64; omega⟩
  | ⟨1, _⟩ => ⟨((i 0).val * 128 + (i 1).val) / 1 % 128, by have h0 : (i 0).val < 64 := (i 0).isLt; have h1 : (i 1).val < 128 := (i 1).isLt; show ((i 0).val * 128 + (i 1).val) / 1 % 128 < 128; omega⟩
  | ⟨2, _⟩ => ⟨0, Nat.one_pos⟩
theorem val_main_v44_apply (x3 : (⟨S64x128x4, .f32⟩ : BufTy).Contents (Elt F)) (i : S64x128.Idx) :
    val_main_v44 (F := F) x3 i = val_main_v43 (F := F) x3 (idx_main_v44 i) := by
  unfold val_main_v44
  generalize val_main_v43 (F := F) x3 = y
  exact shapeCast_apply y shapeCasts_S64x128x1_S64x128 i (idx_main_v44 i)
    (by rewrite [Shape.rowMajor_val_three, Shape.rowMajor_val_two]; have h0 : (i 0).val < 64 := (i 0).isLt; have h1 : (i 1).val < 128 := (i 1).isLt; show (((i 0).val * 128 + (i 1).val) / 128 * 128 + ((i 0).val * 128 + (i 1).val) / 1 % 128) * 1 + 0 = (i 0).val * 128 + (i 1).val; omega)

-- %45 = stablehlo.dot_general %42, %44, contracting_dims = [1] x [1], precision = [DEFAULT, DEFAULT] : (tensor<4x128x8190xf32>, tensor<64x128xf32>) -> tensor<4x8190x64xf32>
def val_main_v45 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) : (⟨S4x8190x64, .f32⟩ : BufTy).Contents (Elt F) :=
  Host.dotGeneral dot_S4x128x8190_S64x128_S4x8190x64_1_1_02_0_n_n none (val_main_v42 (F := F) x0 x1 x2) (val_main_v44 (F := F) x3)
theorem val_main_v45_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (i : S4x8190x64.Idx) :
    val_main_v45 (F := Ideal) x0 x1 x2 x3 i = ∑ k : Fin 128, (val_main_v42 (F := Ideal) x0 x1 x2) (lidx_main_v30 i k) * (val_main_v44 (F := Ideal) x3) (ridx_main_v30 i k) :=
  tapDot2_apply _ _ i

-- %46 = stablehlo.add %41, %45 : tensor<4x8190x64xf32>
def val_main_v46 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) : (⟨S4x8190x64, .f32⟩ : BufTy).Contents (Elt F) :=
  addf (val_main_v41 (F := F) x0 x1 x2 x3) (val_main_v45 (F := F) x0 x1 x2 x3)
theorem val_main_v46_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (i : S4x8190x64.Idx) :
    val_main_v46 (F := F) x0 x1 x2 x3 i = FloatOps.addf (val_main_v41 (F := F) x0 x1 x2 x3 i) (val_main_v45 (F := F) x0 x1 x2 x3 i) := rfl

-- %47 = stablehlo.transpose %46, dims = [0, 2, 1] : (tensor<4x8190x64xf32>) -> tensor<4x64x8190xf32>
def val_main_v47 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) : (⟨S4x64x8190, .f32⟩ : BufTy).Contents (Elt F) :=
  transpose S4x64x8190 [0, 2, 1] (val_main_v46 (F := F) x0 x1 x2 x3) transposes_S4x8190x64_S4x64x8190_0_2_1
abbrev idx_main_v47 (i : S4x64x8190.Idx) : S4x8190x64.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v47_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (i : S4x64x8190.Idx) :
    val_main_v47 (F := F) x0 x1 x2 x3 i = val_main_v46 (F := F) x0 x1 x2 x3 (idx_main_v47 i) := by
  unfold val_main_v47
  generalize val_main_v46 (F := F) x0 x1 x2 x3 = y
  exact transpose_apply [0, 2, 1] y transposes_S4x8190x64_S4x64x8190_0_2_1 i (idx_main_v47 i) (fun b => match b with
    | ⟨0, _⟩ => rfl
    | ⟨1, _⟩ => rfl
    | ⟨2, _⟩ => rfl)

-- %48 = stablehlo.broadcast_in_dim %arg4, dims = [1] : (tensor<64xf32>) -> tensor<1x64x1xf32>
def val_main_v48 (x4 : (⟨S64, .f32⟩ : BufTy).Contents (Elt F)) : (⟨S1x64x1, .f32⟩ : BufTy).Contents (Elt F) :=
  broadcastInDim S1x64x1 ![1] bcast_S64_S1x64x1_1 (x4)
abbrev idx_main_v48 (i : S1x64x1.Idx) : S64.Idx := fun a => match a with
  | ⟨0, _⟩ => ⟨(i 1).val, (i 1).isLt⟩
theorem val_main_v48_apply (x4 : (⟨S64, .f32⟩ : BufTy).Contents (Elt F)) (i : S1x64x1.Idx) :
    val_main_v48 (F := F) x4 i = x4 (idx_main_v48 i) := by
  unfold val_main_v48
  exact broadcastInDim_apply _ bcast_S64_S1x64x1_1 x4 i (idx_main_v48 i) (fun a => match a with
    | ⟨0, _⟩ => by show (i 1).val = if (64 : Nat) = 1 then 0 else (i 1).val; rw [if_neg (by decide)])

-- %49 = stablehlo.broadcast_in_dim %48, dims = [0, 1, 2] : (tensor<1x64x1xf32>) -> tensor<4x64x8190xf32>
def val_main_v49 (x4 : (⟨S64, .f32⟩ : BufTy).Contents (Elt F)) : (⟨S4x64x8190, .f32⟩ : BufTy).Contents (Elt F) :=
  broadcastInDim S4x64x8190 ![0, 1, 2] bcast_S1x64x1_S4x64x8190_0_1_2 (val_main_v48 (F := F) x4)
abbrev idx_main_v49 (i : S4x64x8190.Idx) : S1x64x1.Idx := fun a => match a with
  | ⟨0, _⟩ => ⟨0, Nat.one_pos⟩
  | ⟨1, _⟩ => ⟨(i 1).val, (i 1).isLt⟩
  | ⟨2, _⟩ => ⟨0, Nat.one_pos⟩
theorem val_main_v49_apply (x4 : (⟨S64, .f32⟩ : BufTy).Contents (Elt F)) (i : S4x64x8190.Idx) :
    val_main_v49 (F := F) x4 i = val_main_v48 (F := F) x4 (idx_main_v49 i) := by
  unfold val_main_v49
  generalize val_main_v48 (F := F) x4 = y
  exact broadcastInDim_apply _ bcast_S1x64x1_S4x64x8190_0_1_2 y i (idx_main_v49 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)]
    | ⟨2, _⟩ => by show 0 = if (1 : Nat) = 1 then 0 else (i 2).val; rw [if_pos rfl])

-- %50 = stablehlo.add %47, %49 : tensor<4x64x8190xf32>
def val_main_v50 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) : (⟨S4x64x8190, .f32⟩ : BufTy).Contents (Elt F) :=
  addf (val_main_v47 (F := F) x0 x1 x2 x3) (val_main_v49 (F := F) x4)
theorem val_main_v50_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (i : S4x64x8190.Idx) :
    val_main_v50 (F := F) x0 x1 x2 x3 x4 i = FloatOps.addf (val_main_v47 (F := F) x0 x1 x2 x3 i) (val_main_v49 (F := F) x4 i) := rfl

-- %51 = stablehlo.tanh %50 : tensor<4x64x8190xf32>
def val_main_v51 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) : (⟨S4x64x8190, .f32⟩ : BufTy).Contents (Elt F) :=
  Host.tanh (val_main_v50 (F := F) x0 x1 x2 x3 x4)
theorem val_main_v51_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (i : S4x64x8190.Idx) :
    val_main_v51 (F := F) x0 x1 x2 x3 x4 i = FloatOps.hostUnary .tanh (val_main_v50 (F := F) x0 x1 x2 x3 x4 i) := rfl

-- %52 = stablehlo.transpose %51, dims = [0, 2, 1] : (tensor<4x64x8190xf32>) -> tensor<4x8190x64xf32>
def val_main_v52 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) : (⟨S4x8190x64, .f32⟩ : BufTy).Contents (Elt F) :=
  transpose S4x8190x64 [0, 2, 1] (val_main_v51 (F := F) x0 x1 x2 x3 x4) transposes_S4x64x8190_S4x8190x64_0_2_1
abbrev idx_main_v52 (i : S4x8190x64.Idx) : S4x64x8190.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v52_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (i : S4x8190x64.Idx) :
    val_main_v52 (F := F) x0 x1 x2 x3 x4 i = val_main_v51 (F := F) x0 x1 x2 x3 x4 (idx_main_v52 i) := by
  unfold val_main_v52
  generalize val_main_v51 (F := F) x0 x1 x2 x3 x4 = y
  exact transpose_apply [0, 2, 1] y transposes_S4x64x8190_S4x8190x64_0_2_1 i (idx_main_v52 i) (fun b => match b with
    | ⟨0, _⟩ => rfl
    | ⟨1, _⟩ => rfl
    | ⟨2, _⟩ => rfl)

-- %53 = stablehlo.reshape %52 : (tensor<4x8190x64xf32>) -> tensor<32760x64xf32>
def val_main_v53 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) : (⟨S32760x64, .f32⟩ : BufTy).Contents (Elt F) :=
  shapeCast _ (val_main_v52 (F := F) x0 x1 x2 x3 x4) shapeCasts_S4x8190x64_S32760x64
abbrev idx_main_v53 (i : S32760x64.Idx) : S4x8190x64.Idx := fun a => match a with
  | ⟨0, _⟩ => ⟨((i 0).val * 64 + (i 1).val) / 524160, by have h0 : (i 0).val < 32760 := (i 0).isLt; have h1 : (i 1).val < 64 := (i 1).isLt; show ((i 0).val * 64 + (i 1).val) / 524160 < 4; omega⟩
  | ⟨1, _⟩ => ⟨((i 0).val * 64 + (i 1).val) / 64 % 8190, by have h0 : (i 0).val < 32760 := (i 0).isLt; have h1 : (i 1).val < 64 := (i 1).isLt; show ((i 0).val * 64 + (i 1).val) / 64 % 8190 < 8190; omega⟩
  | ⟨2, _⟩ => ⟨((i 0).val * 64 + (i 1).val) % 64, by have h0 : (i 0).val < 32760 := (i 0).isLt; have h1 : (i 1).val < 64 := (i 1).isLt; show ((i 0).val * 64 + (i 1).val) % 64 < 64; omega⟩
theorem val_main_v53_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (i : S32760x64.Idx) :
    val_main_v53 (F := F) x0 x1 x2 x3 x4 i = val_main_v52 (F := F) x0 x1 x2 x3 x4 (idx_main_v53 i) := by
  unfold val_main_v53
  generalize val_main_v52 (F := F) x0 x1 x2 x3 x4 = y
  exact shapeCast_apply y shapeCasts_S4x8190x64_S32760x64 i (idx_main_v53 i)
    (by rewrite [Shape.rowMajor_val_three, Shape.rowMajor_val_two]; have h0 : (i 0).val < 32760 := (i 0).isLt; have h1 : (i 1).val < 64 := (i 1).isLt; show (((i 0).val * 64 + (i 1).val) / 524160 * 8190 + ((i 0).val * 64 + (i 1).val) / 64 % 8190) * 64 + ((i 0).val * 64 + (i 1).val) % 64 = (i 0).val * 64 + (i 1).val; omega)

-- %54 = stablehlo.multiply %53, %53 : tensor<32760x64xf32>
def val_main_v54 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) : (⟨S32760x64, .f32⟩ : BufTy).Contents (Elt F) :=
  mulf (val_main_v53 (F := F) x0 x1 x2 x3 x4) (val_main_v53 (F := F) x0 x1 x2 x3 x4)
theorem val_main_v54_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (i : S32760x64.Idx) :
    val_main_v54 (F := F) x0 x1 x2 x3 x4 i = FloatOps.mulf (val_main_v53 (F := F) x0 x1 x2 x3 x4 i) (val_main_v53 (F := F) x0 x1 x2 x3 x4 i) := rfl

-- %cst_1 = stablehlo.constant dense<0.000000e+00> : tensor<f32>
def val_main_cst_1 : (⟨S_, .f32⟩ : BufTy).Contents (Elt F) :=
  constant S_ .f32 0x00000000#32

-- %55 = stablehlo.reduce(%54 init: %cst_1) applies stablehlo.add across dimensions = [1] : (tensor<32760x64xf32>, tensor<f32>) -> tensor<32760xf32> {
def val_main_v55 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) : (⟨S32760, .f32⟩ : BufTy).Contents (Elt F) :=
  Host.reduceAdd (val_main_v54 (F := F) x0 x1 x2 x3 x4) (val_main_cst_1 (F := F)) reducesTo_S32760x64_S32760_d1 h_S_
abbrev idx_main_v55 (i : S32760.Idx) (k : Fin 64) : S32760x64.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v55_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (x4 : (⟨S64, .f32⟩ : BufTy).Contents (Elt Ideal)) (i : S32760.Idx) :
    val_main_v55 (F := Ideal) x0 x1 x2 x3 x4 i = (val_main_cst_1 (F := Ideal)) (Shape.Idx.first h_S_) + ∑ k : Fin 64, (val_main_v54 (F := Ideal) x0 x1 x2 x3 x4) (idx_main_v55 i k) := by
  unfold val_main_v55
  generalize val_main_v54 (F := Ideal) x0 x1 x2 x3 x4 = y0
  simp only [Host.reduceAdd, Ideal.hostReduceAdd_def]
  rw [Ideal.hostReduceAdd_single reducesTo_S32760x64_S32760_d1 (by decide)]
  refine congrArg (_ + ·) (Finset.sum_congr rfl fun k _ => ?_)
  exact congrArg y0 (funext fun a => Fin.ext (by match a with | ⟨0, _⟩ => rfl | ⟨1, _⟩ => rfl))

-- %56 = stablehlo.broadcast_in_dim %55, dims = [0] : (tensor<32760xf32>) -> tensor<32760x1xf32>
def val_main_v56 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) : (⟨S32760x1, .f32⟩ : BufTy).Contents (Elt F) :=
  broadcastInDim S32760x1 ![0] bcast_S32760_S32760x1_0 (val_main_v55 (F := F) x0 x1 x2 x3 x4)
abbrev idx_main_v56 (i : S32760x1.Idx) : S32760.Idx := fun a => match a with
  | ⟨0, _⟩ => ⟨(i 0).val, (i 0).isLt⟩
theorem val_main_v56_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (i : S32760x1.Idx) :
    val_main_v56 (F := F) x0 x1 x2 x3 x4 i = val_main_v55 (F := F) x0 x1 x2 x3 x4 (idx_main_v56 i) := by
  unfold val_main_v56
  generalize val_main_v55 (F := F) x0 x1 x2 x3 x4 = y
  exact broadcastInDim_apply _ bcast_S32760_S32760x1_0 y i (idx_main_v56 i) (fun a => match a with
    | ⟨0, _⟩ => by show (i 0).val = if (32760 : Nat) = 1 then 0 else (i 0).val; rw [if_neg (by decide)])

-- %cst_2 = stablehlo.constant dense<0.000000e+00> : tensor<f32>
def val_main_cst_2 : (⟨S_, .f32⟩ : BufTy).Contents (Elt F) :=
  constant S_ .f32 0x00000000#32

-- %57 = stablehlo.reduce(%arg5 init: %cst_2) applies stablehlo.add across dimensions = [1] : (tensor<1024x64xf32>, tensor<f32>) -> tensor<1024xf32> {
def val_main_v57 (x5 : (⟨S1024x64, .f32⟩ : BufTy).Contents (Elt F)) : (⟨S1024, .f32⟩ : BufTy).Contents (Elt F) :=
  Host.reduceAdd (x5) (val_main_cst_2 (F := F)) reducesTo_S1024x64_S1024_d1 h_S_
abbrev idx_main_v57 (i : S1024.Idx) (k : Fin 64) : S1024x64.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v57_apply (x5 : (⟨S1024x64, .f32⟩ : BufTy).Contents (Elt Ideal)) (i : S1024.Idx) :
    val_main_v57 (F := Ideal) x5 i = (val_main_cst_2 (F := Ideal)) (Shape.Idx.first h_S_) + ∑ k : Fin 64, x5 (idx_main_v57 i k) := by
  unfold val_main_v57
  simp only [Host.reduceAdd, Ideal.hostReduceAdd_def]
  rw [Ideal.hostReduceAdd_single reducesTo_S1024x64_S1024_d1 (by decide)]
  refine congrArg (_ + ·) (Finset.sum_congr rfl fun k _ => ?_)
  exact congrArg x5 (funext fun a => Fin.ext (by match a with | ⟨0, _⟩ => rfl | ⟨1, _⟩ => rfl))

-- %58 = stablehlo.broadcast_in_dim %57, dims = [1] : (tensor<1024xf32>) -> tensor<1x1024xf32>
def val_main_v58 (x5 : (⟨S1024x64, .f32⟩ : BufTy).Contents (Elt F)) : (⟨S1x1024, .f32⟩ : BufTy).Contents (Elt F) :=
  broadcastInDim S1x1024 ![1] bcast_S1024_S1x1024_1 (val_main_v57 (F := F) x5)
abbrev idx_main_v58 (i : S1x1024.Idx) : S1024.Idx := fun a => match a with
  | ⟨0, _⟩ => ⟨(i 1).val, (i 1).isLt⟩
theorem val_main_v58_apply (x5 : (⟨S1024x64, .f32⟩ : BufTy).Contents (Elt F)) (i : S1x1024.Idx) :
    val_main_v58 (F := F) x5 i = val_main_v57 (F := F) x5 (idx_main_v58 i) := by
  unfold val_main_v58
  generalize val_main_v57 (F := F) x5 = y
  exact broadcastInDim_apply _ bcast_S1024_S1x1024_1 y i (idx_main_v58 i) (fun a => match a with
    | ⟨0, _⟩ => by show (i 1).val = if (1024 : Nat) = 1 then 0 else (i 1).val; rw [if_neg (by decide)])

-- %59 = stablehlo.broadcast_in_dim %56, dims = [0, 1] : (tensor<32760x1xf32>) -> tensor<32760x1024xf32>
def val_main_v59 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) : (⟨S32760x1024, .f32⟩ : BufTy).Contents (Elt F) :=
  broadcastInDim S32760x1024 ![0, 1] bcast_S32760x1_S32760x1024_0_1 (val_main_v56 (F := F) x0 x1 x2 x3 x4)
abbrev idx_main_v59 (i : S32760x1024.Idx) : S32760x1.Idx := fun a => match a with
  | ⟨0, _⟩ => ⟨(i 0).val, (i 0).isLt⟩
  | ⟨1, _⟩ => ⟨0, Nat.one_pos⟩
theorem val_main_v59_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (i : S32760x1024.Idx) :
    val_main_v59 (F := F) x0 x1 x2 x3 x4 i = val_main_v56 (F := F) x0 x1 x2 x3 x4 (idx_main_v59 i) := by
  unfold val_main_v59
  generalize val_main_v56 (F := F) x0 x1 x2 x3 x4 = y
  exact broadcastInDim_apply _ bcast_S32760x1_S32760x1024_0_1 y i (idx_main_v59 i) (fun a => match a with
    | ⟨0, _⟩ => by show (i 0).val = if (32760 : Nat) = 1 then 0 else (i 0).val; rw [if_neg (by decide)]
    | ⟨1, _⟩ => by show 0 = if (1 : Nat) = 1 then 0 else (i 1).val; rw [if_pos rfl])

-- %60 = stablehlo.broadcast_in_dim %58, dims = [0, 1] : (tensor<1x1024xf32>) -> tensor<32760x1024xf32>
def val_main_v60 (x5 : (⟨S1024x64, .f32⟩ : BufTy).Contents (Elt F)) : (⟨S32760x1024, .f32⟩ : BufTy).Contents (Elt F) :=
  broadcastInDim S32760x1024 ![0, 1] bcast_S1x1024_S32760x1024_0_1 (val_main_v58 (F := F) x5)
abbrev idx_main_v60 (i : S32760x1024.Idx) : S1x1024.Idx := fun a => match a with
  | ⟨0, _⟩ => ⟨0, Nat.one_pos⟩
  | ⟨1, _⟩ => ⟨(i 1).val, (i 1).isLt⟩
theorem val_main_v60_apply (x5 : (⟨S1024x64, .f32⟩ : BufTy).Contents (Elt F)) (i : S32760x1024.Idx) :
    val_main_v60 (F := F) x5 i = val_main_v58 (F := F) x5 (idx_main_v60 i) := by
  unfold val_main_v60
  generalize val_main_v58 (F := F) x5 = y
  exact broadcastInDim_apply _ bcast_S1x1024_S32760x1024_0_1 y i (idx_main_v60 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

-- %61 = stablehlo.add %59, %60 : tensor<32760x1024xf32>
def val_main_v61 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S32760x1024, .f32⟩ : BufTy).Contents (Elt F) :=
  addf (val_main_v59 (F := F) x0 x1 x2 x3 x4) (val_main_v60 (F := F) x5)
theorem val_main_v61_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S32760x1024.Idx) :
    val_main_v61 (F := F) x0 x1 x2 x3 x4 x5 i = FloatOps.addf (val_main_v59 (F := F) x0 x1 x2 x3 x4 i) (val_main_v60 (F := F) x5 i) := rfl

-- %cst_3 = stablehlo.constant dense<2.000000e+00> : tensor<f32>
def val_main_cst_3 : (⟨S_, .f32⟩ : BufTy).Contents (Elt F) :=
  constant S_ .f32 0x40000000#32

-- %62 = stablehlo.broadcast_in_dim %cst_3, dims = [] : (tensor<f32>) -> tensor<32760x64xf32>
def val_main_v62 : (⟨S32760x64, .f32⟩ : BufTy).Contents (Elt F) :=
  broadcastInDim S32760x64 ![] bcast_S_S32760x64 (val_main_cst_3 (F := F))
abbrev idx_main_v62 (i : S32760x64.Idx) : S_.Idx := fun a => a.elim0
theorem val_main_v62_apply (i : S32760x64.Idx) :
    val_main_v62 (F := F) i = val_main_cst_3 (F := F) (idx_main_v62 i) := by
  unfold val_main_v62
  generalize val_main_cst_3 (F := F) = y
  exact broadcastInDim_apply _ bcast_S_S32760x64 y i (idx_main_v62 i) (fun a => a.elim0)

-- %63 = stablehlo.multiply %62, %53 : tensor<32760x64xf32>
def val_main_v63 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) : (⟨S32760x64, .f32⟩ : BufTy).Contents (Elt F) :=
  mulf (val_main_v62 (F := F)) (val_main_v53 (F := F) x0 x1 x2 x3 x4)
theorem val_main_v63_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (i : S32760x64.Idx) :
    val_main_v63 (F := F) x0 x1 x2 x3 x4 i = FloatOps.mulf (val_main_v62 (F := F) i) (val_main_v53 (F := F) x0 x1 x2 x3 x4 i) := rfl

-- %64 = stablehlo.transpose %arg5, dims = [1, 0] : (tensor<1024x64xf32>) -> tensor<64x1024xf32>
def val_main_v64 (x5 : (⟨S1024x64, .f32⟩ : BufTy).Contents (Elt F)) : (⟨S64x1024, .f32⟩ : BufTy).Contents (Elt F) :=
  transpose S64x1024 [1, 0] (x5) transposes_S1024x64_S64x1024_1_0
abbrev idx_main_v64 (i : S64x1024.Idx) : S1024x64.Idx := fun a => match a with
  | ⟨0, _⟩ => ⟨(i 1).val, (i 1).isLt⟩
  | ⟨1, _⟩ => ⟨(i 0).val, (i 0).isLt⟩
theorem val_main_v64_apply (x5 : (⟨S1024x64, .f32⟩ : BufTy).Contents (Elt F)) (i : S64x1024.Idx) :
    val_main_v64 (F := F) x5 i = x5 (idx_main_v64 i) := by
  unfold val_main_v64
  exact transpose_apply [1, 0] x5 transposes_S1024x64_S64x1024_1_0 i (idx_main_v64 i) (fun b => match b with
    | ⟨0, _⟩ => rfl
    | ⟨1, _⟩ => rfl)

-- %65 = stablehlo.dot_general %63, %64, contracting_dims = [1] x [0], precision = [DEFAULT, DEFAULT] : (tensor<32760x64xf32>, tensor<64x1024xf32>) -> tensor<32760x1024xf32>
def val_main_v65 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S32760x1024, .f32⟩ : BufTy).Contents (Elt F) :=
  Host.dotGeneral dot_S32760x64_S64x1024_S32760x1024_1_0_0_1_n_n none (val_main_v63 (F := F) x0 x1 x2 x3 x4) (val_main_v64 (F := F) x5)
theorem lhs_main_v65_0 (i : S32760x1024.Idx) (q : dot_S32760x64_S64x1024_S32760x1024_1_0_0_1_n_n.contr.Idx) :
    (dot_S32760x64_S64x1024_S32760x1024_1_0_0_1_n_n.lhsIdx i q 0).val = (i 0).val := by
  unfold DotDims.lhsIdx
  rw [dif_neg (show ¬(0 : Fin S32760x64.rank) ∈ dot_S32760x64_S64x1024_S32760x1024_1_0_0_1_n_n.lhsBatch by decide), dif_pos (show (0 : Fin S32760x64.rank) ∈ dot_S32760x64_S64x1024_S32760x1024_1_0_0_1_n_n.lhsNonContracting by decide)]
  rfl
theorem lhs_main_v65_1 (i : S32760x1024.Idx) (q : dot_S32760x64_S64x1024_S32760x1024_1_0_0_1_n_n.contr.Idx) :
    (dot_S32760x64_S64x1024_S32760x1024_1_0_0_1_n_n.lhsIdx i q 1).val = (q ⟨0, by decide⟩).val :=
  dot_S32760x64_S64x1024_S32760x1024_1_0_0_1_n_n.lhsIdx_val_of_single rfl i q
theorem rhs_main_v65_0 (i : S32760x1024.Idx) (q : dot_S32760x64_S64x1024_S32760x1024_1_0_0_1_n_n.contr.Idx) :
    (dot_S32760x64_S64x1024_S32760x1024_1_0_0_1_n_n.rhsIdx i q 0).val = (q ⟨0, by decide⟩).val :=
  dot_S32760x64_S64x1024_S32760x1024_1_0_0_1_n_n.rhsIdx_val_of_single rfl i q
theorem rhs_main_v65_1 (i : S32760x1024.Idx) (q : dot_S32760x64_S64x1024_S32760x1024_1_0_0_1_n_n.contr.Idx) :
    (dot_S32760x64_S64x1024_S32760x1024_1_0_0_1_n_n.rhsIdx i q 1).val = (i 1).val := by
  unfold DotDims.rhsIdx
  rw [dif_neg (show ¬(1 : Fin S64x1024.rank) ∈ dot_S32760x64_S64x1024_S32760x1024_1_0_0_1_n_n.rhsBatch by decide), dif_pos (show (1 : Fin S64x1024.rank) ∈ dot_S32760x64_S64x1024_S32760x1024_1_0_0_1_n_n.rhsNonContracting by decide)]
  rfl
abbrev lidx_main_v65 (i : S32760x1024.Idx) (k : Fin 64) : S32760x64.Idx := fun a => match a with
  | ⟨0, _⟩ => ⟨(i 0).val, (i 0).isLt⟩
  | ⟨1, _⟩ => ⟨k.val, k.isLt⟩
abbrev ridx_main_v65 (i : S32760x1024.Idx) (k : Fin 64) : S64x1024.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v65_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (x4 : (⟨S64, .f32⟩ : BufTy).Contents (Elt Ideal)) (x5 : (⟨S1024x64, .f32⟩ : BufTy).Contents (Elt Ideal)) (i : S32760x1024.Idx) :
    val_main_v65 (F := Ideal) x0 x1 x2 x3 x4 x5 i = ∑ k : Fin 64, (val_main_v63 (F := Ideal) x0 x1 x2 x3 x4) (lidx_main_v65 i k) * (val_main_v64 (F := Ideal) x5) (ridx_main_v65 i k) := by
  unfold val_main_v65
  generalize val_main_v63 (F := Ideal) x0 x1 x2 x3 x4 = y0
  generalize val_main_v64 (F := Ideal) x5 = y1
  simp only [Host.dotGeneral]
  rw [Ideal.dotGeneral_apply, ← Equiv.sum_comp (ValueIdx.contrEquiv1 dot_S32760x64_S64x1024_S32760x1024_1_0_0_1_n_n 64 rfl rfl).symm]
  refine Finset.sum_congr rfl fun k _ => ?_
  have hk := ValueIdx.contrEquiv1_symm_val dot_S32760x64_S64x1024_S32760x1024_1_0_0_1_n_n 64 rfl rfl k
  have el : dot_S32760x64_S64x1024_S32760x1024_1_0_0_1_n_n.lhsIdx i ((ValueIdx.contrEquiv1 dot_S32760x64_S64x1024_S32760x1024_1_0_0_1_n_n 64 rfl rfl).symm k) = lidx_main_v65 i k := funext fun a => Fin.ext (by
    match a with
    | ⟨0, _⟩ => exact lhs_main_v65_0 _ _
    | ⟨1, _⟩ => exact (lhs_main_v65_1 _ _).trans hk)
  have er : dot_S32760x64_S64x1024_S32760x1024_1_0_0_1_n_n.rhsIdx i ((ValueIdx.contrEquiv1 dot_S32760x64_S64x1024_S32760x1024_1_0_0_1_n_n 64 rfl rfl).symm k) = ridx_main_v65 i k := funext fun a => Fin.ext (by
    match a with
    | ⟨0, _⟩ => exact (rhs_main_v65_0 _ _).trans hk
    | ⟨1, _⟩ => exact rhs_main_v65_1 _ _)
  rw [el, er]

-- %66 = stablehlo.subtract %61, %65 : tensor<32760x1024xf32>
def val_main_v66 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S32760x1024, .f32⟩ : BufTy).Contents (Elt F) :=
  subf (val_main_v61 (F := F) x0 x1 x2 x3 x4 x5) (val_main_v65 (F := F) x0 x1 x2 x3 x4 x5)
theorem val_main_v66_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S32760x1024.Idx) :
    val_main_v66 (F := F) x0 x1 x2 x3 x4 x5 i = FloatOps.subf (val_main_v61 (F := F) x0 x1 x2 x3 x4 x5 i) (val_main_v65 (F := F) x0 x1 x2 x3 x4 x5 i) := rfl

-- @argmin's %0 = stablehlo.iota dim = 1 : tensor<32760x1024xi32>, in %67 = func.call @argmin(…) (record main_call0)
def val_main_call0_v0 : (⟨S32760x1024, .i32⟩ : BufTy).Contents (Elt F) :=
  iotaInDim S32760x1024 32 1

-- @argmin's %cst = stablehlo.constant dense<0x7F800000> : tensor<f32>, in %67 = func.call @argmin(…) (record main_call0)
def val_main_call0_cst : (⟨S_, .f32⟩ : BufTy).Contents (Elt F) :=
  constant S_ .f32 0x7F800000#32

-- @argmin's %c = stablehlo.constant dense<0> : tensor<i32>, in %67 = func.call @argmin(…) (record main_call0)
def val_main_call0_c : (⟨S_, .i32⟩ : BufTy).Contents (Elt F) :=
  constantI S_ 32 0#32

-- @argmin's %1:2 = stablehlo.reduce(%arg0 init: %cst), (%0 init: %c) across dimensions = [1] : (tensor<32760x1024xf32>, tensor<32760x1024xi32>, tensor<f32>, tensor<i32>) -> (tensor<32760xf32>, tensor<32760xi32>) reducer(%arg1: tensor<f32>, %arg3: tensor<f32>) (%arg2: tensor<i32>, %arg4: tensor<i32>) {, in %67 = func.call @argmin(…) (record main_call0)

-- %67 = func.call @argmin(…) (record main_call0) result 0: @argmin's %1:2 = stablehlo.reduce(%arg0 init: %cst), (%0 init: %c) across dimensions = [1] : (tensor<32760x1024xf32>, tensor<32760x1024xi32>, tensor<f32>, tensor<i32>) -> (tensor<32760xf32>, tensor<32760xi32>) reducer(%arg1: tensor<f32>, %arg3: tensor<f32>) (%arg2: tensor<i32>, %arg4: tensor<i32>) {
def val_main_v67 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S32760, .i32⟩ : BufTy).Contents (Elt F) :=
  argIdx (val_main_v66 (F := F) x0 x1 x2 x3 x4 x5) (val_main_call0_v0 (F := F)) (val_main_call0_cst (F := F)) (val_main_call0_c (F := F))

-- @_one_hot's %0 = stablehlo.broadcast_in_dim %arg0, dims = [0] : (tensor<32760xi32>) -> tensor<32760x1xi32>, in %68 = func.call @_one_hot(…) (record main_call1)
def val_main_call1_v0 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S32760x1, .i32⟩ : BufTy).Contents (Elt F) :=
  broadcastInDim S32760x1 ![0] bcast_S32760_S32760x1_0 (val_main_v67 (F := F) x0 x1 x2 x3 x4 x5)
abbrev idx_main_call1_v0 (i : S32760x1.Idx) : S32760.Idx := fun a => match a with
  | ⟨0, _⟩ => ⟨(i 0).val, (i 0).isLt⟩
theorem val_main_call1_v0_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S32760x1.Idx) :
    val_main_call1_v0 (F := F) x0 x1 x2 x3 x4 x5 i = val_main_v67 (F := F) x0 x1 x2 x3 x4 x5 (idx_main_call1_v0 i) := by
  unfold val_main_call1_v0
  generalize val_main_v67 (F := F) x0 x1 x2 x3 x4 x5 = y
  exact broadcastInDim_apply _ bcast_S32760_S32760x1_0 y i (idx_main_call1_v0 i) (fun a => match a with
    | ⟨0, _⟩ => by show (i 0).val = if (32760 : Nat) = 1 then 0 else (i 0).val; rw [if_neg (by decide)])

-- @_one_hot's %1 = stablehlo.iota dim = 1 : tensor<1x1024xi32>, in %68 = func.call @_one_hot(…) (record main_call1)
def val_main_call1_v1 : (⟨S1x1024, .i32⟩ : BufTy).Contents (Elt F) :=
  iotaInDim S1x1024 32 1
theorem val_main_call1_v1_apply (i : S1x1024.Idx) :
    val_main_call1_v1 (F := F) i = BitVec.ofNat 32 (i 1).val := rfl

-- @_one_hot's %2 = stablehlo.broadcast_in_dim %0, dims = [0, 1] : (tensor<32760x1xi32>) -> tensor<32760x1024xi32>, in %68 = func.call @_one_hot(…) (record main_call1)
def val_main_call1_v2 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S32760x1024, .i32⟩ : BufTy).Contents (Elt F) :=
  broadcastInDim S32760x1024 ![0, 1] bcast_S32760x1_S32760x1024_0_1 (val_main_call1_v0 (F := F) x0 x1 x2 x3 x4 x5)
abbrev idx_main_call1_v2 (i : S32760x1024.Idx) : S32760x1.Idx := fun a => match a with
  | ⟨0, _⟩ => ⟨(i 0).val, (i 0).isLt⟩
  | ⟨1, _⟩ => ⟨0, Nat.one_pos⟩
theorem val_main_call1_v2_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S32760x1024.Idx) :
    val_main_call1_v2 (F := F) x0 x1 x2 x3 x4 x5 i = val_main_call1_v0 (F := F) x0 x1 x2 x3 x4 x5 (idx_main_call1_v2 i) := by
  unfold val_main_call1_v2
  generalize val_main_call1_v0 (F := F) x0 x1 x2 x3 x4 x5 = y
  exact broadcastInDim_apply _ bcast_S32760x1_S32760x1024_0_1 y i (idx_main_call1_v2 i) (fun a => match a with
    | ⟨0, _⟩ => by show (i 0).val = if (32760 : Nat) = 1 then 0 else (i 0).val; rw [if_neg (by decide)]
    | ⟨1, _⟩ => by show 0 = if (1 : Nat) = 1 then 0 else (i 1).val; rw [if_pos rfl])

-- @_one_hot's %3 = stablehlo.broadcast_in_dim %1, dims = [0, 1] : (tensor<1x1024xi32>) -> tensor<32760x1024xi32>, in %68 = func.call @_one_hot(…) (record main_call1)
def val_main_call1_v3 : (⟨S32760x1024, .i32⟩ : BufTy).Contents (Elt F) :=
  broadcastInDim S32760x1024 ![0, 1] bcast_S1x1024_S32760x1024_0_1 (val_main_call1_v1 (F := F))
abbrev idx_main_call1_v3 (i : S32760x1024.Idx) : S1x1024.Idx := fun a => match a with
  | ⟨0, _⟩ => ⟨0, Nat.one_pos⟩
  | ⟨1, _⟩ => ⟨(i 1).val, (i 1).isLt⟩
theorem val_main_call1_v3_apply (i : S32760x1024.Idx) :
    val_main_call1_v3 (F := F) i = val_main_call1_v1 (F := F) (idx_main_call1_v3 i) := by
  unfold val_main_call1_v3
  generalize val_main_call1_v1 (F := F) = y
  exact broadcastInDim_apply _ bcast_S1x1024_S32760x1024_0_1 y i (idx_main_call1_v3 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

-- @_one_hot's %4 = stablehlo.compare EQ, %2, %3, SIGNED : (tensor<32760x1024xi32>, tensor<32760x1024xi32>) -> tensor<32760x1024xi1>, in %68 = func.call @_one_hot(…) (record main_call1)
def val_main_call1_v4 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S32760x1024, .i1⟩ : BufTy).Contents (Elt F) :=
  cmpi .eq (val_main_call1_v2 (F := F) x0 x1 x2 x3 x4 x5) (val_main_call1_v3 (F := F))
theorem val_main_call1_v4_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S32760x1024.Idx) :
    val_main_call1_v4 (F := F) x0 x1 x2 x3 x4 x5 i = IntOp.cmpi .eq (val_main_call1_v2 (F := F) x0 x1 x2 x3 x4 x5 i) (val_main_call1_v3 (F := F) i) := rfl

-- %68 = func.call @_one_hot(…) (record main_call1) result 0: @_one_hot's %5 = stablehlo.convert %4 : (tensor<32760x1024xi1>) -> tensor<32760x1024xf32>
def val_main_v68 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S32760x1024, .f32⟩ : BufTy).Contents (Elt F) :=
  uitofp .f32 (val_main_call1_v4 (F := F) x0 x1 x2 x3 x4 x5)
theorem val_main_v68_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S32760x1024.Idx) :
    val_main_v68 (F := F) x0 x1 x2 x3 x4 x5 i = FloatOps.uitofp .f32 (val_main_call1_v4 (F := F) x0 x1 x2 x3 x4 x5 i) := rfl

-- %69 = stablehlo.dot_general %68, %arg5, contracting_dims = [1] x [0], precision = [DEFAULT, DEFAULT] : (tensor<32760x1024xf32>, tensor<1024x64xf32>) -> tensor<32760x64xf32>
def val_main_v69 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S32760x64, .f32⟩ : BufTy).Contents (Elt F) :=
  Host.dotGeneral dot_S32760x1024_S1024x64_S32760x64_1_0_0_1_n_n none (val_main_v68 (F := F) x0 x1 x2 x3 x4 x5) (x5)
theorem lhs_main_v69_0 (i : S32760x64.Idx) (q : dot_S32760x1024_S1024x64_S32760x64_1_0_0_1_n_n.contr.Idx) :
    (dot_S32760x1024_S1024x64_S32760x64_1_0_0_1_n_n.lhsIdx i q 0).val = (i 0).val := by
  unfold DotDims.lhsIdx
  rw [dif_neg (show ¬(0 : Fin S32760x1024.rank) ∈ dot_S32760x1024_S1024x64_S32760x64_1_0_0_1_n_n.lhsBatch by decide), dif_pos (show (0 : Fin S32760x1024.rank) ∈ dot_S32760x1024_S1024x64_S32760x64_1_0_0_1_n_n.lhsNonContracting by decide)]
  rfl
theorem lhs_main_v69_1 (i : S32760x64.Idx) (q : dot_S32760x1024_S1024x64_S32760x64_1_0_0_1_n_n.contr.Idx) :
    (dot_S32760x1024_S1024x64_S32760x64_1_0_0_1_n_n.lhsIdx i q 1).val = (q ⟨0, by decide⟩).val :=
  dot_S32760x1024_S1024x64_S32760x64_1_0_0_1_n_n.lhsIdx_val_of_single rfl i q
theorem rhs_main_v69_0 (i : S32760x64.Idx) (q : dot_S32760x1024_S1024x64_S32760x64_1_0_0_1_n_n.contr.Idx) :
    (dot_S32760x1024_S1024x64_S32760x64_1_0_0_1_n_n.rhsIdx i q 0).val = (q ⟨0, by decide⟩).val :=
  dot_S32760x1024_S1024x64_S32760x64_1_0_0_1_n_n.rhsIdx_val_of_single rfl i q
theorem rhs_main_v69_1 (i : S32760x64.Idx) (q : dot_S32760x1024_S1024x64_S32760x64_1_0_0_1_n_n.contr.Idx) :
    (dot_S32760x1024_S1024x64_S32760x64_1_0_0_1_n_n.rhsIdx i q 1).val = (i 1).val := by
  unfold DotDims.rhsIdx
  rw [dif_neg (show ¬(1 : Fin S1024x64.rank) ∈ dot_S32760x1024_S1024x64_S32760x64_1_0_0_1_n_n.rhsBatch by decide), dif_pos (show (1 : Fin S1024x64.rank) ∈ dot_S32760x1024_S1024x64_S32760x64_1_0_0_1_n_n.rhsNonContracting by decide)]
  rfl
abbrev lidx_main_v69 (i : S32760x64.Idx) (k : Fin 1024) : S32760x1024.Idx := fun a => match a with
  | ⟨0, _⟩ => ⟨(i 0).val, (i 0).isLt⟩
  | ⟨1, _⟩ => ⟨k.val, k.isLt⟩
abbrev ridx_main_v69 (i : S32760x64.Idx) (k : Fin 1024) : S1024x64.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v69_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (x4 : (⟨S64, .f32⟩ : BufTy).Contents (Elt Ideal)) (x5 : (⟨S1024x64, .f32⟩ : BufTy).Contents (Elt Ideal)) (i : S32760x64.Idx) :
    val_main_v69 (F := Ideal) x0 x1 x2 x3 x4 x5 i = ∑ k : Fin 1024, (val_main_v68 (F := Ideal) x0 x1 x2 x3 x4 x5) (lidx_main_v69 i k) * x5 (ridx_main_v69 i k) := by
  unfold val_main_v69
  generalize val_main_v68 (F := Ideal) x0 x1 x2 x3 x4 x5 = y0
  simp only [Host.dotGeneral]
  rw [Ideal.dotGeneral_apply, ← Equiv.sum_comp (ValueIdx.contrEquiv1 dot_S32760x1024_S1024x64_S32760x64_1_0_0_1_n_n 1024 rfl rfl).symm]
  refine Finset.sum_congr rfl fun k _ => ?_
  have hk := ValueIdx.contrEquiv1_symm_val dot_S32760x1024_S1024x64_S32760x64_1_0_0_1_n_n 1024 rfl rfl k
  have el : dot_S32760x1024_S1024x64_S32760x64_1_0_0_1_n_n.lhsIdx i ((ValueIdx.contrEquiv1 dot_S32760x1024_S1024x64_S32760x64_1_0_0_1_n_n 1024 rfl rfl).symm k) = lidx_main_v69 i k := funext fun a => Fin.ext (by
    match a with
    | ⟨0, _⟩ => exact lhs_main_v69_0 _ _
    | ⟨1, _⟩ => exact (lhs_main_v69_1 _ _).trans hk)
  have er : dot_S32760x1024_S1024x64_S32760x64_1_0_0_1_n_n.rhsIdx i ((ValueIdx.contrEquiv1 dot_S32760x1024_S1024x64_S32760x64_1_0_0_1_n_n 1024 rfl rfl).symm k) = ridx_main_v69 i k := funext fun a => Fin.ext (by
    match a with
    | ⟨0, _⟩ => exact (rhs_main_v69_0 _ _).trans hk
    | ⟨1, _⟩ => exact rhs_main_v69_1 _ _)
  rw [el, er]

-- %70 = stablehlo.reshape %69 : (tensor<32760x64xf32>) -> tensor<4x8190x64xf32>
def val_main_v70 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S4x8190x64, .f32⟩ : BufTy).Contents (Elt F) :=
  shapeCast _ (val_main_v69 (F := F) x0 x1 x2 x3 x4 x5) shapeCasts_S32760x64_S4x8190x64
abbrev idx_main_v70 (i : S4x8190x64.Idx) : S32760x64.Idx := fun a => match a with
  | ⟨0, _⟩ => ⟨(((i 0).val * 8190 + (i 1).val) * 64 + (i 2).val) / 64, by have h0 : (i 0).val < 4 := (i 0).isLt; have h1 : (i 1).val < 8190 := (i 1).isLt; have h2 : (i 2).val < 64 := (i 2).isLt; show (((i 0).val * 8190 + (i 1).val) * 64 + (i 2).val) / 64 < 32760; omega⟩
  | ⟨1, _⟩ => ⟨(((i 0).val * 8190 + (i 1).val) * 64 + (i 2).val) % 64, by have h0 : (i 0).val < 4 := (i 0).isLt; have h1 : (i 1).val < 8190 := (i 1).isLt; have h2 : (i 2).val < 64 := (i 2).isLt; show (((i 0).val * 8190 + (i 1).val) * 64 + (i 2).val) % 64 < 64; omega⟩
theorem val_main_v70_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S4x8190x64.Idx) :
    val_main_v70 (F := F) x0 x1 x2 x3 x4 x5 i = val_main_v69 (F := F) x0 x1 x2 x3 x4 x5 (idx_main_v70 i) := by
  unfold val_main_v70
  generalize val_main_v69 (F := F) x0 x1 x2 x3 x4 x5 = y
  exact shapeCast_apply y shapeCasts_S32760x64_S4x8190x64 i (idx_main_v70 i)
    (by rewrite [Shape.rowMajor_val_two, Shape.rowMajor_val_three]; have h0 : (i 0).val < 4 := (i 0).isLt; have h1 : (i 1).val < 8190 := (i 1).isLt; have h2 : (i 2).val < 64 := (i 2).isLt; show (((i 0).val * 8190 + (i 1).val) * 64 + (i 2).val) / 64 * 64 + (((i 0).val * 8190 + (i 1).val) * 64 + (i 2).val) % 64 = ((i 0).val * 8190 + (i 1).val) * 64 + (i 2).val; omega)

-- %71 = stablehlo.subtract %52, %70 : tensor<4x8190x64xf32>
def val_main_v71 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S4x8190x64, .f32⟩ : BufTy).Contents (Elt F) :=
  subf (val_main_v52 (F := F) x0 x1 x2 x3 x4) (val_main_v70 (F := F) x0 x1 x2 x3 x4 x5)
theorem val_main_v71_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S4x8190x64.Idx) :
    val_main_v71 (F := F) x0 x1 x2 x3 x4 x5 i = FloatOps.subf (val_main_v52 (F := F) x0 x1 x2 x3 x4 i) (val_main_v70 (F := F) x0 x1 x2 x3 x4 x5 i) := rfl

-- %72 = stablehlo.multiply %71, %71 : tensor<4x8190x64xf32>
def val_main_v72 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S4x8190x64, .f32⟩ : BufTy).Contents (Elt F) :=
  mulf (val_main_v71 (F := F) x0 x1 x2 x3 x4 x5) (val_main_v71 (F := F) x0 x1 x2 x3 x4 x5)
theorem val_main_v72_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S4x8190x64.Idx) :
    val_main_v72 (F := F) x0 x1 x2 x3 x4 x5 i = FloatOps.mulf (val_main_v71 (F := F) x0 x1 x2 x3 x4 x5 i) (val_main_v71 (F := F) x0 x1 x2 x3 x4 x5 i) := rfl

-- %cst_4 = stablehlo.constant dense<0.000000e+00> : tensor<f32>
def val_main_cst_4 : (⟨S_, .f32⟩ : BufTy).Contents (Elt F) :=
  constant S_ .f32 0x00000000#32

-- %73 = stablehlo.reduce(%72 init: %cst_4) applies stablehlo.add across dimensions = [0, 1, 2] : (tensor<4x8190x64xf32>, tensor<f32>) -> tensor<f32> {
def val_main_v73 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S_, .f32⟩ : BufTy).Contents (Elt F) :=
  Host.reduceAdd (val_main_v72 (F := F) x0 x1 x2 x3 x4 x5) (val_main_cst_4 (F := F)) reducesTo_S4x8190x64_S_d0_1_2 h_S_
/-- Stated at `F := Ideal`, where the host's float sum is this sum; at a bit-exact instance it is an opaque function of its operand. -/
theorem val_main_v73_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (x4 : (⟨S64, .f32⟩ : BufTy).Contents (Elt Ideal)) (x5 : (⟨S1024x64, .f32⟩ : BufTy).Contents (Elt Ideal)) (i : S_.Idx) :
    val_main_v73 (F := Ideal) x0 x1 x2 x3 x4 x5 i = (val_main_cst_4 (F := Ideal)) (Shape.Idx.first h_S_) + ∑ j : S4x8190x64.Idx, (val_main_v72 (F := Ideal) x0 x1 x2 x3 x4 x5) j := by
  unfold val_main_v73
  generalize val_main_v72 (F := Ideal) x0 x1 x2 x3 x4 x5 = y0
  simp only [Host.reduceAdd, Ideal.hostReduceAdd_def]
  exact Ideal.hostReduceAdd_total reducesTo_S4x8190x64_S_d0_1_2 (fun b => b.elim0) y0 _ i

-- %cst_5 = stablehlo.constant dense<2.096640e+06> : tensor<f32>
def val_main_cst_5 : (⟨S_, .f32⟩ : BufTy).Contents (Elt F) :=
  constant S_ .f32 0x49FFF000#32

-- %74 = stablehlo.divide %73, %cst_5 : tensor<f32>
def val_main_v74 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S_, .f32⟩ : BufTy).Contents (Elt F) :=
  Host.divf (val_main_v73 (F := F) x0 x1 x2 x3 x4 x5) (val_main_cst_5 (F := F))
theorem val_main_v74_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S_.Idx) :
    val_main_v74 (F := F) x0 x1 x2 x3 x4 x5 i = FloatOps.hostDivf (val_main_v73 (F := F) x0 x1 x2 x3 x4 x5 i) (val_main_cst_5 (F := F) i) := rfl

-- %75 = stablehlo.subtract %52, %70 : tensor<4x8190x64xf32>
def val_main_v75 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S4x8190x64, .f32⟩ : BufTy).Contents (Elt F) :=
  subf (val_main_v52 (F := F) x0 x1 x2 x3 x4) (val_main_v70 (F := F) x0 x1 x2 x3 x4 x5)
theorem val_main_v75_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S4x8190x64.Idx) :
    val_main_v75 (F := F) x0 x1 x2 x3 x4 x5 i = FloatOps.subf (val_main_v52 (F := F) x0 x1 x2 x3 x4 i) (val_main_v70 (F := F) x0 x1 x2 x3 x4 x5 i) := rfl

-- %76 = stablehlo.multiply %75, %75 : tensor<4x8190x64xf32>
def val_main_v76 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S4x8190x64, .f32⟩ : BufTy).Contents (Elt F) :=
  mulf (val_main_v75 (F := F) x0 x1 x2 x3 x4 x5) (val_main_v75 (F := F) x0 x1 x2 x3 x4 x5)
theorem val_main_v76_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S4x8190x64.Idx) :
    val_main_v76 (F := F) x0 x1 x2 x3 x4 x5 i = FloatOps.mulf (val_main_v75 (F := F) x0 x1 x2 x3 x4 x5 i) (val_main_v75 (F := F) x0 x1 x2 x3 x4 x5 i) := rfl

-- %cst_6 = stablehlo.constant dense<0.000000e+00> : tensor<f32>
def val_main_cst_6 : (⟨S_, .f32⟩ : BufTy).Contents (Elt F) :=
  constant S_ .f32 0x00000000#32

-- %77 = stablehlo.reduce(%76 init: %cst_6) applies stablehlo.add across dimensions = [0, 1, 2] : (tensor<4x8190x64xf32>, tensor<f32>) -> tensor<f32> {
def val_main_v77 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S_, .f32⟩ : BufTy).Contents (Elt F) :=
  Host.reduceAdd (val_main_v76 (F := F) x0 x1 x2 x3 x4 x5) (val_main_cst_6 (F := F)) reducesTo_S4x8190x64_S_d0_1_2 h_S_
/-- Stated at `F := Ideal`, where the host's float sum is this sum; at a bit-exact instance it is an opaque function of its operand. -/
theorem val_main_v77_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (x4 : (⟨S64, .f32⟩ : BufTy).Contents (Elt Ideal)) (x5 : (⟨S1024x64, .f32⟩ : BufTy).Contents (Elt Ideal)) (i : S_.Idx) :
    val_main_v77 (F := Ideal) x0 x1 x2 x3 x4 x5 i = (val_main_cst_6 (F := Ideal)) (Shape.Idx.first h_S_) + ∑ j : S4x8190x64.Idx, (val_main_v76 (F := Ideal) x0 x1 x2 x3 x4 x5) j := by
  unfold val_main_v77
  generalize val_main_v76 (F := Ideal) x0 x1 x2 x3 x4 x5 = y0
  simp only [Host.reduceAdd, Ideal.hostReduceAdd_def]
  exact Ideal.hostReduceAdd_total reducesTo_S4x8190x64_S_d0_1_2 (fun b => b.elim0) y0 _ i

-- %cst_7 = stablehlo.constant dense<2.096640e+06> : tensor<f32>
def val_main_cst_7 : (⟨S_, .f32⟩ : BufTy).Contents (Elt F) :=
  constant S_ .f32 0x49FFF000#32

-- %78 = stablehlo.divide %77, %cst_7 : tensor<f32>
def val_main_v78 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S_, .f32⟩ : BufTy).Contents (Elt F) :=
  Host.divf (val_main_v77 (F := F) x0 x1 x2 x3 x4 x5) (val_main_cst_7 (F := F))
theorem val_main_v78_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S_.Idx) :
    val_main_v78 (F := F) x0 x1 x2 x3 x4 x5 i = FloatOps.hostDivf (val_main_v77 (F := F) x0 x1 x2 x3 x4 x5 i) (val_main_cst_7 (F := F) i) := rfl

-- %cst_8 = stablehlo.constant dense<2.500000e-01> : tensor<f32>
def val_main_cst_8 : (⟨S_, .f32⟩ : BufTy).Contents (Elt F) :=
  constant S_ .f32 0x3E800000#32

-- %79 = stablehlo.multiply %cst_8, %78 : tensor<f32>
def val_main_v79 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S_, .f32⟩ : BufTy).Contents (Elt F) :=
  mulf (val_main_cst_8 (F := F)) (val_main_v78 (F := F) x0 x1 x2 x3 x4 x5)
theorem val_main_v79_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S_.Idx) :
    val_main_v79 (F := F) x0 x1 x2 x3 x4 x5 i = FloatOps.mulf (val_main_cst_8 (F := F) i) (val_main_v78 (F := F) x0 x1 x2 x3 x4 x5 i) := rfl

-- %80 = stablehlo.add %74, %79 : tensor<f32>
def val_main_v80 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S_, .f32⟩ : BufTy).Contents (Elt F) :=
  addf (val_main_v74 (F := F) x0 x1 x2 x3 x4 x5) (val_main_v79 (F := F) x0 x1 x2 x3 x4 x5)
theorem val_main_v80_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S_.Idx) :
    val_main_v80 (F := F) x0 x1 x2 x3 x4 x5 i = FloatOps.addf (val_main_v74 (F := F) x0 x1 x2 x3 x4 x5 i) (val_main_v79 (F := F) x0 x1 x2 x3 x4 x5 i) := rfl

-- %81 = stablehlo.subtract %70, %52 : tensor<4x8190x64xf32>
def val_main_v81 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S4x8190x64, .f32⟩ : BufTy).Contents (Elt F) :=
  subf (val_main_v70 (F := F) x0 x1 x2 x3 x4 x5) (val_main_v52 (F := F) x0 x1 x2 x3 x4)
theorem val_main_v81_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S4x8190x64.Idx) :
    val_main_v81 (F := F) x0 x1 x2 x3 x4 x5 i = FloatOps.subf (val_main_v70 (F := F) x0 x1 x2 x3 x4 x5 i) (val_main_v52 (F := F) x0 x1 x2 x3 x4 i) := rfl

-- %82 = stablehlo.add %52, %81 : tensor<4x8190x64xf32>
def val_main_v82 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S4x8190x64, .f32⟩ : BufTy).Contents (Elt F) :=
  addf (val_main_v52 (F := F) x0 x1 x2 x3 x4) (val_main_v81 (F := F) x0 x1 x2 x3 x4 x5)
theorem val_main_v82_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S4x8190x64.Idx) :
    val_main_v82 (F := F) x0 x1 x2 x3 x4 x5 i = FloatOps.addf (val_main_v52 (F := F) x0 x1 x2 x3 x4 i) (val_main_v81 (F := F) x0 x1 x2 x3 x4 x5 i) := rfl

-- %cst_9 = stablehlo.constant dense<0.000000e+00> : tensor<f32>
def val_main_cst_9 : (⟨S_, .f32⟩ : BufTy).Contents (Elt F) :=
  constant S_ .f32 0x00000000#32

-- %83 = stablehlo.reduce(%68 init: %cst_9) applies stablehlo.add across dimensions = [0] : (tensor<32760x1024xf32>, tensor<f32>) -> tensor<1024xf32> {
def val_main_v83 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S1024, .f32⟩ : BufTy).Contents (Elt F) :=
  Host.reduceAdd (val_main_v68 (F := F) x0 x1 x2 x3 x4 x5) (val_main_cst_9 (F := F)) reducesTo_S32760x1024_S1024_d0 h_S_
abbrev idx_main_v83 (i : S1024.Idx) (k : Fin 32760) : S32760x1024.Idx := fun a => match a with
  | ⟨0, _⟩ => ⟨k.val, k.isLt⟩
  | ⟨1, _⟩ => ⟨(i 0).val, (i 0).isLt⟩
/-- Stated at `F := Ideal`, where the host's float sum is this sum; at a bit-exact instance it is an opaque function of its operand. -/
theorem val_main_v83_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (x4 : (⟨S64, .f32⟩ : BufTy).Contents (Elt Ideal)) (x5 : (⟨S1024x64, .f32⟩ : BufTy).Contents (Elt Ideal)) (i : S1024.Idx) :
    val_main_v83 (F := Ideal) x0 x1 x2 x3 x4 x5 i = (val_main_cst_9 (F := Ideal)) (Shape.Idx.first h_S_) + ∑ k : Fin 32760, (val_main_v68 (F := Ideal) x0 x1 x2 x3 x4 x5) (idx_main_v83 i k) := by
  unfold val_main_v83
  generalize val_main_v68 (F := Ideal) x0 x1 x2 x3 x4 x5 = y0
  simp only [Host.reduceAdd, Ideal.hostReduceAdd_def]
  rw [Ideal.hostReduceAdd_single reducesTo_S32760x1024_S1024_d0 (by decide)]
  refine congrArg (_ + ·) (Finset.sum_congr rfl fun k _ => ?_)
  exact congrArg y0 (funext fun a => Fin.ext (by match a with | ⟨0, _⟩ => rfl | ⟨1, _⟩ => rfl))

-- %cst_10 = stablehlo.constant dense<3.276000e+04> : tensor<f32>
def val_main_cst_10 : (⟨S_, .f32⟩ : BufTy).Contents (Elt F) :=
  constant S_ .f32 0x46FFF000#32

-- %84 = stablehlo.broadcast_in_dim %cst_10, dims = [] : (tensor<f32>) -> tensor<1024xf32>
def val_main_v84 : (⟨S1024, .f32⟩ : BufTy).Contents (Elt F) :=
  broadcastInDim S1024 ![] bcast_S_S1024 (val_main_cst_10 (F := F))
abbrev idx_main_v84 (i : S1024.Idx) : S_.Idx := fun a => a.elim0
theorem val_main_v84_apply (i : S1024.Idx) :
    val_main_v84 (F := F) i = val_main_cst_10 (F := F) (idx_main_v84 i) := by
  unfold val_main_v84
  generalize val_main_cst_10 (F := F) = y
  exact broadcastInDim_apply _ bcast_S_S1024 y i (idx_main_v84 i) (fun a => a.elim0)

-- %85 = stablehlo.divide %83, %84 : tensor<1024xf32>
def val_main_v85 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S1024, .f32⟩ : BufTy).Contents (Elt F) :=
  Host.divf (val_main_v83 (F := F) x0 x1 x2 x3 x4 x5) (val_main_v84 (F := F))
theorem val_main_v85_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S1024.Idx) :
    val_main_v85 (F := F) x0 x1 x2 x3 x4 x5 i = FloatOps.hostDivf (val_main_v83 (F := F) x0 x1 x2 x3 x4 x5 i) (val_main_v84 (F := F) i) := rfl

-- %cst_11 = stablehlo.constant dense<1.000000e-10> : tensor<f32>
def val_main_cst_11 : (⟨S_, .f32⟩ : BufTy).Contents (Elt F) :=
  constant S_ .f32 0x2EDBE6FF#32

-- %86 = stablehlo.broadcast_in_dim %cst_11, dims = [] : (tensor<f32>) -> tensor<1024xf32>
def val_main_v86 : (⟨S1024, .f32⟩ : BufTy).Contents (Elt F) :=
  broadcastInDim S1024 ![] bcast_S_S1024 (val_main_cst_11 (F := F))
abbrev idx_main_v86 (i : S1024.Idx) : S_.Idx := fun a => a.elim0
theorem val_main_v86_apply (i : S1024.Idx) :
    val_main_v86 (F := F) i = val_main_cst_11 (F := F) (idx_main_v86 i) := by
  unfold val_main_v86
  generalize val_main_cst_11 (F := F) = y
  exact broadcastInDim_apply _ bcast_S_S1024 y i (idx_main_v86 i) (fun a => a.elim0)

-- %87 = stablehlo.add %85, %86 : tensor<1024xf32>
def val_main_v87 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S1024, .f32⟩ : BufTy).Contents (Elt F) :=
  addf (val_main_v85 (F := F) x0 x1 x2 x3 x4 x5) (val_main_v86 (F := F))
theorem val_main_v87_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S1024.Idx) :
    val_main_v87 (F := F) x0 x1 x2 x3 x4 x5 i = FloatOps.addf (val_main_v85 (F := F) x0 x1 x2 x3 x4 x5 i) (val_main_v86 (F := F) i) := rfl

-- %88 = stablehlo.log %87 : tensor<1024xf32>
def val_main_v88 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S1024, .f32⟩ : BufTy).Contents (Elt F) :=
  Host.log (val_main_v87 (F := F) x0 x1 x2 x3 x4 x5)
theorem val_main_v88_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S1024.Idx) :
    val_main_v88 (F := F) x0 x1 x2 x3 x4 x5 i = FloatOps.hostUnary .log (val_main_v87 (F := F) x0 x1 x2 x3 x4 x5 i) := rfl

-- %89 = stablehlo.multiply %85, %88 : tensor<1024xf32>
def val_main_v89 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S1024, .f32⟩ : BufTy).Contents (Elt F) :=
  mulf (val_main_v85 (F := F) x0 x1 x2 x3 x4 x5) (val_main_v88 (F := F) x0 x1 x2 x3 x4 x5)
theorem val_main_v89_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S1024.Idx) :
    val_main_v89 (F := F) x0 x1 x2 x3 x4 x5 i = FloatOps.mulf (val_main_v85 (F := F) x0 x1 x2 x3 x4 x5 i) (val_main_v88 (F := F) x0 x1 x2 x3 x4 x5 i) := rfl

-- %cst_12 = stablehlo.constant dense<0.000000e+00> : tensor<f32>
def val_main_cst_12 : (⟨S_, .f32⟩ : BufTy).Contents (Elt F) :=
  constant S_ .f32 0x00000000#32

-- %90 = stablehlo.reduce(%89 init: %cst_12) applies stablehlo.add across dimensions = [0] : (tensor<1024xf32>, tensor<f32>) -> tensor<f32> {
def val_main_v90 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S_, .f32⟩ : BufTy).Contents (Elt F) :=
  Host.reduceAdd (val_main_v89 (F := F) x0 x1 x2 x3 x4 x5) (val_main_cst_12 (F := F)) reducesTo_S1024_S_d0 h_S_
/-- Stated at `F := Ideal`, where the host's float sum is this sum; at a bit-exact instance it is an opaque function of its operand. -/
theorem val_main_v90_apply (x0 : (⟨S4x256x32768, .f32⟩ : BufTy).Contents (Elt Ideal)) (x1 : (⟨S128x256x4, .f32⟩ : BufTy).Contents (Elt Ideal)) (x2 : (⟨S128, .f32⟩ : BufTy).Contents (Elt Ideal)) (x3 : (⟨S64x128x4, .f32⟩ : BufTy).Contents (Elt Ideal)) (x4 : (⟨S64, .f32⟩ : BufTy).Contents (Elt Ideal)) (x5 : (⟨S1024x64, .f32⟩ : BufTy).Contents (Elt Ideal)) (i : S_.Idx) :
    val_main_v90 (F := Ideal) x0 x1 x2 x3 x4 x5 i = (val_main_cst_12 (F := Ideal)) (Shape.Idx.first h_S_) + ∑ j : S1024.Idx, (val_main_v89 (F := Ideal) x0 x1 x2 x3 x4 x5) j := by
  unfold val_main_v90
  generalize val_main_v89 (F := Ideal) x0 x1 x2 x3 x4 x5 = y0
  simp only [Host.reduceAdd, Ideal.hostReduceAdd_def]
  exact Ideal.hostReduceAdd_total reducesTo_S1024_S_d0 (fun b => b.elim0) y0 _ i

-- %91 = stablehlo.negate %90 : tensor<f32>
def val_main_v91 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S_, .f32⟩ : BufTy).Contents (Elt F) :=
  Host.negf (val_main_v90 (F := F) x0 x1 x2 x3 x4 x5)
theorem val_main_v91_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S_.Idx) :
    val_main_v91 (F := F) x0 x1 x2 x3 x4 x5 i = FloatOps.hostNegf (val_main_v90 (F := F) x0 x1 x2 x3 x4 x5 i) := rfl

-- %92 = stablehlo.exponential %91 : tensor<f32>
def val_main_v92 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S_, .f32⟩ : BufTy).Contents (Elt F) :=
  Host.exp (val_main_v91 (F := F) x0 x1 x2 x3 x4 x5)
theorem val_main_v92_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S_.Idx) :
    val_main_v92 (F := F) x0 x1 x2 x3 x4 x5 i = FloatOps.hostUnary .exp (val_main_v91 (F := F) x0 x1 x2 x3 x4 x5 i) := rfl

-- %93 = stablehlo.transpose %82, dims = [0, 2, 1] : (tensor<4x8190x64xf32>) -> tensor<4x64x8190xf32>
def val_main_v93 (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) : (⟨S4x64x8190, .f32⟩ : BufTy).Contents (Elt F) :=
  transpose S4x64x8190 [0, 2, 1] (val_main_v82 (F := F) x0 x1 x2 x3 x4 x5) transposes_S4x8190x64_S4x64x8190_0_2_1
abbrev idx_main_v93 (i : S4x64x8190.Idx) : S4x8190x64.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v93_apply (x0 : (⟨S4x256x32768, .f32⟩ : BufTy).Contents (Elt F)) (x1 : (⟨S128x256x4, .f32⟩ : BufTy).Contents (Elt F)) (x2 : (⟨S128, .f32⟩ : BufTy).Contents (Elt F)) (x3 : (⟨S64x128x4, .f32⟩ : BufTy).Contents (Elt F)) (x4 : (⟨S64, .f32⟩ : BufTy).Contents (Elt F)) (x5 : (⟨S1024x64, .f32⟩ : BufTy).Contents (Elt F)) (i : S4x64x8190.Idx) :
    val_main_v93 (F := F) x0 x1 x2 x3 x4 x5 i = val_main_v82 (F := F) x0 x1 x2 x3 x4 x5 (idx_main_v93 i) := by
  unfold val_main_v93
  generalize val_main_v82 (F := F) x0 x1 x2 x3 x4 x5 = y
  exact transpose_apply [0, 2, 1] y transposes_S4x8190x64_S4x64x8190_0_2_1 i (idx_main_v93 i) (fun b => match b with
    | ⟨0, _⟩ => rfl
    | ⟨1, _⟩ => rfl
    | ⟨2, _⟩ => rfl)

/-- The term the Run module states for `main_v80` over any contents `V0` is the stage. -/
theorem val_main_v80_eq (V0 : Valuation τ sig (Elt F)) :
    addf (Host.divf (Host.reduceAdd (mulf (Cert.ReferenceIdeal.Value.res_main_v71 V0) (Cert.ReferenceIdeal.Value.res_main_v71 V0)) (constant S_ .f32 0x00000000#32) reducesTo_S4x8190x64_S_d0_1_2 h_S_) (constant S_ .f32 0x49FFF000#32)) (mulf (constant S_ .f32 0x3E800000#32) (Host.divf (Host.reduceAdd (mulf (Cert.ReferenceIdeal.Value.res_main_v75 V0) (Cert.ReferenceIdeal.Value.res_main_v75 V0)) (constant S_ .f32 0x00000000#32) reducesTo_S4x8190x64_S_d0_1_2 h_S_) (constant S_ .f32 0x49FFF000#32)))
      = val_main_v80 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

/-- The term the Run module states for `main_v93` over any contents `V0` is the stage. -/
theorem val_main_v93_eq (V0 : Valuation τ sig (Elt F)) :
    transpose S4x64x8190 [0, 2, 1] (addf (Cert.ReferenceIdeal.Value.res_main_v52 V0) (subf (Cert.ReferenceIdeal.Value.res_main_v70 V0) (Cert.ReferenceIdeal.Value.res_main_v52 V0))) transposes_S4x8190x64_S4x64x8190_0_2_1
      = val_main_v93 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

/-- The term the Run module states for `main_v92` over any contents `V0` is the stage. -/
theorem val_main_v92_eq (V0 : Valuation τ sig (Elt F)) :
    Host.exp (Host.negf (Host.reduceAdd (mulf (Cert.ReferenceIdeal.Value.res_main_v85 V0) (Host.log (addf (Cert.ReferenceIdeal.Value.res_main_v85 V0) (broadcastInDim S1024 ![] bcast_S_S1024 (constant S_ .f32 0x2EDBE6FF#32))))) (constant S_ .f32 0x00000000#32) reducesTo_S1024_S_d0 h_S_))
      = val_main_v92 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := rfl

end Cert.ReferenceIdeal.Read

end

end
-- ==== Proof.RefSpecA.lean ====
/-
  Hand-written: what the reference computes is the problem's mathematics.
-/
module

public import proofs.«01_k».proof.Proof.RefRead
public import proofs.«01_k».proof.Proof.SpecArgs

@[expose] public section

set_option maxRecDepth 16384

noncomputable section

namespace Cert.ReferenceIdeal.Read

open Cert.ReferenceIdeal.Value (argVal argIdx)
open Cert.ReferenceIdeal Cert.ReferenceIdeal.Gen Idealize.ShloMosaic Idealize.ShloMosaic.TcCoe
open Cert.Spec

variable (x0 : S4x256x32768.Idx → EReal) (x1 : S128x256x4.Idx → EReal) (x2 : S128.Idx → EReal)
  (x3 : S64x128x4.Idx → EReal) (x4 : S64.Idx → EReal) (x5 : S1024x64.Idx → EReal)

/-- The arguments as functions of their coordinates. -/
abbrev AA : Args := argsOf x0 x1 x2 x3 x4 x5

/-- A strided slice of the input at column offset `k`. -/
theorem sl1 (k : ℕ) (hk : k < 4) (h : S4x256x32768.SlicesBy ![0, 0, k] ![1, 1, 2] S4x256x16383) (i : S4x256x16383.Idx) :
    Host.slice S4x256x16383 ![0, 0, k] ![1, 1, 2] x0 h i = (AA x0 x1 x2 x3 x4 x5).x (i 0).val (i 1) (2 * (i 2).val + k) :=
  congrArg x0 (funext fun a => Fin.ext (by
    have h0 : (i 0).val < 4 := (i 0).isLt
    have h2 : (i 2).val < 16383 := (i 2).isLt
    match a with
    | ⟨0, _⟩ => show 0 + 1 * (i 0).val = (i 0).val % 4; omega
    | ⟨1, _⟩ => show 0 + 1 * (i 1).val = (i 1).val; omega
    | ⟨2, _⟩ => show k + 2 * (i 2).val = (2 * (i 2).val + k) % 32768; omega))

/-- A tap of the first weight. -/
theorem tap1 (y : S128x256.Idx → EReal) (k : Fin 4) (h : ∀ i, ∃ i' : S128x256x4.Idx, y i = x1 i' ∧ (i' 0).val = (i 0).val ∧ (i' 1).val = (i 1).val ∧ (i' 2).val = k.val)
    (i : S128x256.Idx) : y i = (AA x0 x1 x2 x3 x4 x5).w1 (i 0) (i 1) k := by
  obtain ⟨i', e, h0, h1, h2⟩ := h i
  rw [e]
  exact congrArg x1 (funext fun a => Fin.ext (match a with | ⟨0, _⟩ => h0 | ⟨1, _⟩ => h1 | ⟨2, _⟩ => h2))

/-- The coordinates that a reshape of a weight's tap reads. -/
theorem tapc (i : S128x256.Idx) : ((i 0).val * 256 + (i 1).val) / 256 = (i 0).val ∧ ((i 0).val * 256 + (i 1).val) / 1 % 256 = (i 1).val := by
  have h1 : (i 1).val < 256 := (i 1).isLt
  omega

/-- The first layer's first tap, as a sum over the channels. -/
theorem v4_read (i : S4x16383x128.Idx) : val_main_v4 (F := Ideal) x0 x1 i
    = ∑ e : Fin 256, (AA x0 x1 x2 x3 x4 x5).x (i 0).val e (2 * (i 1).val + 0) * (AA x0 x1 x2 x3 x4 x5).w1 (i 2) e 0 := by
  rw [val_main_v4_apply]
  exact Finset.sum_congr rfl fun e _ => congrArg₂ (· * ·) (sl1 x0 x1 x2 x3 x4 x5 0 (by norm_num) _ _)
    (tap1 x0 x1 x2 x3 x4 x5 _ 0 (fun j => ⟨idx_main_v2 (idx_main_v3 j), by rw [val_main_v3_apply, val_main_v2_apply], (tapc j).1, (tapc j).2, rfl⟩) _)

/-- The first layer's second tap, as a sum over the channels. -/
theorem v9_read (i : S4x16383x128.Idx) : val_main_v9 (F := Ideal) x0 x1 i
    = ∑ e : Fin 256, (AA x0 x1 x2 x3 x4 x5).x (i 0).val e (2 * (i 1).val + 1) * (AA x0 x1 x2 x3 x4 x5).w1 (i 2) e 1 := by
  rw [val_main_v9_apply]
  exact Finset.sum_congr rfl fun e _ => congrArg₂ (· * ·) (sl1 x0 x1 x2 x3 x4 x5 1 (by norm_num) _ _)
    (tap1 x0 x1 x2 x3 x4 x5 _ 1 (fun j => ⟨idx_main_v7 (idx_main_v8 j), by rw [val_main_v8_apply, val_main_v7_apply], (tapc j).1, (tapc j).2, rfl⟩) _)

/-- The first layer's third tap, as a sum over the channels. -/
theorem v14_read (i : S4x16383x128.Idx) : val_main_v14 (F := Ideal) x0 x1 i
    = ∑ e : Fin 256, (AA x0 x1 x2 x3 x4 x5).x (i 0).val e (2 * (i 1).val + 2) * (AA x0 x1 x2 x3 x4 x5).w1 (i 2) e 2 := by
  rw [val_main_v14_apply]
  exact Finset.sum_congr rfl fun e _ => congrArg₂ (· * ·) (sl1 x0 x1 x2 x3 x4 x5 2 (by norm_num) _ _)
    (tap1 x0 x1 x2 x3 x4 x5 _ 2 (fun j => ⟨idx_main_v12 (idx_main_v13 j), by rw [val_main_v13_apply, val_main_v12_apply], (tapc j).1, (tapc j).2, rfl⟩) _)

/-- The first layer's fourth tap, as a sum over the channels. -/
theorem v19_read (i : S4x16383x128.Idx) : val_main_v19 (F := Ideal) x0 x1 i
    = ∑ e : Fin 256, (AA x0 x1 x2 x3 x4 x5).x (i 0).val e (2 * (i 1).val + 3) * (AA x0 x1 x2 x3 x4 x5).w1 (i 2) e 3 := by
  rw [val_main_v19_apply]
  exact Finset.sum_congr rfl fun e _ => congrArg₂ (· * ·) (sl1 x0 x1 x2 x3 x4 x5 3 (by norm_num) _ _)
    (tap1 x0 x1 x2 x3 x4 x5 _ 3 (fun j => ⟨idx_main_v17 (idx_main_v18 j), by rw [val_main_v18_apply, val_main_v17_apply], (tapc j).1, (tapc j).2, rfl⟩) _)

/-- The first layer. -/
theorem v25_read (i : S4x128x16383.Idx) : val_main_v25 (F := Ideal) x0 x1 x2 i = lay1 (AA x0 x1 x2 x3 x4 x5) (i 0).val (i 2).val (i 1) := by
  rw [val_main_v25_apply, val_main_v24_apply, val_main_v21_apply, val_main_v20_apply, val_main_v15_apply, val_main_v10_apply, val_main_v5_apply,
    v4_read x0 x1 x2 x3 x4 x5, v9_read x0 x1 x2 x3 x4 x5, v14_read x0 x1 x2 x3 x4 x5, v19_read x0 x1 x2 x3 x4 x5, val_main_v0_apply, val_main_cst_apply,
    val_main_v23_apply, val_main_v22_apply]
  unfold lay1
  rw [Fin.sum_univ_four]
  refine congrArg Ideal.tanh (congrArg₂ (· + ·) ?_ (congrArg x2 (funext fun a => match a with | ⟨0, _⟩ => rfl)))
  show Ideal.ofBits .f32 0x00000000#32 + _ + _ + _ + _ = _
  rw [Ideal.ofBits_zero_f32, zero_add]
  rfl

end Cert.ReferenceIdeal.Read

end
-- ==== Proof.RefSpecB.lean ====
/-
  Hand-written: what the reference computes is the problem's mathematics.
-/
module

public import proofs.«01_k».proof.Proof.RefSpecA

@[expose] public section

set_option maxRecDepth 16384

noncomputable section

namespace Cert.ReferenceIdeal.Read

open Cert.ReferenceIdeal.Value (argVal argIdx)
open Cert.ReferenceIdeal Cert.ReferenceIdeal.Gen Idealize.ShloMosaic Idealize.ShloMosaic.TcCoe
open Cert.Spec

variable (x0 : S4x256x32768.Idx → EReal) (x1 : S128x256x4.Idx → EReal) (x2 : S128.Idx → EReal)
  (x3 : S64x128x4.Idx → EReal) (x4 : S64.Idx → EReal) (x5 : S1024x64.Idx → EReal)

/-- A strided slice of the first layer at column offset `k`. -/
theorem sl2 (y : S4x128x16383.Idx → EReal) (hy : ∀ j, y j = lay1 (AA x0 x1 x2 x3 x4 x5) (j 0).val (j 2).val (j 1))
    (k : ℕ) (hk : k < 4) (h : S4x128x16383.SlicesBy ![0, 0, k] ![1, 1, 2] S4x128x8190) (i : S4x128x8190.Idx) :
    Host.slice S4x128x8190 ![0, 0, k] ![1, 1, 2] y h i = lay1 (AA x0 x1 x2 x3 x4 x5) (i 0).val (2 * (i 2).val + k) (i 1) := by
  have h2 : (i 2).val < 8190 := (i 2).isLt
  have e : Host.slice S4x128x8190 ![0, 0, k] ![1, 1, 2] y h i = y (ValueIdx.ix3 (i 0) (i 1) ⟨2 * (i 2).val + k, by omega⟩) :=
    congrArg y (funext fun a => Fin.ext (match a with
      | ⟨0, _⟩ => by show 0 + 1 * (i 0).val = (i 0).val; omega
      | ⟨1, _⟩ => by show 0 + 1 * (i 1).val = (i 1).val; omega
      | ⟨2, _⟩ => by show k + 2 * (i 2).val = 2 * (i 2).val + k; omega))
  rw [e, hy]

/-- A tap of the second weight. -/
theorem tap2 (y : S64x128.Idx → EReal) (k : Fin 4) (h : ∀ i, ∃ i' : S64x128x4.Idx, y i = x3 i' ∧ (i' 0).val = (i 0).val ∧ (i' 1).val = (i 1).val ∧ (i' 2).val = k.val)
    (i : S64x128.Idx) : y i = (AA x0 x1 x2 x3 x4 x5).w2 (i 0) (i 1) k := by
  obtain ⟨i', e, h0, h1, h2⟩ := h i
  rw [e]
  exact congrArg x3 (funext fun a => Fin.ext (match a with | ⟨0, _⟩ => h0 | ⟨1, _⟩ => h1 | ⟨2, _⟩ => h2))

/-- The coordinates that a reshape of a weight's tap reads. -/
theorem tapd (i : S64x128.Idx) : ((i 0).val * 128 + (i 1).val) / 128 = (i 0).val ∧ ((i 0).val * 128 + (i 1).val) / 1 % 128 = (i 1).val := by
  have h1 : (i 1).val < 128 := (i 1).isLt
  omega

/-- The second layer's first tap, as a sum over the channels. -/
theorem v30_read (i : S4x8190x64.Idx) : val_main_v30 (F := Ideal) x0 x1 x2 x3 i
    = ∑ c : Fin 128, lay1 (AA x0 x1 x2 x3 x4 x5) (i 0).val (2 * (i 1).val + 0) c * (AA x0 x1 x2 x3 x4 x5).w2 (i 2) c 0 := by
  rw [val_main_v30_apply]
  exact Finset.sum_congr rfl fun e _ => congrArg₂ (· * ·) (sl2 x0 x1 x2 x3 x4 x5 _ (v25_read x0 x1 x2 x3 x4 x5) 0 (by norm_num) _ _)
    (tap2 x0 x1 x2 x3 x4 x5 _ 0 (fun j => ⟨idx_main_v28 (idx_main_v29 j), by rw [val_main_v29_apply, val_main_v28_apply], (tapd j).1, (tapd j).2, rfl⟩) _)

/-- The second layer's second tap, as a sum over the channels. -/
theorem v35_read (i : S4x8190x64.Idx) : val_main_v35 (F := Ideal) x0 x1 x2 x3 i
    = ∑ c : Fin 128, lay1 (AA x0 x1 x2 x3 x4 x5) (i 0).val (2 * (i 1).val + 1) c * (AA x0 x1 x2 x3 x4 x5).w2 (i 2) c 1 := by
  rw [val_main_v35_apply]
  exact Finset.sum_congr rfl fun e _ => congrArg₂ (· * ·) (sl2 x0 x1 x2 x3 x4 x5 _ (v25_read x0 x1 x2 x3 x4 x5) 1 (by norm_num) _ _)
    (tap2 x0 x1 x2 x3 x4 x5 _ 1 (fun j => ⟨idx_main_v33 (idx_main_v34 j), by rw [val_main_v34_apply, val_main_v33_apply], (tapd j).1, (tapd j).2, rfl⟩) _)

/-- The second layer's third tap, as a sum over the channels. -/
theorem v40_read (i : S4x8190x64.Idx) : val_main_v40 (F := Ideal) x0 x1 x2 x3 i
    = ∑ c : Fin 128, lay1 (AA x0 x1 x2 x3 x4 x5) (i 0).val (2 * (i 1).val + 2) c * (AA x0 x1 x2 x3 x4 x5).w2 (i 2) c 2 := by
  rw [val_main_v40_apply]
  exact Finset.sum_congr rfl fun e _ => congrArg₂ (· * ·) (sl2 x0 x1 x2 x3 x4 x5 _ (v25_read x0 x1 x2 x3 x4 x5) 2 (by norm_num) _ _)
    (tap2 x0 x1 x2 x3 x4 x5 _ 2 (fun j => ⟨idx_main_v38 (idx_main_v39 j), by rw [val_main_v39_apply, val_main_v38_apply], (tapd j).1, (tapd j).2, rfl⟩) _)

/-- The second layer's fourth tap, as a sum over the channels. -/
theorem v45_read (i : S4x8190x64.Idx) : val_main_v45 (F := Ideal) x0 x1 x2 x3 i
    = ∑ c : Fin 128, lay1 (AA x0 x1 x2 x3 x4 x5) (i 0).val (2 * (i 1).val + 3) c * (AA x0 x1 x2 x3 x4 x5).w2 (i 2) c 3 := by
  rw [val_main_v45_apply]
  exact Finset.sum_congr rfl fun e _ => congrArg₂ (· * ·) (sl2 x0 x1 x2 x3 x4 x5 _ (v25_read x0 x1 x2 x3 x4 x5) 3 (by norm_num) _ _)
    (tap2 x0 x1 x2 x3 x4 x5 _ 3 (fun j => ⟨idx_main_v43 (idx_main_v44 j), by rw [val_main_v44_apply, val_main_v43_apply], (tapd j).1, (tapd j).2, rfl⟩) _)

/-- The second layer. -/
theorem v52_read (i : S4x8190x64.Idx) : val_main_v52 (F := Ideal) x0 x1 x2 x3 x4 i = lay2 (AA x0 x1 x2 x3 x4 x5) (i 0).val (i 1).val (i 2) := by
  rw [val_main_v52_apply, val_main_v51_apply, val_main_v50_apply, val_main_v47_apply, val_main_v46_apply, val_main_v41_apply, val_main_v36_apply, val_main_v31_apply,
    v30_read x0 x1 x2 x3 x4 x5, v35_read x0 x1 x2 x3 x4 x5, v40_read x0 x1 x2 x3 x4 x5, v45_read x0 x1 x2 x3 x4 x5, val_main_v26_apply, val_main_cst_0_apply,
    val_main_v49_apply, val_main_v48_apply]
  unfold lay2
  rw [Fin.sum_univ_four]
  refine congrArg Ideal.tanh (congrArg₂ (· + ·) ?_ (congrArg x4 (funext fun a => match a with | ⟨0, _⟩ => rfl)))
  show Ideal.ofBits .f32 0x00000000#32 + _ + _ + _ + _ = _
  rw [Ideal.ofBits_zero_f32, zero_add]
  rfl

/-- The flattened rows. -/
theorem v53_read (i : S32760x64.Idx) : val_main_v53 (F := Ideal) x0 x1 x2 x3 x4 i
    = lay2 (AA x0 x1 x2 x3 x4 x5) ((i 0).val / 8190) ((i 0).val % 8190) (i 1) := by
  have h1 : (i 1).val < 64 := (i 1).isLt
  rw [val_main_v53_apply, v52_read x0 x1 x2 x3 x4 x5]
  have e0 : (idx_main_v53 i 0).val = (i 0).val / 8190 := by show ((i 0).val * 64 + (i 1).val) / 524160 = _; omega
  have e1 : (idx_main_v53 i 1).val = (i 0).val % 8190 := by show ((i 0).val * 64 + (i 1).val) / 64 % 8190 = _; omega
  have e2 : idx_main_v53 i 2 = i 1 := Fin.ext (by show ((i 0).val * 64 + (i 1).val) % 64 = _; omega)
  rw [e0, e1, e2]

end Cert.ReferenceIdeal.Read

end
-- ==== Proof.RefArg.lean ====
/-
  Hand-written: what a search for the smallest pair ends at, for any array, and that the reference's search is one.
-/
module

public import proofs.«01_k».proof.Proof.RefRun
public import proofs.«01_k».proof.Proof.Spec
public import Idealize.ShloMosaic.Lib.ValueIdx

@[expose] public section

set_option maxRecDepth 16384

noncomputable section

namespace Cert.ReferenceIdeal.Read

open Cert.ReferenceIdeal Cert.ReferenceIdeal.Gen Idealize.ShloMosaic Idealize.ShloMosaic.TcCoe
open Cert.Spec

/-- A reduction of pairs by a body returning the smaller of its two pairs ends at the smallest pair of the row. -/
theorem argReduce_lex {s t u : Shape} {axes : List (Fin s.rank)} (f : EReal × BitVec 32 → EReal × BitVec 32 → EReal × BitVec 32)
    (hf : ∀ a b, (f a b = a ∧ lexLE a b) ∨ (f a b = b ∧ lexLE b a)) (x : FVec Ideal s .f32) (y : s.Idx → BitVec 32)
    (ix : u.Idx → Ideal .f32) (iy : u.Idx → BitVec 32) (h : s.ReducesTo axes t) (hu : 0 < u.numel) (j : t.Idx) :
    ∃ p : EReal × BitVec 32, Host.argReduce f x y ix iy h hu j = p
      ∧ (p = (ix (Shape.Idx.first hu), iy (Shape.Idx.first hu)) ∨ ∃ i, h.drop i = j ∧ p = (x i, y i))
      ∧ ∀ i, h.drop i = j → lexLE p (x i, y i) := by
  refine ⟨_, rfl, ?_⟩
  rw [Ideal.argReduce_eq_reduce2, Host.reduce2_eq_foldl_fiber]
  obtain ⟨h1, -, h3⟩ := foldl_lex f hf (Host.argReduceFiber x y h j) (ix (Shape.Idx.first hu), iy (Shape.Idx.first hu))
  refine ⟨h1.imp id fun h1 => ?_, fun i hi => h3 _ ?_⟩
  · obtain ⟨n, hn, e⟩ := List.mem_map.1 h1
    exact ⟨s.rowMajor.symm n, of_decide_eq_true (List.mem_filter.1 hn).2, e.symm⟩
  · refine List.mem_map.2 ⟨s.rowMajor i, List.mem_filter.2 ⟨List.mem_finRange _, decide_eq_true ?_⟩, ?_⟩
    · rw [Equiv.symm_apply_apply]; exact hi
    · rw [Equiv.symm_apply_apply]

/-- Or of two truth values as bits. -/
theorem ori_ofBool (p q : Bool) : IntOp.ori (BitVec.ofBool p) (BitVec.ofBool q) = BitVec.ofBool (p || q) := by
  revert p q; decide
/-- And of two truth values as bits. -/
theorem andi_ofBool (p q : Bool) : IntOp.andi (BitVec.ofBool p) (BitVec.ofBool q) = BitVec.ofBool (p && q) := by
  revert p q; decide
/-- A select on a truth value as a bit. -/
theorem select_ofBool {α : Type} (p : Bool) (a b : α) : Scalar.select (BitVec.ofBool p) a b = if p then a else b := by
  cases p <;> rfl

/-- The search's body returns the smaller of its two pairs. -/
theorem body_lex (a b : EReal × BitVec 32) :
    (reducer_argmin_f32_i32 (F := Ideal) a b = a ∧ lexLE a b) ∨ (reducer_argmin_f32_i32 (F := Ideal) a b = b ∧ lexLE b a) := by
  obtain ⟨a1, a2⟩ := a
  obtain ⟨b1, b2⟩ := b
  have hf : reducer_argmin_f32_i32 (F := Ideal) (a1, a2) (b1, b2)
      = (Scalar.select (IntOp.ori (BitVec.ofBool (decide (a1 < b1))) (BitVec.ofBool (decide (a1 ≠ a1)))) a1 b1,
        Scalar.select (IntOp.ori (IntOp.ori (BitVec.ofBool (decide (a1 < b1))) (BitVec.ofBool (decide (a1 ≠ a1))))
          (IntOp.andi (BitVec.ofBool (decide (a1 = b1))) (BitVec.ofBool (a2.slt b2)))) a2 b2) := rfl
  rw [hf, decide_eq_false (fun h : a1 ≠ a1 => h rfl)]
  simp only [ori_ofBool, andi_ofBool, select_ofBool, Bool.or_false]
  rcases lt_trichotomy a1 b1 with h | h | h
  · left
    rw [decide_eq_true h]
    exact ⟨rfl, Or.inl h⟩
  · rw [decide_eq_false (not_lt.2 h.ge), decide_eq_true h]
    subst h
    cases hs : a2.slt b2 with
    | true => exact Or.inl ⟨rfl, Or.inr ⟨rfl, le_of_lt (of_decide_eq_true hs)⟩⟩
    | false => exact Or.inr ⟨rfl, Or.inr ⟨rfl, not_lt.1 (of_decide_eq_false hs)⟩⟩
  · right
    rw [decide_eq_false (not_lt.2 h.le), decide_eq_false h.ne']
    exact ⟨rfl, Or.inl h⟩

/-- The element of a row reduced away is the row's. -/
theorem drop_iff (i : S32760x1024.Idx) (R : S32760.Idx) : reducesTo_S32760x1024_S32760_d1.drop i = R ↔ (i 0).val = (R 0).val := by
  have e : (reducesTo_S32760x1024_S32760_d1.drop i (0 : Fin 1)).val = (i (0 : Fin 2)).val :=
    reducesTo_S32760x1024_S32760_d1.drop_apply_val_of_eq i (0 : Fin 1) (0 : Fin 2)
  generalize reducesTo_S32760x1024_S32760_d1.drop i = Q at e ⊢
  refine ⟨fun h => ?_, fun h => ?_⟩
  · rw [← e, h]
  · rw [ValueIdx.eq_ix1 Q, ValueIdx.eq_ix1 R]
    exact congrArg ValueIdx.ix1 (Fin.ext (e.trans h))

/-- The search's lanes are the numbers of the reduction's pairs. -/
theorem argIdx_eq (D : FVec Ideal S32760x1024 .f32) (y : S32760x1024.Idx → BitVec 32) (u : S_.Idx → Ideal .f32) (v : S_.Idx → BitVec 32) :
    Cert.ReferenceIdeal.Value.argIdx (F := Ideal) D y u v
      = fun R => (Host.argReduce (reducer_argmin_f32_i32 (F := Ideal)) D y u v reducesTo_S32760x1024_S32760_d1 h_S_ R).2 := rfl

/-- The lane that a row's search ends at is the first smallest. -/
theorem argIdx_read (D : S32760x1024.Idx → EReal) (y : S32760x1024.Idx → BitVec 32) (u : S_.Idx → EReal) (v : S_.Idx → BitVec 32)
    (hy : ∀ i, y i = BitVec.ofNat 32 (i 1).val) (hu : ∀ i, u i = ⊤) (hv : ∀ i, v i = 0#32) (R : S32760.Idx) (l : Fin 1024) :
    Cert.ReferenceIdeal.Value.argIdx (F := Ideal) D y u v R = BitVec.ofNat 32 l.val ↔ First (fun k : Fin 1024 => D (ValueIdx.ix2 (R 0) k)) l := by
  rw [argIdx_eq D y u v]
  obtain ⟨p, hp, h1, h2⟩ := argReduce_lex _ body_lex D y u v reducesTo_S32760x1024_S32760_d1 h_S_ R
  beta_reduce
  rw [hp]
  refine lex_first _ p (h1.imp (fun h => by rw [h, hu, hv]) fun h => ?_) (fun k => ?_) l
  · obtain ⟨i, hi, e⟩ := h
    refine ⟨i 1, ?_⟩
    rw [e, hy]
    refine congrArg (fun z => (D z, BitVec.ofNat 32 (i 1).val)) (funext fun a => Fin.ext ?_)
    match a with
    | ⟨0, _⟩ => exact (drop_iff i R).1 hi
    | ⟨1, _⟩ => rfl
  · have := h2 (ValueIdx.ix2 (R 0) k) ((drop_iff _ R).2 rfl)
    rw [hy] at this
    exact this

end Cert.ReferenceIdeal.Read

end
-- ==== Proof.RefSpecC.lean ====
/-
  Hand-written: what the reference computes is the problem's mathematics.
-/
module

public import proofs.«01_k».proof.Proof.RefSpecB
public import proofs.«01_k».proof.Proof.RefArg

@[expose] public section

set_option maxRecDepth 16384

noncomputable section

namespace Cert.ReferenceIdeal.Read

open Cert.ReferenceIdeal.Value (argVal argIdx)
open Cert.ReferenceIdeal Cert.ReferenceIdeal.Gen Idealize.ShloMosaic Idealize.ShloMosaic.TcCoe
open Cert.Spec

variable (x0 : S4x256x32768.Idx → EReal) (x1 : S128x256x4.Idx → EReal) (x2 : S128.Idx → EReal)
  (x3 : S64x128x4.Idx → EReal) (x4 : S64.Idx → EReal) (x5 : S1024x64.Idx → EReal)

/-- The distances. -/
theorem v66_read (i : S32760x1024.Idx) : val_main_v66 (F := Ideal) x0 x1 x2 x3 x4 x5 i
    = dst (AA x0 x1 x2 x3 x4 x5).cb (lay2 (AA x0 x1 x2 x3 x4 x5) ((i 0).val / 8190) ((i 0).val % 8190)) (i 1) := by
  rw [val_main_v66_apply, val_main_v61_apply, val_main_v59_apply, val_main_v56_apply, val_main_v55_apply, val_main_v60_apply, val_main_v58_apply,
    val_main_v57_apply, val_main_v65_apply]
  unfold dst
  refine congrArg₂ (· - ·) (congrArg₂ (· + ·) ?_ ?_) ?_
  · refine (congrArg (· + _) Ideal.ofBits_zero_f32).trans ((zero_add _).trans (Finset.sum_congr rfl fun d _ => ?_))
    rw [val_main_v54_apply, v53_read x0 x1 x2 x3 x4 x5]
    rfl
  · refine (congrArg (· + _) Ideal.ofBits_zero_f32).trans ((zero_add _).trans (Finset.sum_congr rfl fun d _ => ?_))
    exact congrArg x5 (funext fun a => match a with | ⟨0, _⟩ => rfl | ⟨1, _⟩ => rfl)
  · refine Finset.sum_congr rfl fun d _ => ?_
    rw [val_main_v63_apply, val_main_v62_apply, v53_read x0 x1 x2 x3 x4 x5, val_main_v64_apply, ← mul_assoc]
    refine congrArg₂ (· * ·) (congrArg₂ (· * ·) ofBits_two rfl) ?_
    exact congrArg x5 (funext fun a => match a with | ⟨0, _⟩ => rfl | ⟨1, _⟩ => rfl)

/-- The lane that a row's search ends at is the first nearest. -/
theorem v67_read (R : S32760.Idx) (l : Fin 1024) : val_main_v67 (F := Ideal) x0 x1 x2 x3 x4 x5 R = BitVec.ofNat 32 l.val
    ↔ First (fun k : Fin 1024 => val_main_v66 (F := Ideal) x0 x1 x2 x3 x4 x5 (ValueIdx.ix2 (R 0) k)) l := by
  unfold val_main_v67
  refine argIdx_read _ _ _ _ (fun i => rfl) (fun i => ?_) (fun i => rfl) R l
  show Ideal.ofBits .f32 0x7F800000#32 = ⊤
  simp [Ideal.ofBits, Ideal.ieee]

/-- The one-hot rows. -/
theorem v68_read (i : S32760x1024.Idx) : val_main_v68 (F := Ideal) x0 x1 x2 x3 x4 x5 i
    = sel (dst (AA x0 x1 x2 x3 x4 x5).cb (lay2 (AA x0 x1 x2 x3 x4 x5) ((i 0).val / 8190) ((i 0).val % 8190))) (i 1) := by
  have key := v67_read x0 x1 x2 x3 x4 x5 (ValueIdx.ix1 (i 0)) (i 1)
  have hD : (fun k : Fin 1024 => val_main_v66 (F := Ideal) x0 x1 x2 x3 x4 x5 (ValueIdx.ix2 ((ValueIdx.ix1 (i 0) : S32760.Idx) 0) k))
      = dst (AA x0 x1 x2 x3 x4 x5).cb (lay2 (AA x0 x1 x2 x3 x4 x5) ((i 0).val / 8190) ((i 0).val % 8190)) :=
    funext fun k => v66_read x0 x1 x2 x3 x4 x5 _
  rw [hD] at key
  rw [val_main_v68_apply, val_main_call1_v4_apply, val_main_call1_v2_apply, val_main_call1_v0_apply, val_main_call1_v3_apply, val_main_call1_v1_apply]
  rw [show idx_main_call1_v0 (idx_main_call1_v2 i) = ValueIdx.ix1 (i 0) from funext fun a => match a with | ⟨0, _⟩ => rfl]
  show ((((BitVec.ofBool (decide (val_main_v67 (F := Ideal) x0 x1 x2 x3 x4 x5 (ValueIdx.ix1 (i 0)) = BitVec.ofNat 32 (i 1).val))).toNat : ℝ)) : EReal) = _
  unfold sel
  by_cases h : First (dst (AA x0 x1 x2 x3 x4 x5).cb (lay2 (AA x0 x1 x2 x3 x4 x5) ((i 0).val / 8190) ((i 0).val % 8190))) (i 1)
  · rw [if_pos h, decide_eq_true (key.2 h)]
    simp
  · rw [if_neg h, decide_eq_false fun e => h (key.1 e)]
    simp

/-- The nearest codebook rows. -/
theorem v70_read (i : S4x8190x64.Idx) : val_main_v70 (F := Ideal) x0 x1 x2 x3 x4 x5 i
    = near (AA x0 x1 x2 x3 x4 x5).cb (lay2 (AA x0 x1 x2 x3 x4 x5) (i 0).val (i 1).val) (i 2) := by
  have h0 : (i 0).val < 4 := (i 0).isLt
  have h1 : (i 1).val < 8190 := (i 1).isLt
  have h2 : (i 2).val < 64 := (i 2).isLt
  rw [val_main_v70_apply, val_main_v69_apply]
  unfold near
  refine Finset.sum_congr rfl fun l _ => ?_
  rw [v68_read x0 x1 x2 x3 x4 x5]
  have e0 : (lidx_main_v69 (idx_main_v70 i) l 0).val / 8190 = (i 0).val := by
    show (((i 0).val * 8190 + (i 1).val) * 64 + (i 2).val) / 64 / 8190 = _; omega
  have e1 : (lidx_main_v69 (idx_main_v70 i) l 0).val % 8190 = (i 1).val := by
    show (((i 0).val * 8190 + (i 1).val) * 64 + (i 2).val) / 64 % 8190 = _; omega
  rw [e0, e1]
  refine congrArg₂ (· * ·) rfl (congrArg x5 (funext fun a => Fin.ext ?_))
  match a with
  | ⟨0, _⟩ => rfl
  | ⟨1, _⟩ => show (((i 0).val * 8190 + (i 1).val) * 64 + (i 2).val) % 64 = (i 2).val; omega

/-- The second result. -/
theorem v93_read (i : S4x64x8190.Idx) : val_main_v93 (F := Ideal) x0 x1 x2 x3 x4 x5 i = quant (AA x0 x1 x2 x3 x4 x5) (i 0).val (i 2).val (i 1) := by
  rw [val_main_v93_apply, val_main_v82_apply, val_main_v81_apply, v70_read x0 x1 x2 x3 x4 x5, v52_read x0 x1 x2 x3 x4 x5]
  rfl

/-- A sum over a rank-three index set by its coordinates. -/
theorem sum_idx3 {n0 n1 n2 : ℕ} (f : (⟨3, ![n0, n1, n2]⟩ : Shape).Idx → EReal) :
    ∑ i, f i = ∑ a : Fin n0, ∑ b : Fin n1, ∑ c : Fin n2, f (ValueIdx.ix3 a b c) := by
  simp only [← Finset.sum_product', Finset.univ_product_univ]
  refine (Finset.sum_nbij' (fun p : Fin n0 × Fin n1 × Fin n2 => ValueIdx.ix3 p.1 p.2.1 p.2.2)
    (fun i => (i 0, i 1, i 2)) (fun _ _ => Finset.mem_univ _) (fun _ _ => Finset.mem_univ _) (fun _ _ => rfl)
    (fun i _ => (ValueIdx.eq_ix3 i).symm) (fun _ _ => rfl)).symm

/-- The two sums of squared errors. -/
theorem err_read (y : S4x8190x64.Idx → EReal) (hy : ∀ i, y i = (val_main_v52 (F := Ideal) x0 x1 x2 x3 x4 i - val_main_v70 (F := Ideal) x0 x1 x2 x3 x4 x5 i)
      * (val_main_v52 (F := Ideal) x0 x1 x2 x3 x4 i - val_main_v70 (F := Ideal) x0 x1 x2 x3 x4 x5 i)) : ∑ i, y i = err (AA x0 x1 x2 x3 x4 x5) := by
  rw [sum_idx3]
  unfold err rowErr
  refine Finset.sum_congr rfl fun b _ => Finset.sum_congr rfl fun n _ => Finset.sum_congr rfl fun d _ => ?_
  rw [hy, v52_read x0 x1 x2 x3 x4 x5, v70_read x0 x1 x2 x3 x4 x5]

/-- The first result. -/
theorem v80_read (i : S_.Idx) : val_main_v80 (F := Ideal) x0 x1 x2 x3 x4 x5 i = loss (AA x0 x1 x2 x3 x4 x5) := by
  rw [val_main_v80_apply, val_main_v74_apply, val_main_v79_apply, val_main_v78_apply, val_main_v73_apply, val_main_v77_apply,
    err_read x0 x1 x2 x3 x4 x5 (val_main_v72 (F := Ideal) x0 x1 x2 x3 x4 x5) (fun i => by rw [val_main_v72_apply, val_main_v71_apply]; rfl),
    err_read x0 x1 x2 x3 x4 x5 (val_main_v76 (F := Ideal) x0 x1 x2 x3 x4 x5) (fun i => by rw [val_main_v76_apply, val_main_v75_apply]; rfl)]
  show Ideal.div (Ideal.ofBits .f32 0x00000000#32 + _) _ + _ * Ideal.div (Ideal.ofBits .f32 0x00000000#32 + _) _ = _
  rw [Ideal.ofBits_zero_f32, zero_add]
  rfl

/-- The shares. -/
theorem v85_read (i : S1024.Idx) : val_main_v85 (F := Ideal) x0 x1 x2 x3 x4 x5 i = share (AA x0 x1 x2 x3 x4 x5) (i 0) := by
  rw [val_main_v85_apply, val_main_v83_apply, val_main_v84_apply]
  have e : ∑ k : Fin 32760, val_main_v68 (F := Ideal) x0 x1 x2 x3 x4 x5 (idx_main_v83 i k) = cnt (AA x0 x1 x2 x3 x4 x5) (i 0) := by
    unfold cnt
    rw [← sum_rows fun b n => sel (dst (AA x0 x1 x2 x3 x4 x5).cb (lay2 (AA x0 x1 x2 x3 x4 x5) b n)) (i 0)]
    exact Finset.sum_congr rfl fun R _ => v68_read x0 x1 x2 x3 x4 x5 _
  rw [e]
  show Ideal.div (Ideal.ofBits .f32 0x00000000#32 + _) _ = _
  rw [Ideal.ofBits_zero_f32, zero_add]
  rfl

/-- The third result. -/
theorem v92_read (i : S_.Idx) : val_main_v92 (F := Ideal) x0 x1 x2 x3 x4 x5 i = perp (AA x0 x1 x2 x3 x4 x5) := by
  rw [val_main_v92_apply, val_main_v91_apply, val_main_v90_apply]
  have e : ∑ j : S1024.Idx, val_main_v89 (F := Ideal) x0 x1 x2 x3 x4 x5 j
      = ∑ l, share (AA x0 x1 x2 x3 x4 x5) l * Ideal.log (share (AA x0 x1 x2 x3 x4 x5) l + Ideal.ofBits .f32 0x2EDBE6FF#32) := by
    refine (Finset.sum_nbij' (fun l : Fin 1024 => (ValueIdx.ix1 l : S1024.Idx)) (fun j => j 0) (fun _ _ => Finset.mem_univ _) (fun _ _ => Finset.mem_univ _)
      (fun _ _ => rfl) (fun j _ => (ValueIdx.eq_ix1 j).symm) (fun l _ => ?_)).symm
    rw [val_main_v89_apply, val_main_v88_apply, val_main_v87_apply, v85_read x0 x1 x2 x3 x4 x5, val_main_v86_apply]
    rfl
  rw [e]
  show Ideal.exp (-(Ideal.ofBits .f32 0x00000000#32 + _)) = _
  rw [Ideal.ofBits_zero_f32, zero_add]
  rfl

end Cert.ReferenceIdeal.Read

end
-- ==== Proof.Algebraic.lean ====
/-
  Hand-written: the idealized kernel and the idealized reference end with the same three results.
-/
module

public import proofs.«01_k».proof.Defs
public import proofs.«01_k».proof.Proof.Prep
public import proofs.«01_k».proof.Proof.Results
public import proofs.«01_k».proof.Proof.RefSpecC

@[expose] public section

set_option maxRecDepth 16384

noncomputable section

namespace Cert.KernelIdeal.Hand

open Cert.KernelIdeal Cert.KernelIdeal.Gen
open Idealize.ShloMosaic Idealize.ShloMosaic.TcCoe Idealize.SL.Sem
open Cert.Spec

variable (m : (ℓ : Loc nD τ sig) → Buf (Elt Ideal) ℓ)

/-- The kernel's loss. -/
theorem end_loss (c : Dev nD) : endAt m c main_v0_0 = (fun _ => loss (AK m c) : S_.Idx → EReal) :=
  (end_0 m c).trans (funext fun _ => loss_read (wts_reads m c) (xin_reads m c))
/-- The kernel's perplexity. -/
theorem end_perp (c : Dev nD) : endAt m c main_v0_2 = (fun _ => perp (AK m c) : S_.Idx → EReal) :=
  (end_2 m c).trans (funext fun _ => perp_read (wts_reads m c) (xin_reads m c))
/-- The kernel's quantized output. -/
theorem end_quant (c : Dev nD) : endAt m c main_v0_1 = (fun i => quant (AK m c) (i 0).val (i 2).val (i 1) : S4x64x8190.Idx → EReal) := by
  rw [end_1 m c]
  funext i
  have h0 : (i 0).val < 4 := (i 0).isLt
  have h1 : (i 1).val < 64 := (i 1).isLt
  have h2 : (i 2).val < 8190 := (i 2).isLt
  have e : (extractStridedSlice S4x64x8190 ![0, 0, 0] (GOUT (wts m c) (xin m c) : Vec Ideal S4x64x8192 .f32) slices_S4x64x8192_S4x64x8190_0_0_0 : Vec Ideal S4x64x8190 .f32) i
      = GOUT (wts m c) (xin m c) (ValueIdx.ix3 ⟨(i 0).val, h0⟩ ⟨(i 1).val, h1⟩ ⟨(i 2).val, by omega⟩ : S4x64x8192.Idx) := by
    unfold extractStridedSlice
    refine congrArg (GOUT (wts m c) (xin m c)) (funext fun a => Fin.ext ?_)
    match a with
    | ⟨0, _⟩ => exact Nat.zero_add _
    | ⟨1, _⟩ => exact Nat.zero_add _
    | ⟨2, _⟩ => exact Nat.zero_add _
  rw [e]
  exact GOUT_read (wts_reads m c) (xin_reads m c) _ h2

/-- The two programs, run on the same arguments, end with the same three results. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => endAt m c main_v0_0, fun c => endAt m c main_v0_1, fun c => endAt m c main_v0_2, ?_, ?_⟩
  · exact (θ_run defs _ _).mono (fun _ h c => ⟨
      (h.1 c).2 main_v0_0 (Pipeline.mem_restRefs_of main_v0_0 (by decide) (by decide)),
      (h.1 c).2 main_v0_1 (Pipeline.mem_restRefs_of main_v0_1 (by decide) (by decide)),
      (h.1 c).2 main_v0_2 (Pipeline.mem_restRefs_of main_v0_2 (by decide) (by decide)),
      ((h.1 c).2 main_arg0 (Pipeline.mem_restRefs_of main_arg0 (by decide) (by decide))).trans ((endAt_of m c main_arg0 (by decide) (by decide) (by decide)).trans (V_main_arg0 m c)),
      ((h.1 c).2 main_arg1 (Pipeline.mem_restRefs_of main_arg1 (by decide) (by decide))).trans ((endAt_of m c main_arg1 (by decide) (by decide) (by decide)).trans (V_main_arg1 m c)),
      ((h.1 c).2 main_arg2 (Pipeline.mem_restRefs_of main_arg2 (by decide) (by decide))).trans ((endAt_of m c main_arg2 (by decide) (by decide) (by decide)).trans (V_main_arg2 m c)),
      ((h.1 c).2 main_arg3 (Pipeline.mem_restRefs_of main_arg3 (by decide) (by decide))).trans ((endAt_of m c main_arg3 (by decide) (by decide) (by decide)).trans (V_main_arg3 m c)),
      ((h.1 c).2 main_arg4 (Pipeline.mem_restRefs_of main_arg4 (by decide) (by decide))).trans ((endAt_of m c main_arg4 (by decide) (by decide) (by decide)).trans (V_main_arg4 m c)),
      ((h.1 c).1 4).trans (((dats m 0 c).arrAt_in 4 rfl _).trans ((A_eq m c 4).trans (V_main_arg5 m c)))⟩) (run_main m g)
  · refine (θ_run Cert.ReferenceIdeal.defs _ _).mono (fun _ h c => ⟨(h c).1.trans ?_, (h c).2.1.trans ?_, (h c).2.2.1.trans ?_, (h c).2.2.2⟩)
      (Cert.ReferenceIdeal.Value.run (F := Ideal) m' g')
    all_goals
      obtain ⟨e0, e1, e2, e3, e4, e5⟩ := hargs c
      have eA : argsOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) = AK m c := by
        rw [e0, e1, e2, e3, e4, e5]; rfl
    · refine (Cert.ReferenceIdeal.Read.val_main_v80_eq _).trans (Eq.trans (funext fun i => ?_) (end_loss m c).symm)
      exact (Cert.ReferenceIdeal.Read.v80_read _ _ _ _ _ _ i).trans (congrArg loss eA)
    · refine (Cert.ReferenceIdeal.Read.val_main_v93_eq _).trans (Eq.trans (funext fun i => ?_) (end_quant m c).symm)
      exact (Cert.ReferenceIdeal.Read.v93_read _ _ _ _ _ _ i).trans (congrArg (quant · (i 0).val (i 2).val (i 1)) eA)
    · refine (Cert.ReferenceIdeal.Read.val_main_v92_eq _).trans (Eq.trans (funext fun i => ?_) (end_perp m c).symm)
      exact (Cert.ReferenceIdeal.Read.v92_read _ _ _ _ _ _ i).trans (congrArg perp eA)

end Cert.KernelIdeal.Hand

end
-- ==== Proof.lean ====
/- Assembles the claim from the modules under `proof/Proof/`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.IRun
public import proofs.«01_k».proof.Proof.RefRun
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed: the kernel, its idealization and the reference terminate without fault, leave their arguments
as they were and every semaphore counter at zero, the idealization is the kernel's own text, and the idealization and
the reference end with the same three results. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => (θ_run Cert.ReferenceIdeal.defs _ _).mono (fun r h => ⟨fun c => (h c).2.2.2, sem_eq_zero_of_no_sems (by decide) r.2⟩)
    (Cert.ReferenceIdeal.Value.run (F := Ideal) m g),
  trivial,
  Cert.KernelIdeal.Hand.algebraic⟩

end Cert.Proof

end
